-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x256 : Shape := ⟨2, ![4096, 256]⟩
abbrev S32 : Shape := ⟨1, ![32]⟩
abbrev S_ : Shape := ⟨0, ![]⟩
abbrev S1 : Shape := ⟨1, ![1]⟩
abbrev S2 : Shape := ⟨1, ![2]⟩
abbrev S17 : Shape := ⟨1, ![17]⟩
abbrev S17x1 : Shape := ⟨2, ![17, 1]⟩
abbrev S16 : Shape := ⟨1, ![16]⟩
abbrev S16x1 : Shape := ⟨2, ![16, 1]⟩
abbrev S2x128x4096 : Shape := ⟨3, ![2, 128, 4096]⟩
abbrev S2x4 : Shape := ⟨2, ![2, 4]⟩
abbrev S1x1 : Shape := ⟨2, ![1, 1]⟩
abbrev S1x32x4096 : Shape := ⟨3, ![1, 32, 4096]⟩
abbrev S32x4096 : Shape := ⟨2, ![32, 4096]⟩
abbrev S64x4096 : Shape := ⟨2, ![64, 4096]⟩
abbrev S64x256 : Shape := ⟨2, ![64, 256]⟩
abbrev S1x64x4096 : Shape := ⟨3, ![1, 64, 4096]⟩

abbrev nBuf : Space → Nat
  | .hbm => 141
  | .vmem => 5
  | .smem => 3
  | _ => 0

abbrev hbmTy0_0 (i : Nat) : BufTy := match i % 128 with
  | 0 => ⟨S128x4096, .f32⟩
  | 1 => ⟨S4096x256, .f32⟩
  | 2 => ⟨S32, .i32⟩
  | 3 => ⟨S32, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i1⟩
  | 30 => ⟨S_, .i32⟩
  | 31 => ⟨S_, .i1⟩
  | 32 => ⟨S_, .i1⟩
  | 33 => ⟨S_, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S1, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i1⟩
  | 56 => ⟨S_, .i32⟩
  | 57 => ⟨S_, .i1⟩
  | 58 => ⟨S_, .i1⟩
  | 59 => ⟨S_, .i1⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S1, .i32⟩
  | 68 => ⟨S_, .i32⟩
  | 69 => ⟨S1, .i32⟩
  | 70 => ⟨S1, .i32⟩
  | 71 => ⟨S2, .i32⟩
  | 72 => ⟨S17, .i32⟩
  | 73 => ⟨S17, .i32⟩
  | 74 => ⟨S17, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S17, .i32⟩
  | 82 => ⟨S17, .i32⟩
  | 83 => ⟨S_, .i32⟩
  | 84 => ⟨S17, .i32⟩
  | 85 => ⟨S17, .i1⟩
  | 86 => ⟨S_, .i32⟩
  | 87 => ⟨S17, .i32⟩
  | 88 => ⟨S17, .i1⟩
  | 89 => ⟨S_, .i32⟩
  | 90 => ⟨S_, .i1⟩
  | 91 => ⟨S17, .i1⟩
  | 92 => ⟨S17, .i1⟩
  | 93 => ⟨S17, .i1⟩
  | 94 => ⟨S17, .i32⟩
  | 95 => ⟨S17, .i32⟩
  | 96 => ⟨S17, .i32⟩
  | 97 => ⟨S_, .i32⟩
  | 98 => ⟨S17, .i32⟩
  | 99 => ⟨S17, .i1⟩
  | 100 => ⟨S_, .i32⟩
  | 101 => ⟨S17, .i32⟩
  | 102 => ⟨S17, .i32⟩
  | 103 => ⟨S17, .i32⟩
  | 104 => ⟨S17x1, .i32⟩
  | 105 => ⟨S17, .i32⟩
  | 106 => ⟨S16, .i32⟩
  | 107 => ⟨S16, .i32⟩
  | 108 => ⟨S16, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S16, .i32⟩
  | 116 => ⟨S16, .i32⟩
  | 117 => ⟨S_, .i32⟩
  | 118 => ⟨S16, .i32⟩
  | 119 => ⟨S16, .i1⟩
  | 120 => ⟨S_, .i32⟩
  | 121 => ⟨S16, .i32⟩
  | 122 => ⟨S16, .i1⟩
  | 123 => ⟨S_, .i32⟩
  | 124 => ⟨S_, .i1⟩
  | 125 => ⟨S16, .i1⟩
  | 126 => ⟨S16, .i1⟩
  | 127 => ⟨S16, .i1⟩
  | _ => ⟨S128x4096, .f32⟩

abbrev hbmTy0_1 (i : Nat) : BufTy := match i % 128 with
  | 0 => ⟨S16, .i32⟩
  | 1 => ⟨S16, .i32⟩
  | 2 => ⟨S16, .i32⟩
  | 3 => ⟨S_, .i32⟩
  | 4 => ⟨S16, .i32⟩
  | 5 => ⟨S16, .i1⟩
  | 6 => ⟨S_, .i32⟩
  | 7 => ⟨S16, .i32⟩
  | 8 => ⟨S16, .i32⟩
  | 9 => ⟨S16, .i32⟩
  | 10 => ⟨S16x1, .i32⟩
  | 11 => ⟨S16, .i32⟩
  | 12 => ⟨S4096x256, .f32⟩
  | _ => ⟨S128x4096, .f32⟩

abbrev hbmTy (i : Nat) : BufTy := match i / 128 with
  | 0 => hbmTy0_0 i
  | 1 => hbmTy0_1 i
  | _ => ⟨S128x4096, .f32⟩

abbrev bufTy : (tb : Table) → Fin (tcTables nBuf tb) → BufTy
  | .hbm, ⟨i, _⟩ => hbmTy i
  | .local _ .vmem, ⟨0, _⟩ => ⟨S128x4096, .f32⟩
  | .local _ .vmem, ⟨1, _⟩ => ⟨S4096x256, .f32⟩
  | .local _ .vmem, ⟨2, _⟩ => ⟨S4096x256, .f32⟩
  | .local _ .vmem, ⟨3, _⟩ => ⟨S2x128x4096, .f32⟩
  | .local _ .vmem, ⟨4, _⟩ => ⟨S2x128x4096, .f32⟩
  | .local _ .smem, ⟨0, _⟩ => ⟨S2, .i32⟩
  | .local _ .smem, ⟨1, _⟩ => ⟨S17, .i32⟩
  | .local _ .smem, ⟨2, _⟩ => ⟨S16, .i32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 3 → Bool
  | ⟨0, _⟩ => true
  | ⟨1, _⟩ => true
  | ⟨2, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 3 38 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_c_1 : Ref sig .tc := ⟨.hbm, 26, rfl⟩
abbrev main_call0_v4 : Ref sig .tc := ⟨.hbm, 27, rfl⟩
abbrev main_call0_c_2 : Ref sig .tc := ⟨.hbm, 28, rfl⟩
abbrev main_call0_v5 : Ref sig .tc := ⟨.hbm, 29, rfl⟩
abbrev main_call0_c_3 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_v11 : Ref sig .tc := ⟨.hbm, 35, rfl⟩
abbrev main_c_7 : Ref sig .tc := ⟨.hbm, 36, rfl⟩
abbrev main_v12 : Ref sig .tc := ⟨.hbm, 37, rfl⟩
abbrev main_c_8 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_9 : Ref sig .tc := ⟨.hbm, 43, rfl⟩
abbrev main_v17 : Ref sig .tc := ⟨.hbm, 44, rfl⟩
abbrev main_c_10 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_c_1 : Ref sig .tc := ⟨.hbm, 52, rfl⟩
abbrev main_call1_v4 : Ref sig .tc := ⟨.hbm, 53, rfl⟩
abbrev main_call1_c_2 : Ref sig .tc := ⟨.hbm, 54, rfl⟩
abbrev main_call1_v5 : Ref sig .tc := ⟨.hbm, 55, rfl⟩
abbrev main_call1_c_3 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_v18 : Ref sig .tc := ⟨.hbm, 61, rfl⟩
abbrev main_c_11 : Ref sig .tc := ⟨.hbm, 62, rfl⟩
abbrev main_v19 : Ref sig .tc := ⟨.hbm, 63, rfl⟩
abbrev main_c_12 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_c_13 : Ref sig .tc := ⟨.hbm, 75, rfl⟩
abbrev main_call2_v0 : Ref sig .tc := ⟨.hbm, 76, rfl⟩
abbrev main_call2_c : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_1 : Ref sig .tc := ⟨.hbm, 83, rfl⟩
abbrev main_call2_v5 : Ref sig .tc := ⟨.hbm, 84, rfl⟩
abbrev main_call2_v6 : Ref sig .tc := ⟨.hbm, 85, rfl⟩
abbrev main_call2_c_2 : Ref sig .tc := ⟨.hbm, 86, rfl⟩
abbrev main_call2_v7 : Ref sig .tc := ⟨.hbm, 87, rfl⟩
abbrev main_call2_v8 : Ref sig .tc := ⟨.hbm, 88, rfl⟩
abbrev main_call2_c_3 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_v30 : Ref sig .tc := ⟨.hbm, 96, rfl⟩
abbrev main_c_14 : Ref sig .tc := ⟨.hbm, 97, rfl⟩
abbrev main_v31 : Ref sig .tc := ⟨.hbm, 98, rfl⟩
abbrev main_v32 : Ref sig .tc := ⟨.hbm, 99, rfl⟩
abbrev main_c_15 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_c_16 : Ref sig .tc := ⟨.hbm, 109, rfl⟩
abbrev main_call3_v0 : Ref sig .tc := ⟨.hbm, 110, rfl⟩
abbrev main_call3_c : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_c_1 : Ref sig .tc := ⟨.hbm, 117, rfl⟩
abbrev main_call3_v5 : Ref sig .tc := ⟨.hbm, 118, rfl⟩
abbrev main_call3_v6 : Ref sig .tc := ⟨.hbm, 119, rfl⟩
abbrev main_call3_c_2 : Ref sig .tc := ⟨.hbm, 120, rfl⟩
abbrev main_call3_v7 : Ref sig .tc := ⟨.hbm, 121, rfl⟩
abbrev main_call3_v8 : Ref sig .tc := ⟨.hbm, 122, rfl⟩
abbrev main_call3_c_3 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_v41 : Ref sig .tc := ⟨.hbm, 130, rfl⟩
abbrev main_c_17 : Ref sig .tc := ⟨.hbm, 131, rfl⟩
abbrev main_v42 : Ref sig .tc := ⟨.hbm, 132, rfl⟩
abbrev main_v43 : Ref sig .tc := ⟨.hbm, 133, rfl⟩
abbrev main_c_18 : Ref sig .tc := ⟨.hbm, 134, rfl⟩
abbrev main_v44 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 32
abbrev τ : Topo := Topo.v7x

variable {F : FTy → Type} [FloatOps F]

abbrev grid0 : Pipeline.Grid := .none

def k0_dev1 (v0 : BitVec 32) : Nat :=
  let c0_i32 : BitVec 32 := 0#32
  let c1_i32_0 : BitVec 32 := 1#32
  let v3 : BitVec 32 := Scalar.muli v0 c1_i32_0
  let v4 : BitVec 32 := Scalar.addi c0_i32 v3
  v4.toNat

def k0_dev2 (v1 : BitVec 32) : Nat :=
  let c0_i32_3 : BitVec 32 := 0#32
  let c1_i32_2 : BitVec 32 := 1#32
  let v5 : BitVec 32 := Scalar.muli v1 c1_i32_2
  let v6 : BitVec 32 := Scalar.addi c0_i32_3 v5
  v6.toNat

def k0_dev3 (v0 : BitVec 32) : Nat :=
  let c0_i32_10 : BitVec 32 := 0#32
  let c1_i32_9 : BitVec 32 := 1#32
  let v7 : BitVec 32 := Scalar.muli v0 c1_i32_9
  let v8 : BitVec 32 := Scalar.addi c0_i32_10 v7
  v8.toNat
def k0_dev4 (v1 : BitVec 32) : Nat :=
  let c0_i32_21 : BitVec 32 := 0#32
  let c1_i32_20 : BitVec 32 := 1#32
  let v16 : BitVec 32 := Scalar.muli v1 c1_i32_20
  let v17 : BitVec 32 := Scalar.addi c0_i32_21 v16
  v17.toNat
def k0_dev5 (v0 : BitVec 32) : Nat :=
  let c0_i32_32 : BitVec 32 := 0#32
  let c1_i32_31 : BitVec 32 := 1#32
  let v25 : BitVec 32 := Scalar.muli v0 c1_i32_31
  let v26 : BitVec 32 := Scalar.addi c0_i32_32 v25
  v26.toNat
def k0_dev6 (v1 : BitVec 32) : Nat :=
  let c0_i32_42 : BitVec 32 := 0#32
  let c1_i32_41 : BitVec 32 := 1#32
  let v34 : BitVec 32 := Scalar.muli v1 c1_i32_41
  let v35 : BitVec 32 := Scalar.addi c0_i32_42 v34
  v35.toNat
def k0_off1 (v45 : BitVec 32) : Fin 2 → Nat :=
  let c128_i32 : BitVec 32 := 128#32
  let v51 : BitVec 32 := Scalar.muli v45 c128_i32
  let c0_i32_52 : BitVec 32 := 0#32
  let v52 : BitVec 32 := Scalar.addi v51 c0_i32_52
  let v53 : Index := Scalar.indexCast v52
  let c0_53 : Index := 0#32
  ![v53.toNat, 0]

def k0_chk3 (v45 : BitVec 32) : Prop :=
  (∀ a, (k0_off1 v45) a + S64x256.size a ≤ S4096x256.size a)
theorem k0_off1_inb : ∀ (v45 : BitVec 32) (k0_hw3 : k0_chk3 v45), ∀ a, (k0_off1 v45) a + S64x256.size a ≤ S4096x256.size a := fun v45 k0_hw3 => k0_hw3

def k0_dev7 (v0 : BitVec 32) : Nat :=
  let c0_i32_60 : BitVec 32 := 0#32
  let c1_i32_59 : BitVec 32 := 1#32
  let v55 : BitVec 32 := Scalar.muli v0 c1_i32_59
  let v56 : BitVec 32 := Scalar.addi c0_i32_60 v55
  v56.toNat
def k0_dev8 (v1 : BitVec 32) : Nat :=
  let c0_i32_70 : BitVec 32 := 0#32
  let c1_i32_69 : BitVec 32 := 1#32
  let v64 : BitVec 32 := Scalar.muli v1 c1_i32_69
  let v65 : BitVec 32 := Scalar.addi c0_i32_70 v64
  v65.toNat
def k0_dev9 (v0 : BitVec 32) : Nat :=
  let c0_i32_80 : BitVec 32 := 0#32
  let c1_i32_79 : BitVec 32 := 1#32
  let v73 : BitVec 32 := Scalar.muli v0 c1_i32_79
  let v74 : BitVec 32 := Scalar.addi c0_i32_80 v73
  v74.toNat
def k0_dev10 (v1 : BitVec 32) : Nat :=
  let c0_i32_90 : BitVec 32 := 0#32
  let c1_i32_89 : BitVec 32 := 1#32
  let v82 : BitVec 32 := Scalar.muli v1 c1_i32_89
  let v83 : BitVec 32 := Scalar.addi c0_i32_90 v82
  v83.toNat
def k0_off2 (v93 : BitVec 32) : Fin 2 → Nat :=
  let c128_i32_100 : BitVec 32 := 128#32
  let v99 : BitVec 32 := Scalar.muli v93 c128_i32_100
  let c64_i32_101 : BitVec 32 := 64#32
  let v100 : BitVec 32 := Scalar.addi v99 c64_i32_101
  let v101 : Index := Scalar.indexCast v100
  let c0_102 : Index := 0#32
  ![v101.toNat, 0]

def k0_chk4 (v93 : BitVec 32) : Prop :=
  (∀ a, (k0_off2 v93) a + S64x256.size a ≤ S4096x256.size a)
theorem k0_off2_inb : ∀ (v93 : BitVec 32) (k0_hw4 : k0_chk4 v93), ∀ a, (k0_off2 v93) a + S64x256.size a ≤ S4096x256.size a := fun v93 k0_hw4 => k0_hw4

def k0_dev11 (v0 : BitVec 32) : Nat :=
  let c0_i32_202 : BitVec 32 := 0#32
  let c1_i32_201 : BitVec 32 := 1#32
  let v151 : BitVec 32 := Scalar.muli v0 c1_i32_201
  let v152 : BitVec 32 := Scalar.addi c0_i32_202 v151
  v152.toNat
def k0_dev12 (v1 : BitVec 32) : Nat :=
  let c0_i32_226 : BitVec 32 := 0#32
  let c1_i32_225 : BitVec 32 := 1#32
  let v169 : BitVec 32 := Scalar.muli v1 c1_i32_225
  let v170 : BitVec 32 := Scalar.addi c0_i32_226 v169
  v170.toNat
def k0_dev13 (v0 : BitVec 32) : Nat :=
  let c0_i32_250 : BitVec 32 := 0#32
  let c1_i32_249 : BitVec 32 := 1#32
  let v187 : BitVec 32 := Scalar.muli v0 c1_i32_249
  let v188 : BitVec 32 := Scalar.addi c0_i32_250 v187
  v188.toNat
def k0_dev14 (v1 : BitVec 32) : Nat :=
  let c0_i32_274 : BitVec 32 := 0#32
  let c1_i32_273 : BitVec 32 := 1#32
  let v205 : BitVec 32 := Scalar.muli v1 c1_i32_273
  let v206 : BitVec 32 := Scalar.addi c0_i32_274 v205
  v206.toNat
def k0_off3 (v217 : BitVec 32) : Fin 2 → Nat :=
  let c128_i32_286 : BitVec 32 := 128#32
  let v223 : BitVec 32 := Scalar.muli v217 c128_i32_286
  let c0_i32_287 : BitVec 32 := 0#32
  let v224 : BitVec 32 := Scalar.addi v223 c0_i32_287
  let v225 : Index := Scalar.indexCast v224
  let c0_288 : Index := 0#32
  ![v225.toNat, 0]

def k0_chk5 (v217 : BitVec 32) : Prop :=
  (∀ a, (k0_off3 v217) a + S64x256.size a ≤ S4096x256.size a)
theorem k0_off3_inb : ∀ (v217 : BitVec 32) (k0_hw5 : k0_chk5 v217), ∀ a, (k0_off3 v217) a + S64x256.size a ≤ S4096x256.size a := fun v217 k0_hw5 => k0_hw5

def k0_off4 (v229 : BitVec 32) : Fin 2 → Nat :=
  let c128_i32_296 : BitVec 32 := 128#32
  let v235 : BitVec 32 := Scalar.muli v229 c128_i32_296
  let c0_i32_297 : BitVec 32 := 0#32
  let v236 : BitVec 32 := Scalar.addi v235 c0_i32_297
  let v237 : Index := Scalar.indexCast v236
  let c0_298 : Index := 0#32
  ![v237.toNat, 0]

def k0_chk6 (v229 : BitVec 32) : Prop :=
  (∀ a, (k0_off4 v229) a + S64x256.size a ≤ S4096x256.size a)
theorem k0_off4_inb : ∀ (v229 : BitVec 32) (k0_hw6 : k0_chk6 v229), ∀ a, (k0_off4 v229) a + S64x256.size a ≤ S4096x256.size a := fun v229 k0_hw6 => k0_hw6

def k0_dev15 (v0 : BitVec 32) : Nat :=
  let c0_i32_318 : BitVec 32 := 0#32
  let c1_i32_317 : BitVec 32 := 1#32
  let v247 : BitVec 32 := Scalar.muli v0 c1_i32_317
  let v248 : BitVec 32 := Scalar.addi c0_i32_318 v247
  v248.toNat
def k0_dev16 (v1 : BitVec 32) : Nat :=
  let c0_i32_342 : BitVec 32 := 0#32
  let c1_i32_341 : BitVec 32 := 1#32
  let v265 : BitVec 32 := Scalar.muli v1 c1_i32_341
  let v266 : BitVec 32 := Scalar.addi c0_i32_342 v265
  v266.toNat
def k0_dev17 (v0 : BitVec 32) : Nat :=
  let c0_i32_366 : BitVec 32 := 0#32
  let c1_i32_365 : BitVec 32 := 1#32
  let v283 : BitVec 32 := Scalar.muli v0 c1_i32_365
  let v284 : BitVec 32 := Scalar.addi c0_i32_366 v283
  v284.toNat
def k0_dev18 (v1 : BitVec 32) : Nat :=
  let c0_i32_390 : BitVec 32 := 0#32
  let c1_i32_389 : BitVec 32 := 1#32
  let v301 : BitVec 32 := Scalar.muli v1 c1_i32_389
  let v302 : BitVec 32 := Scalar.addi c0_i32_390 v301
  v302.toNat
def k0_off5 (v313 : BitVec 32) : Fin 2 → Nat :=
  let c128_i32_402 : BitVec 32 := 128#32
  let v319 : BitVec 32 := Scalar.muli v313 c128_i32_402
  let c64_i32_403 : BitVec 32 := 64#32
  let v320 : BitVec 32 := Scalar.addi v319 c64_i32_403
  let v321 : Index := Scalar.indexCast v320
  let c0_404 : Index := 0#32
  ![v321.toNat, 0]

def k0_chk7 (v313 : BitVec 32) : Prop :=
  (∀ a, (k0_off5 v313) a + S64x256.size a ≤ S4096x256.size a)
theorem k0_off5_inb : ∀ (v313 : BitVec 32) (k0_hw7 : k0_chk7 v313), ∀ a, (k0_off5 v313) a + S64x256.size a ≤ S4096x256.size a := fun v313 k0_hw7 => k0_hw7

def k0_off6 (v325 : BitVec 32) : Fin 2 → Nat :=
  let c128_i32_412 : BitVec 32 := 128#32
  let v331 : BitVec 32 := Scalar.muli v325 c128_i32_412
  let c64_i32_413 : BitVec 32 := 64#32
  let v332 : BitVec 32 := Scalar.addi v331 c64_i32_413
  let v333 : Index := Scalar.indexCast v332
  let c0_414 : Index := 0#32
  ![v333.toNat, 0]

def k0_chk8 (v325 : BitVec 32) : Prop :=
  (∀ a, (k0_off6 v325) a + S64x256.size a ≤ S4096x256.size a)
theorem k0_off6_inb : ∀ (v325 : BitVec 32) (k0_hw8 : k0_chk8 v325), ∀ a, (k0_off6 v325) a + S64x256.size a ≤ S4096x256.size a := fun v325 k0_hw8 => k0_hw8

def k0_dev19 (v1 : BitVec 32) : Nat :=
  let c0_i32_461 : BitVec 32 := 0#32
  let c1_i32_460 : BitVec 32 := 1#32
  let v359 : BitVec 32 := Scalar.muli v1 c1_i32_460
  let v360 : BitVec 32 := Scalar.addi c0_i32_461 v359
  v360.toNat
def k0_dev20 (v0 : BitVec 32) : Nat :=
  let c0_i32_508 : BitVec 32 := 0#32
  let c1_i32_507 : BitVec 32 := 1#32
  let v385 : BitVec 32 := Scalar.muli v0 c1_i32_507
  let v386 : BitVec 32 := Scalar.addi c0_i32_508 v385
  v386.toNat
def k0_dev21 (v0 : BitVec 32) : Nat :=
  let c0_i32_532 : BitVec 32 := 0#32
  let c1_i32_531 : BitVec 32 := 1#32
  let v395 : BitVec 32 := Scalar.muli v0 c1_i32_531
  let v396 : BitVec 32 := Scalar.addi c0_i32_532 v395
  v396.toNat
def k0_dev22 (v1 : BitVec 32) : Nat :=
  let c0_i32_556 : BitVec 32 := 0#32
  let c1_i32_555 : BitVec 32 := 1#32
  let v413 : BitVec 32 := Scalar.muli v1 c1_i32_555
  let v414 : BitVec 32 := Scalar.addi c0_i32_556 v413
  v414.toNat
def k0_dev23 (v0 : BitVec 32) : Nat :=
  let c0_i32_580 : BitVec 32 := 0#32
  let c1_i32_579 : BitVec 32 := 1#32
  let v431 : BitVec 32 := Scalar.muli v0 c1_i32_579
  let v432 : BitVec 32 := Scalar.addi c0_i32_580 v431
  v432.toNat
def k0_dev24 (v1 : BitVec 32) : Nat :=
  let c0_i32_604 : BitVec 32 := 0#32
  let c1_i32_603 : BitVec 32 := 1#32
  let v449 : BitVec 32 := Scalar.muli v1 c1_i32_603
  let v450 : BitVec 32 := Scalar.addi c0_i32_604 v449
  v450.toNat
def k0_off7 (v461 : BitVec 32) : Fin 2 → Nat :=
  let c128_i32_615 : BitVec 32 := 128#32
  let v467 : BitVec 32 := Scalar.muli v461 c128_i32_615
  let c0_i32_616 : BitVec 32 := 0#32
  let v468 : BitVec 32 := Scalar.addi v467 c0_i32_616
  let v469 : Index := Scalar.indexCast v468
  let c0_617 : Index := 0#32
  ![v469.toNat, 0]

def k0_chk9 (v461 : BitVec 32) : Prop :=
  (∀ a, (k0_off7 v461) a + S64x256.size a ≤ S4096x256.size a)
theorem k0_off7_inb : ∀ (v461 : BitVec 32) (k0_hw9 : k0_chk9 v461), ∀ a, (k0_off7 v461) a + S64x256.size a ≤ S4096x256.size a := fun v461 k0_hw9 => k0_hw9

def k0_off8 (v473 : BitVec 32) : Fin 2 → Nat :=
  let c128_i32_625 : BitVec 32 := 128#32
  let v479 : BitVec 32 := Scalar.muli v473 c128_i32_625
  let c0_i32_626 : BitVec 32 := 0#32
  let v480 : BitVec 32 := Scalar.addi v479 c0_i32_626
  let v481 : Index := Scalar.indexCast v480
  let c0_627 : Index := 0#32
  ![v481.toNat, 0]

def k0_chk10 (v473 : BitVec 32) : Prop :=
  (∀ a, (k0_off8 v473) a + S64x256.size a ≤ S4096x256.size a)
theorem k0_off8_inb : ∀ (v473 : BitVec 32) (k0_hw10 : k0_chk10 v473), ∀ a, (k0_off8 v473) a + S64x256.size a ≤ S4096x256.size a := fun v473 k0_hw10 => k0_hw10

def k0_dev25 (v0 : BitVec 32) : Nat :=
  let c0_i32_647 : BitVec 32 := 0#32
  let c1_i32_646 : BitVec 32 := 1#32
  let v491 : BitVec 32 := Scalar.muli v0 c1_i32_646
  let v492 : BitVec 32 := Scalar.addi c0_i32_647 v491
  v492.toNat
def k0_dev26 (v1 : BitVec 32) : Nat :=
  let c0_i32_671 : BitVec 32 := 0#32
  let c1_i32_670 : BitVec 32 := 1#32
  let v509 : BitVec 32 := Scalar.muli v1 c1_i32_670
  let v510 : BitVec 32 := Scalar.addi c0_i32_671 v509
  v510.toNat
def k0_dev27 (v0 : BitVec 32) : Nat :=
  let c0_i32_695 : BitVec 32 := 0#32
  let c1_i32_694 : BitVec 32 := 1#32
  let v527 : BitVec 32 := Scalar.muli v0 c1_i32_694
  let v528 : BitVec 32 := Scalar.addi c0_i32_695 v527
  v528.toNat
def k0_dev28 (v1 : BitVec 32) : Nat :=
  let c0_i32_719 : BitVec 32 := 0#32
  let c1_i32_718 : BitVec 32 := 1#32
  let v545 : BitVec 32 := Scalar.muli v1 c1_i32_718
  let v546 : BitVec 32 := Scalar.addi c0_i32_719 v545
  v546.toNat
def k0_off9 (v557 : BitVec 32) : Fin 2 → Nat :=
  let c128_i32_731 : BitVec 32 := 128#32
  let v563 : BitVec 32 := Scalar.muli v557 c128_i32_731
  let c64_i32_732 : BitVec 32 := 64#32
  let v564 : BitVec 32 := Scalar.addi v563 c64_i32_732
  let v565 : Index := Scalar.indexCast v564
  let c0_733 : Index := 0#32
  ![v565.toNat, 0]

def k0_chk11 (v557 : BitVec 32) : Prop :=
  (∀ a, (k0_off9 v557) a + S64x256.size a ≤ S4096x256.size a)
theorem k0_off9_inb : ∀ (v557 : BitVec 32) (k0_hw11 : k0_chk11 v557), ∀ a, (k0_off9 v557) a + S64x256.size a ≤ S4096x256.size a := fun v557 k0_hw11 => k0_hw11

def k0_off10 (v569 : BitVec 32) : Fin 2 → Nat :=
  let c128_i32_741 : BitVec 32 := 128#32
  let v575 : BitVec 32 := Scalar.muli v569 c128_i32_741
  let c64_i32_742 : BitVec 32 := 64#32
  let v576 : BitVec 32 := Scalar.addi v575 c64_i32_742
  let v577 : Index := Scalar.indexCast v576
  let c0_743 : Index := 0#32
  ![v577.toNat, 0]

def k0_chk12 (v569 : BitVec 32) : Prop :=
  (∀ a, (k0_off10 v569) a + S64x256.size a ≤ S4096x256.size a)
theorem k0_off10_inb : ∀ (v569 : BitVec 32) (k0_hw12 : k0_chk12 v569), ∀ a, (k0_off10 v569) a + S64x256.size a ≤ S4096x256.size a := fun v569 k0_hw12 => k0_hw12

def k0_dev29 (v1 : BitVec 32) : Nat :=
  let c0_i32_790 : BitVec 32 := 0#32
  let c1_i32_789 : BitVec 32 := 1#32
  let v603 : BitVec 32 := Scalar.muli v1 c1_i32_789
  let v604 : BitVec 32 := Scalar.addi c0_i32_790 v603
  v604.toNat
def k0_dev30 (v0 : BitVec 32) : Nat :=
  let c0_i32_837 : BitVec 32 := 0#32
  let c1_i32_836 : BitVec 32 := 1#32
  let v629 : BitVec 32 := Scalar.muli v0 c1_i32_836
  let v630 : BitVec 32 := Scalar.addi c0_i32_837 v629
  v630.toNat
def k0_dev31 (v0 : BitVec 32) : Nat :=
  let c0_i32_861 : BitVec 32 := 0#32
  let c1_i32_860 : BitVec 32 := 1#32
  let v639 : BitVec 32 := Scalar.muli v0 c1_i32_860
  let v640 : BitVec 32 := Scalar.addi c0_i32_861 v639
  v640.toNat
def k0_dev32 (v1 : BitVec 32) : Nat :=
  let c0_i32_885 : BitVec 32 := 0#32
  let c1_i32_884 : BitVec 32 := 1#32
  let v657 : BitVec 32 := Scalar.muli v1 c1_i32_884
  let v658 : BitVec 32 := Scalar.addi c0_i32_885 v657
  v658.toNat
def k0_dev33 (v0 : BitVec 32) : Nat :=
  let c0_i32_909 : BitVec 32 := 0#32
  let c1_i32_908 : BitVec 32 := 1#32
  let v675 : BitVec 32 := Scalar.muli v0 c1_i32_908
  let v676 : BitVec 32 := Scalar.addi c0_i32_909 v675
  v676.toNat
def k0_dev34 (v1 : BitVec 32) : Nat :=
  let c0_i32_933 : BitVec 32 := 0#32
  let c1_i32_932 : BitVec 32 := 1#32
  let v693 : BitVec 32 := Scalar.muli v1 c1_i32_932
  let v694 : BitVec 32 := Scalar.addi c0_i32_933 v693
  v694.toNat
def k0_off11 (v705 : BitVec 32) : Fin 2 → Nat :=
  let c128_i32_944 : BitVec 32 := 128#32
  let v711 : BitVec 32 := Scalar.muli v705 c128_i32_944
  let c0_i32_945 : BitVec 32 := 0#32
  let v712 : BitVec 32 := Scalar.addi v711 c0_i32_945
  let v713 : Index := Scalar.indexCast v712
  let c0_946 : Index := 0#32
  ![v713.toNat, 0]

def k0_chk13 (v705 : BitVec 32) : Prop :=
  (∀ a, (k0_off11 v705) a + S64x256.size a ≤ S4096x256.size a)
theorem k0_off11_inb : ∀ (v705 : BitVec 32) (k0_hw13 : k0_chk13 v705), ∀ a, (k0_off11 v705) a + S64x256.size a ≤ S4096x256.size a := fun v705 k0_hw13 => k0_hw13

def k0_off12 (v717 : BitVec 32) : Fin 2 → Nat :=
  let c128_i32_954 : BitVec 32 := 128#32
  let v723 : BitVec 32 := Scalar.muli v717 c128_i32_954
  let c0_i32_955 : BitVec 32 := 0#32
  let v724 : BitVec 32 := Scalar.addi v723 c0_i32_955
  let v725 : Index := Scalar.indexCast v724
  let c0_956 : Index := 0#32
  ![v725.toNat, 0]

def k0_chk14 (v717 : BitVec 32) : Prop :=
  (∀ a, (k0_off12 v717) a + S64x256.size a ≤ S4096x256.size a)
theorem k0_off12_inb : ∀ (v717 : BitVec 32) (k0_hw14 : k0_chk14 v717), ∀ a, (k0_off12 v717) a + S64x256.size a ≤ S4096x256.size a := fun v717 k0_hw14 => k0_hw14

def k0_dev35 (v0 : BitVec 32) : Nat :=
  let c0_i32_976 : BitVec 32 := 0#32
  let c1_i32_975 : BitVec 32 := 1#32
  let v735 : BitVec 32 := Scalar.muli v0 c1_i32_975
  let v736 : BitVec 32 := Scalar.addi c0_i32_976 v735
  v736.toNat
def k0_dev36 (v1 : BitVec 32) : Nat :=
  let c0_i32_1000 : BitVec 32 := 0#32
  let c1_i32_999 : BitVec 32 := 1#32
  let v753 : BitVec 32 := Scalar.muli v1 c1_i32_999
  let v754 : BitVec 32 := Scalar.addi c0_i32_1000 v753
  v754.toNat
def k0_dev37 (v0 : BitVec 32) : Nat :=
  let c0_i32_1024 : BitVec 32 := 0#32
  let c1_i32_1023 : BitVec 32 := 1#32
  let v771 : BitVec 32 := Scalar.muli v0 c1_i32_1023
  let v772 : BitVec 32 := Scalar.addi c0_i32_1024 v771
  v772.toNat
def k0_dev38 (v1 : BitVec 32) : Nat :=
  let c0_i32_1048 : BitVec 32 := 0#32
  let c1_i32_1047 : BitVec 32 := 1#32
  let v789 : BitVec 32 := Scalar.muli v1 c1_i32_1047
  let v790 : BitVec 32 := Scalar.addi c0_i32_1048 v789
  v790.toNat
def k0_off13 (v801 : BitVec 32) : Fin 2 → Nat :=
  let c128_i32_1060 : BitVec 32 := 128#32
  let v807 : BitVec 32 := Scalar.muli v801 c128_i32_1060
  let c64_i32_1061 : BitVec 32 := 64#32
  let v808 : BitVec 32 := Scalar.addi v807 c64_i32_1061
  let v809 : Index := Scalar.indexCast v808
  let c0_1062 : Index := 0#32
  ![v809.toNat, 0]

def k0_chk15 (v801 : BitVec 32) : Prop :=
  (∀ a, (k0_off13 v801) a + S64x256.size a ≤ S4096x256.size a)
theorem k0_off13_inb : ∀ (v801 : BitVec 32) (k0_hw15 : k0_chk15 v801), ∀ a, (k0_off13 v801) a + S64x256.size a ≤ S4096x256.size a := fun v801 k0_hw15 => k0_hw15

def k0_off14 (v813 : BitVec 32) : Fin 2 → Nat :=
  let c128_i32_1070 : BitVec 32 := 128#32
  let v819 : BitVec 32 := Scalar.muli v813 c128_i32_1070
  let c64_i32_1071 : BitVec 32 := 64#32
  let v820 : BitVec 32 := Scalar.addi v819 c64_i32_1071
  let v821 : Index := Scalar.indexCast v820
  let c0_1072 : Index := 0#32
  ![v821.toNat, 0]

def k0_chk16 (v813 : BitVec 32) : Prop :=
  (∀ a, (k0_off14 v813) a + S64x256.size a ≤ S4096x256.size a)
theorem k0_off14_inb : ∀ (v813 : BitVec 32) (k0_hw16 : k0_chk16 v813), ∀ a, (k0_off14 v813) a + S64x256.size a ≤ S4096x256.size a := fun v813 k0_hw16 => k0_hw16

def k0_dev39 (v1 : BitVec 32) : Nat :=
  let c0_i32_1119 : BitVec 32 := 0#32
  let c1_i32_1118 : BitVec 32 := 1#32
  let v847 : BitVec 32 := Scalar.muli v1 c1_i32_1118
  let v848 : BitVec 32 := Scalar.addi c0_i32_1119 v847
  v848.toNat
def k0_dev40 (v0 : BitVec 32) : Nat :=
  let c0_i32_1166 : BitVec 32 := 0#32
  let c1_i32_1165 : BitVec 32 := 1#32
  let v873 : BitVec 32 := Scalar.muli v0 c1_i32_1165
  let v874 : BitVec 32 := Scalar.addi c0_i32_1166 v873
  v874.toNat
def k0_dev41 (v0 : BitVec 32) : Nat :=
  let c0_i32_1190 : BitVec 32 := 0#32
  let c1_i32_1189 : BitVec 32 := 1#32
  let v883 : BitVec 32 := Scalar.muli v0 c1_i32_1189
  let v884 : BitVec 32 := Scalar.addi c0_i32_1190 v883
  v884.toNat
def k0_dev42 (v1 : BitVec 32) : Nat :=
  let c0_i32_1214 : BitVec 32 := 0#32
  let c1_i32_1213 : BitVec 32 := 1#32
  let v901 : BitVec 32 := Scalar.muli v1 c1_i32_1213
  let v902 : BitVec 32 := Scalar.addi c0_i32_1214 v901
  v902.toNat
def k0_dev43 (v0 : BitVec 32) : Nat :=
  let c0_i32_1238 : BitVec 32 := 0#32
  let c1_i32_1237 : BitVec 32 := 1#32
  let v919 : BitVec 32 := Scalar.muli v0 c1_i32_1237
  let v920 : BitVec 32 := Scalar.addi c0_i32_1238 v919
  v920.toNat
def k0_dev44 (v1 : BitVec 32) : Nat :=
  let c0_i32_1262 : BitVec 32 := 0#32
  let c1_i32_1261 : BitVec 32 := 1#32
  let v937 : BitVec 32 := Scalar.muli v1 c1_i32_1261
  let v938 : BitVec 32 := Scalar.addi c0_i32_1262 v937
  v938.toNat
def k0_off15 (v949 : BitVec 32) : Fin 2 → Nat :=
  let c128_i32_1273 : BitVec 32 := 128#32
  let v955 : BitVec 32 := Scalar.muli v949 c128_i32_1273
  let c0_i32_1274 : BitVec 32 := 0#32
  let v956 : BitVec 32 := Scalar.addi v955 c0_i32_1274
  let v957 : Index := Scalar.indexCast v956
  let c0_1275 : Index := 0#32
  ![v957.toNat, 0]

def k0_chk17 (v949 : BitVec 32) : Prop :=
  (∀ a, (k0_off15 v949) a + S64x256.size a ≤ S4096x256.size a)
theorem k0_off15_inb : ∀ (v949 : BitVec 32) (k0_hw17 : k0_chk17 v949), ∀ a, (k0_off15 v949) a + S64x256.size a ≤ S4096x256.size a := fun v949 k0_hw17 => k0_hw17

def k0_off16 (v961 : BitVec 32) : Fin 2 → Nat :=
  let c128_i32_1283 : BitVec 32 := 128#32
  let v967 : BitVec 32 := Scalar.muli v961 c128_i32_1283
  let c0_i32_1284 : BitVec 32 := 0#32
  let v968 : BitVec 32 := Scalar.addi v967 c0_i32_1284
  let v969 : Index := Scalar.indexCast v968
  let c0_1285 : Index := 0#32
  ![v969.toNat, 0]

def k0_chk18 (v961 : BitVec 32) : Prop :=
  (∀ a, (k0_off16 v961) a + S64x256.size a ≤ S4096x256.size a)
theorem k0_off16_inb : ∀ (v961 : BitVec 32) (k0_hw18 : k0_chk18 v961), ∀ a, (k0_off16 v961) a + S64x256.size a ≤ S4096x256.size a := fun v961 k0_hw18 => k0_hw18

def k0_dev45 (v0 : BitVec 32) : Nat :=
  let c0_i32_1305 : BitVec 32 := 0#32
  let c1_i32_1304 : BitVec 32 := 1#32
  let v979 : BitVec 32 := Scalar.muli v0 c1_i32_1304
  let v980 : BitVec 32 := Scalar.addi c0_i32_1305 v979
  v980.toNat
def k0_dev46 (v1 : BitVec 32) : Nat :=
  let c0_i32_1329 : BitVec 32 := 0#32
  let c1_i32_1328 : BitVec 32 := 1#32
  let v997 : BitVec 32 := Scalar.muli v1 c1_i32_1328
  let v998 : BitVec 32 := Scalar.addi c0_i32_1329 v997
  v998.toNat
def k0_dev47 (v0 : BitVec 32) : Nat :=
  let c0_i32_1353 : BitVec 32 := 0#32
  let c1_i32_1352 : BitVec 32 := 1#32
  let v1015 : BitVec 32 := Scalar.muli v0 c1_i32_1352
  let v1016 : BitVec 32 := Scalar.addi c0_i32_1353 v1015
  v1016.toNat
def k0_dev48 (v1 : BitVec 32) : Nat :=
  let c0_i32_1377 : BitVec 32 := 0#32
  let c1_i32_1376 : BitVec 32 := 1#32
  let v1033 : BitVec 32 := Scalar.muli v1 c1_i32_1376
  let v1034 : BitVec 32 := Scalar.addi c0_i32_1377 v1033
  v1034.toNat
def k0_off17 (v1045 : BitVec 32) : Fin 2 → Nat :=
  let c128_i32_1389 : BitVec 32 := 128#32
  let v1051 : BitVec 32 := Scalar.muli v1045 c128_i32_1389
  let c64_i32_1390 : BitVec 32 := 64#32
  let v1052 : BitVec 32 := Scalar.addi v1051 c64_i32_1390
  let v1053 : Index := Scalar.indexCast v1052
  let c0_1391 : Index := 0#32
  ![v1053.toNat, 0]

def k0_chk19 (v1045 : BitVec 32) : Prop :=
  (∀ a, (k0_off17 v1045) a + S64x256.size a ≤ S4096x256.size a)
theorem k0_off17_inb : ∀ (v1045 : BitVec 32) (k0_hw19 : k0_chk19 v1045), ∀ a, (k0_off17 v1045) a + S64x256.size a ≤ S4096x256.size a := fun v1045 k0_hw19 => k0_hw19

def k0_off18 (v1057 : BitVec 32) : Fin 2 → Nat :=
  let c128_i32_1399 : BitVec 32 := 128#32
  let v1063 : BitVec 32 := Scalar.muli v1057 c128_i32_1399
  let c64_i32_1400 : BitVec 32 := 64#32
  let v1064 : BitVec 32 := Scalar.addi v1063 c64_i32_1400
  let v1065 : Index := Scalar.indexCast v1064
  let c0_1401 : Index := 0#32
  ![v1065.toNat, 0]

def k0_chk20 (v1057 : BitVec 32) : Prop :=
  (∀ a, (k0_off18 v1057) a + S64x256.size a ≤ S4096x256.size a)
theorem k0_off18_inb : ∀ (v1057 : BitVec 32) (k0_hw20 : k0_chk20 v1057), ∀ a, (k0_off18 v1057) a + S64x256.size a ≤ S4096x256.size a := fun v1057 k0_hw20 => k0_hw20

def k0_dev49 (v1 : BitVec 32) : Nat :=
  let c0_i32_1448 : BitVec 32 := 0#32
  let c1_i32_1447 : BitVec 32 := 1#32
  let v1091 : BitVec 32 := Scalar.muli v1 c1_i32_1447
  let v1092 : BitVec 32 := Scalar.addi c0_i32_1448 v1091
  v1092.toNat
def k0_dev50 (v0 : BitVec 32) : Nat :=
  let c0_i32_1495 : BitVec 32 := 0#32
  let c1_i32_1494 : BitVec 32 := 1#32
  let v1117 : BitVec 32 := Scalar.muli v0 c1_i32_1494
  let v1118 : BitVec 32 := Scalar.addi c0_i32_1495 v1117
  v1118.toNat
def k0_dev51 (v0 : BitVec 32) : Nat :=
  let c0_i32_1519 : BitVec 32 := 0#32
  let c1_i32_1518 : BitVec 32 := 1#32
  let v1127 : BitVec 32 := Scalar.muli v0 c1_i32_1518
  let v1128 : BitVec 32 := Scalar.addi c0_i32_1519 v1127
  v1128.toNat
def k0_dev52 (v1 : BitVec 32) : Nat :=
  let c0_i32_1543 : BitVec 32 := 0#32
  let c1_i32_1542 : BitVec 32 := 1#32
  let v1145 : BitVec 32 := Scalar.muli v1 c1_i32_1542
  let v1146 : BitVec 32 := Scalar.addi c0_i32_1543 v1145
  v1146.toNat
def k0_dev53 (v0 : BitVec 32) : Nat :=
  let c0_i32_1567 : BitVec 32 := 0#32
  let c1_i32_1566 : BitVec 32 := 1#32
  let v1163 : BitVec 32 := Scalar.muli v0 c1_i32_1566
  let v1164 : BitVec 32 := Scalar.addi c0_i32_1567 v1163
  v1164.toNat
def k0_dev54 (v1 : BitVec 32) : Nat :=
  let c0_i32_1591 : BitVec 32 := 0#32
  let c1_i32_1590 : BitVec 32 := 1#32
  let v1181 : BitVec 32 := Scalar.muli v1 c1_i32_1590
  let v1182 : BitVec 32 := Scalar.addi c0_i32_1591 v1181
  v1182.toNat
def k0_off19 (v1193 : BitVec 32) : Fin 2 → Nat :=
  let c128_i32_1602 : BitVec 32 := 128#32
  let v1199 : BitVec 32 := Scalar.muli v1193 c128_i32_1602
  let c0_i32_1603 : BitVec 32 := 0#32
  let v1200 : BitVec 32 := Scalar.addi v1199 c0_i32_1603
  let v1201 : Index := Scalar.indexCast v1200
  let c0_1604 : Index := 0#32
  ![v1201.toNat, 0]

def k0_chk21 (v1193 : BitVec 32) : Prop :=
  (∀ a, (k0_off19 v1193) a + S64x256.size a ≤ S4096x256.size a)
theorem k0_off19_inb : ∀ (v1193 : BitVec 32) (k0_hw21 : k0_chk21 v1193), ∀ a, (k0_off19 v1193) a + S64x256.size a ≤ S4096x256.size a := fun v1193 k0_hw21 => k0_hw21

def k0_off20 (v1205 : BitVec 32) : Fin 2 → Nat :=
  let c128_i32_1612 : BitVec 32 := 128#32
  let v1211 : BitVec 32 := Scalar.muli v1205 c128_i32_1612
  let c0_i32_1613 : BitVec 32 := 0#32
  let v1212 : BitVec 32 := Scalar.addi v1211 c0_i32_1613
  let v1213 : Index := Scalar.indexCast v1212
  let c0_1614 : Index := 0#32
  ![v1213.toNat, 0]

def k0_chk22 (v1205 : BitVec 32) : Prop :=
  (∀ a, (k0_off20 v1205) a + S64x256.size a ≤ S4096x256.size a)
theorem k0_off20_inb : ∀ (v1205 : BitVec 32) (k0_hw22 : k0_chk22 v1205), ∀ a, (k0_off20 v1205) a + S64x256.size a ≤ S4096x256.size a := fun v1205 k0_hw22 => k0_hw22

def k0_dev55 (v0 : BitVec 32) : Nat :=
  let c0_i32_1634 : BitVec 32 := 0#32
  let c1_i32_1633 : BitVec 32 := 1#32
  let v1223 : BitVec 32 := Scalar.muli v0 c1_i32_1633
  let v1224 : BitVec 32 := Scalar.addi c0_i32_1634 v1223
  v1224.toNat
def k0_dev56 (v1 : BitVec 32) : Nat :=
  let c0_i32_1658 : BitVec 32 := 0#32
  let c1_i32_1657 : BitVec 32 := 1#32
  let v1241 : BitVec 32 := Scalar.muli v1 c1_i32_1657
  let v1242 : BitVec 32 := Scalar.addi c0_i32_1658 v1241
  v1242.toNat
def k0_dev57 (v0 : BitVec 32) : Nat :=
  let c0_i32_1682 : BitVec 32 := 0#32
  let c1_i32_1681 : BitVec 32 := 1#32
  let v1259 : BitVec 32 := Scalar.muli v0 c1_i32_1681
  let v1260 : BitVec 32 := Scalar.addi c0_i32_1682 v1259
  v1260.toNat
def k0_dev58 (v1 : BitVec 32) : Nat :=
  let c0_i32_1706 : BitVec 32 := 0#32
  let c1_i32_1705 : BitVec 32 := 1#32
  let v1277 : BitVec 32 := Scalar.muli v1 c1_i32_1705
  let v1278 : BitVec 32 := Scalar.addi c0_i32_1706 v1277
  v1278.toNat
def k0_off21 (v1289 : BitVec 32) : Fin 2 → Nat :=
  let c128_i32_1718 : BitVec 32 := 128#32
  let v1295 : BitVec 32 := Scalar.muli v1289 c128_i32_1718
  let c64_i32_1719 : BitVec 32 := 64#32
  let v1296 : BitVec 32 := Scalar.addi v1295 c64_i32_1719
  let v1297 : Index := Scalar.indexCast v1296
  let c0_1720 : Index := 0#32
  ![v1297.toNat, 0]

def k0_chk23 (v1289 : BitVec 32) : Prop :=
  (∀ a, (k0_off21 v1289) a + S64x256.size a ≤ S4096x256.size a)
theorem k0_off21_inb : ∀ (v1289 : BitVec 32) (k0_hw23 : k0_chk23 v1289), ∀ a, (k0_off21 v1289) a + S64x256.size a ≤ S4096x256.size a := fun v1289 k0_hw23 => k0_hw23

def k0_off22 (v1301 : BitVec 32) : Fin 2 → Nat :=
  let c128_i32_1728 : BitVec 32 := 128#32
  let v1307 : BitVec 32 := Scalar.muli v1301 c128_i32_1728
  let c64_i32_1729 : BitVec 32 := 64#32
  let v1308 : BitVec 32 := Scalar.addi v1307 c64_i32_1729
  let v1309 : Index := Scalar.indexCast v1308
  let c0_1730 : Index := 0#32
  ![v1309.toNat, 0]

def k0_chk24 (v1301 : BitVec 32) : Prop :=
  (∀ a, (k0_off22 v1301) a + S64x256.size a ≤ S4096x256.size a)
theorem k0_off22_inb : ∀ (v1301 : BitVec 32) (k0_hw24 : k0_chk24 v1301), ∀ a, (k0_off22 v1301) a + S64x256.size a ≤ S4096x256.size a := fun v1301 k0_hw24 => k0_hw24

def k0_dev59 (v1 : BitVec 32) : Nat :=
  let c0_i32_1777 : BitVec 32 := 0#32
  let c1_i32_1776 : BitVec 32 := 1#32
  let v1335 : BitVec 32 := Scalar.muli v1 c1_i32_1776
  let v1336 : BitVec 32 := Scalar.addi c0_i32_1777 v1335
  v1336.toNat
def k0_dev60 (v0 : BitVec 32) : Nat :=
  let c0_i32_1824 : BitVec 32 := 0#32
  let c1_i32_1823 : BitVec 32 := 1#32
  let v1361 : BitVec 32 := Scalar.muli v0 c1_i32_1823
  let v1362 : BitVec 32 := Scalar.addi c0_i32_1824 v1361
  v1362.toNat
def k0_dev61 (v0 : BitVec 32) : Nat :=
  let c0_i32_1848 : BitVec 32 := 0#32
  let c1_i32_1847 : BitVec 32 := 1#32
  let v1371 : BitVec 32 := Scalar.muli v0 c1_i32_1847
  let v1372 : BitVec 32 := Scalar.addi c0_i32_1848 v1371
  v1372.toNat
def k0_dev62 (v1 : BitVec 32) : Nat :=
  let c0_i32_1872 : BitVec 32 := 0#32
  let c1_i32_1871 : BitVec 32 := 1#32
  let v1389 : BitVec 32 := Scalar.muli v1 c1_i32_1871
  let v1390 : BitVec 32 := Scalar.addi c0_i32_1872 v1389
  v1390.toNat
def k0_dev63 (v0 : BitVec 32) : Nat :=
  let c0_i32_1896 : BitVec 32 := 0#32
  let c1_i32_1895 : BitVec 32 := 1#32
  let v1407 : BitVec 32 := Scalar.muli v0 c1_i32_1895
  let v1408 : BitVec 32 := Scalar.addi c0_i32_1896 v1407
  v1408.toNat
def k0_dev64 (v1 : BitVec 32) : Nat :=
  let c0_i32_1920 : BitVec 32 := 0#32
  let c1_i32_1919 : BitVec 32 := 1#32
  let v1425 : BitVec 32 := Scalar.muli v1 c1_i32_1919
  let v1426 : BitVec 32 := Scalar.addi c0_i32_1920 v1425
  v1426.toNat
def k0_off23 (v1437 : BitVec 32) : Fin 2 → Nat :=
  let c128_i32_1931 : BitVec 32 := 128#32
  let v1443 : BitVec 32 := Scalar.muli v1437 c128_i32_1931
  let c0_i32_1932 : BitVec 32 := 0#32
  let v1444 : BitVec 32 := Scalar.addi v1443 c0_i32_1932
  let v1445 : Index := Scalar.indexCast v1444
  let c0_1933 : Index := 0#32
  ![v1445.toNat, 0]

def k0_chk25 (v1437 : BitVec 32) : Prop :=
  (∀ a, (k0_off23 v1437) a + S64x256.size a ≤ S4096x256.size a)
theorem k0_off23_inb : ∀ (v1437 : BitVec 32) (k0_hw25 : k0_chk25 v1437), ∀ a, (k0_off23 v1437) a + S64x256.size a ≤ S4096x256.size a := fun v1437 k0_hw25 => k0_hw25

def k0_off24 (v1449 : BitVec 32) : Fin 2 → Nat :=
  let c128_i32_1941 : BitVec 32 := 128#32
  let v1455 : BitVec 32 := Scalar.muli v1449 c128_i32_1941
  let c0_i32_1942 : BitVec 32 := 0#32
  let v1456 : BitVec 32 := Scalar.addi v1455 c0_i32_1942
  let v1457 : Index := Scalar.indexCast v1456
  let c0_1943 : Index := 0#32
  ![v1457.toNat, 0]

def k0_chk26 (v1449 : BitVec 32) : Prop :=
  (∀ a, (k0_off24 v1449) a + S64x256.size a ≤ S4096x256.size a)
theorem k0_off24_inb : ∀ (v1449 : BitVec 32) (k0_hw26 : k0_chk26 v1449), ∀ a, (k0_off24 v1449) a + S64x256.size a ≤ S4096x256.size a := fun v1449 k0_hw26 => k0_hw26

def k0_dev65 (v0 : BitVec 32) : Nat :=
  let c0_i32_1963 : BitVec 32 := 0#32
  let c1_i32_1962 : BitVec 32 := 1#32
  let v1467 : BitVec 32 := Scalar.muli v0 c1_i32_1962
  let v1468 : BitVec 32 := Scalar.addi c0_i32_1963 v1467
  v1468.toNat
def k0_dev66 (v1 : BitVec 32) : Nat :=
  let c0_i32_1987 : BitVec 32 := 0#32
  let c1_i32_1986 : BitVec 32 := 1#32
  let v1485 : BitVec 32 := Scalar.muli v1 c1_i32_1986
  let v1486 : BitVec 32 := Scalar.addi c0_i32_1987 v1485
  v1486.toNat
def k0_dev67 (v0 : BitVec 32) : Nat :=
  let c0_i32_2011 : BitVec 32 := 0#32
  let c1_i32_2010 : BitVec 32 := 1#32
  let v1503 : BitVec 32 := Scalar.muli v0 c1_i32_2010
  let v1504 : BitVec 32 := Scalar.addi c0_i32_2011 v1503
  v1504.toNat
def k0_dev68 (v1 : BitVec 32) : Nat :=
  let c0_i32_2035 : BitVec 32 := 0#32
  let c1_i32_2034 : BitVec 32 := 1#32
  let v1521 : BitVec 32 := Scalar.muli v1 c1_i32_2034
  let v1522 : BitVec 32 := Scalar.addi c0_i32_2035 v1521
  v1522.toNat
def k0_off25 (v1533 : BitVec 32) : Fin 2 → Nat :=
  let c128_i32_2047 : BitVec 32 := 128#32
  let v1539 : BitVec 32 := Scalar.muli v1533 c128_i32_2047
  let c64_i32_2048 : BitVec 32 := 64#32
  let v1540 : BitVec 32 := Scalar.addi v1539 c64_i32_2048
  let v1541 : Index := Scalar.indexCast v1540
  let c0_2049 : Index := 0#32
  ![v1541.toNat, 0]

def k0_chk27 (v1533 : BitVec 32) : Prop :=
  (∀ a, (k0_off25 v1533) a + S64x256.size a ≤ S4096x256.size a)
theorem k0_off25_inb : ∀ (v1533 : BitVec 32) (k0_hw27 : k0_chk27 v1533), ∀ a, (k0_off25 v1533) a + S64x256.size a ≤ S4096x256.size a := fun v1533 k0_hw27 => k0_hw27

def k0_off26 (v1545 : BitVec 32) : Fin 2 → Nat :=
  let c128_i32_2057 : BitVec 32 := 128#32
  let v1551 : BitVec 32 := Scalar.muli v1545 c128_i32_2057
  let c64_i32_2058 : BitVec 32 := 64#32
  let v1552 : BitVec 32 := Scalar.addi v1551 c64_i32_2058
  let v1553 : Index := Scalar.indexCast v1552
  let c0_2059 : Index := 0#32
  ![v1553.toNat, 0]

def k0_chk28 (v1545 : BitVec 32) : Prop :=
  (∀ a, (k0_off26 v1545) a + S64x256.size a ≤ S4096x256.size a)
theorem k0_off26_inb : ∀ (v1545 : BitVec 32) (k0_hw28 : k0_chk28 v1545), ∀ a, (k0_off26 v1545) a + S64x256.size a ≤ S4096x256.size a := fun v1545 k0_hw28 => k0_hw28

def k0_dev69 (v1 : BitVec 32) : Nat :=
  let c0_i32_2106 : BitVec 32 := 0#32
  let c1_i32_2105 : BitVec 32 := 1#32
  let v1579 : BitVec 32 := Scalar.muli v1 c1_i32_2105
  let v1580 : BitVec 32 := Scalar.addi c0_i32_2106 v1579
  v1580.toNat
def k0_dev70 (v0 : BitVec 32) : Nat :=
  let c0_i32_2153 : BitVec 32 := 0#32
  let c1_i32_2152 : BitVec 32 := 1#32
  let v1605 : BitVec 32 := Scalar.muli v0 c1_i32_2152
  let v1606 : BitVec 32 := Scalar.addi c0_i32_2153 v1605
  v1606.toNat
def k0_dev71 (v0 : BitVec 32) : Nat :=
  let c0_i32_2177 : BitVec 32 := 0#32
  let c1_i32_2176 : BitVec 32 := 1#32
  let v1615 : BitVec 32 := Scalar.muli v0 c1_i32_2176
  let v1616 : BitVec 32 := Scalar.addi c0_i32_2177 v1615
  v1616.toNat
def k0_dev72 (v1 : BitVec 32) : Nat :=
  let c0_i32_2201 : BitVec 32 := 0#32
  let c1_i32_2200 : BitVec 32 := 1#32
  let v1633 : BitVec 32 := Scalar.muli v1 c1_i32_2200
  let v1634 : BitVec 32 := Scalar.addi c0_i32_2201 v1633
  v1634.toNat
def k0_dev73 (v0 : BitVec 32) : Nat :=
  let c0_i32_2225 : BitVec 32 := 0#32
  let c1_i32_2224 : BitVec 32 := 1#32
  let v1651 : BitVec 32 := Scalar.muli v0 c1_i32_2224
  let v1652 : BitVec 32 := Scalar.addi c0_i32_2225 v1651
  v1652.toNat
def k0_dev74 (v1 : BitVec 32) : Nat :=
  let c0_i32_2249 : BitVec 32 := 0#32
  let c1_i32_2248 : BitVec 32 := 1#32
  let v1669 : BitVec 32 := Scalar.muli v1 c1_i32_2248
  let v1670 : BitVec 32 := Scalar.addi c0_i32_2249 v1669
  v1670.toNat
def k0_off27 (v1681 : BitVec 32) : Fin 2 → Nat :=
  let c128_i32_2260 : BitVec 32 := 128#32
  let v1687 : BitVec 32 := Scalar.muli v1681 c128_i32_2260
  let c0_i32_2261 : BitVec 32 := 0#32
  let v1688 : BitVec 32 := Scalar.addi v1687 c0_i32_2261
  let v1689 : Index := Scalar.indexCast v1688
  let c0_2262 : Index := 0#32
  ![v1689.toNat, 0]

def k0_chk29 (v1681 : BitVec 32) : Prop :=
  (∀ a, (k0_off27 v1681) a + S64x256.size a ≤ S4096x256.size a)
theorem k0_off27_inb : ∀ (v1681 : BitVec 32) (k0_hw29 : k0_chk29 v1681), ∀ a, (k0_off27 v1681) a + S64x256.size a ≤ S4096x256.size a := fun v1681 k0_hw29 => k0_hw29

def k0_off28 (v1693 : BitVec 32) : Fin 2 → Nat :=
  let c128_i32_2270 : BitVec 32 := 128#32
  let v1699 : BitVec 32 := Scalar.muli v1693 c128_i32_2270
  let c0_i32_2271 : BitVec 32 := 0#32
  let v1700 : BitVec 32 := Scalar.addi v1699 c0_i32_2271
  let v1701 : Index := Scalar.indexCast v1700
  let c0_2272 : Index := 0#32
  ![v1701.toNat, 0]

def k0_chk30 (v1693 : BitVec 32) : Prop :=
  (∀ a, (k0_off28 v1693) a + S64x256.size a ≤ S4096x256.size a)
theorem k0_off28_inb : ∀ (v1693 : BitVec 32) (k0_hw30 : k0_chk30 v1693), ∀ a, (k0_off28 v1693) a + S64x256.size a ≤ S4096x256.size a := fun v1693 k0_hw30 => k0_hw30

def k0_dev75 (v0 : BitVec 32) : Nat :=
  let c0_i32_2292 : BitVec 32 := 0#32
  let c1_i32_2291 : BitVec 32 := 1#32
  let v1711 : BitVec 32 := Scalar.muli v0 c1_i32_2291
  let v1712 : BitVec 32 := Scalar.addi c0_i32_2292 v1711
  v1712.toNat
def k0_dev76 (v1 : BitVec 32) : Nat :=
  let c0_i32_2316 : BitVec 32 := 0#32
  let c1_i32_2315 : BitVec 32 := 1#32
  let v1729 : BitVec 32 := Scalar.muli v1 c1_i32_2315
  let v1730 : BitVec 32 := Scalar.addi c0_i32_2316 v1729
  v1730.toNat
def k0_dev77 (v0 : BitVec 32) : Nat :=
  let c0_i32_2340 : BitVec 32 := 0#32
  let c1_i32_2339 : BitVec 32 := 1#32
  let v1747 : BitVec 32 := Scalar.muli v0 c1_i32_2339
  let v1748 : BitVec 32 := Scalar.addi c0_i32_2340 v1747
  v1748.toNat
def k0_dev78 (v1 : BitVec 32) : Nat :=
  let c0_i32_2364 : BitVec 32 := 0#32
  let c1_i32_2363 : BitVec 32 := 1#32
  let v1765 : BitVec 32 := Scalar.muli v1 c1_i32_2363
  let v1766 : BitVec 32 := Scalar.addi c0_i32_2364 v1765
  v1766.toNat
def k0_off29 (v1777 : BitVec 32) : Fin 2 → Nat :=
  let c128_i32_2376 : BitVec 32 := 128#32
  let v1783 : BitVec 32 := Scalar.muli v1777 c128_i32_2376
  let c64_i32_2377 : BitVec 32 := 64#32
  let v1784 : BitVec 32 := Scalar.addi v1783 c64_i32_2377
  let v1785 : Index := Scalar.indexCast v1784
  let c0_2378 : Index := 0#32
  ![v1785.toNat, 0]

def k0_chk31 (v1777 : BitVec 32) : Prop :=
  (∀ a, (k0_off29 v1777) a + S64x256.size a ≤ S4096x256.size a)
theorem k0_off29_inb : ∀ (v1777 : BitVec 32) (k0_hw31 : k0_chk31 v1777), ∀ a, (k0_off29 v1777) a + S64x256.size a ≤ S4096x256.size a := fun v1777 k0_hw31 => k0_hw31

def k0_off30 (v1789 : BitVec 32) : Fin 2 → Nat :=
  let c128_i32_2386 : BitVec 32 := 128#32
  let v1795 : BitVec 32 := Scalar.muli v1789 c128_i32_2386
  let c64_i32_2387 : BitVec 32 := 64#32
  let v1796 : BitVec 32 := Scalar.addi v1795 c64_i32_2387
  let v1797 : Index := Scalar.indexCast v1796
  let c0_2388 : Index := 0#32
  ![v1797.toNat, 0]

def k0_chk32 (v1789 : BitVec 32) : Prop :=
  (∀ a, (k0_off30 v1789) a + S64x256.size a ≤ S4096x256.size a)
theorem k0_off30_inb : ∀ (v1789 : BitVec 32) (k0_hw32 : k0_chk32 v1789), ∀ a, (k0_off30 v1789) a + S64x256.size a ≤ S4096x256.size a := fun v1789 k0_hw32 => k0_hw32

def k0_dev79 (v1 : BitVec 32) : Nat :=
  let c0_i32_2435 : BitVec 32 := 0#32
  let c1_i32_2434 : BitVec 32 := 1#32
  let v1823 : BitVec 32 := Scalar.muli v1 c1_i32_2434
  let v1824 : BitVec 32 := Scalar.addi c0_i32_2435 v1823
  v1824.toNat
def k0_dev80 (v0 : BitVec 32) : Nat :=
  let c0_i32_2482 : BitVec 32 := 0#32
  let c1_i32_2481 : BitVec 32 := 1#32
  let v1849 : BitVec 32 := Scalar.muli v0 c1_i32_2481
  let v1850 : BitVec 32 := Scalar.addi c0_i32_2482 v1849
  v1850.toNat
def k0_dev81 (v0 : BitVec 32) : Nat :=
  let c0_i32_2506 : BitVec 32 := 0#32
  let c1_i32_2505 : BitVec 32 := 1#32
  let v1859 : BitVec 32 := Scalar.muli v0 c1_i32_2505
  let v1860 : BitVec 32 := Scalar.addi c0_i32_2506 v1859
  v1860.toNat
def k0_dev82 (v1 : BitVec 32) : Nat :=
  let c0_i32_2530 : BitVec 32 := 0#32
  let c1_i32_2529 : BitVec 32 := 1#32
  let v1877 : BitVec 32 := Scalar.muli v1 c1_i32_2529
  let v1878 : BitVec 32 := Scalar.addi c0_i32_2530 v1877
  v1878.toNat
def k0_dev83 (v0 : BitVec 32) : Nat :=
  let c0_i32_2554 : BitVec 32 := 0#32
  let c1_i32_2553 : BitVec 32 := 1#32
  let v1895 : BitVec 32 := Scalar.muli v0 c1_i32_2553
  let v1896 : BitVec 32 := Scalar.addi c0_i32_2554 v1895
  v1896.toNat
def k0_dev84 (v1 : BitVec 32) : Nat :=
  let c0_i32_2578 : BitVec 32 := 0#32
  let c1_i32_2577 : BitVec 32 := 1#32
  let v1913 : BitVec 32 := Scalar.muli v1 c1_i32_2577
  let v1914 : BitVec 32 := Scalar.addi c0_i32_2578 v1913
  v1914.toNat
def k0_off31 (v1925 : BitVec 32) : Fin 2 → Nat :=
  let c128_i32_2589 : BitVec 32 := 128#32
  let v1931 : BitVec 32 := Scalar.muli v1925 c128_i32_2589
  let c0_i32_2590 : BitVec 32 := 0#32
  let v1932 : BitVec 32 := Scalar.addi v1931 c0_i32_2590
  let v1933 : Index := Scalar.indexCast v1932
  let c0_2591 : Index := 0#32
  ![v1933.toNat, 0]

def k0_chk33 (v1925 : BitVec 32) : Prop :=
  (∀ a, (k0_off31 v1925) a + S64x256.size a ≤ S4096x256.size a)
theorem k0_off31_inb : ∀ (v1925 : BitVec 32) (k0_hw33 : k0_chk33 v1925), ∀ a, (k0_off31 v1925) a + S64x256.size a ≤ S4096x256.size a := fun v1925 k0_hw33 => k0_hw33

def k0_off32 (v1937 : BitVec 32) : Fin 2 → Nat :=
  let c128_i32_2599 : BitVec 32 := 128#32
  let v1943 : BitVec 32 := Scalar.muli v1937 c128_i32_2599
  let c0_i32_2600 : BitVec 32 := 0#32
  let v1944 : BitVec 32 := Scalar.addi v1943 c0_i32_2600
  let v1945 : Index := Scalar.indexCast v1944
  let c0_2601 : Index := 0#32
  ![v1945.toNat, 0]

def k0_chk34 (v1937 : BitVec 32) : Prop :=
  (∀ a, (k0_off32 v1937) a + S64x256.size a ≤ S4096x256.size a)
theorem k0_off32_inb : ∀ (v1937 : BitVec 32) (k0_hw34 : k0_chk34 v1937), ∀ a, (k0_off32 v1937) a + S64x256.size a ≤ S4096x256.size a := fun v1937 k0_hw34 => k0_hw34

def k0_dev85 (v0 : BitVec 32) : Nat :=
  let c0_i32_2621 : BitVec 32 := 0#32
  let c1_i32_2620 : BitVec 32 := 1#32
  let v1955 : BitVec 32 := Scalar.muli v0 c1_i32_2620
  let v1956 : BitVec 32 := Scalar.addi c0_i32_2621 v1955
  v1956.toNat
def k0_dev86 (v1 : BitVec 32) : Nat :=
  let c0_i32_2645 : BitVec 32 := 0#32
  let c1_i32_2644 : BitVec 32 := 1#32
  let v1973 : BitVec 32 := Scalar.muli v1 c1_i32_2644
  let v1974 : BitVec 32 := Scalar.addi c0_i32_2645 v1973
  v1974.toNat
def k0_dev87 (v0 : BitVec 32) : Nat :=
  let c0_i32_2669 : BitVec 32 := 0#32
  let c1_i32_2668 : BitVec 32 := 1#32
  let v1991 : BitVec 32 := Scalar.muli v0 c1_i32_2668
  let v1992 : BitVec 32 := Scalar.addi c0_i32_2669 v1991
  v1992.toNat
def k0_dev88 (v1 : BitVec 32) : Nat :=
  let c0_i32_2693 : BitVec 32 := 0#32
  let c1_i32_2692 : BitVec 32 := 1#32
  let v2009 : BitVec 32 := Scalar.muli v1 c1_i32_2692
  let v2010 : BitVec 32 := Scalar.addi c0_i32_2693 v2009
  v2010.toNat
def k0_off33 (v2021 : BitVec 32) : Fin 2 → Nat :=
  let c128_i32_2705 : BitVec 32 := 128#32
  let v2027 : BitVec 32 := Scalar.muli v2021 c128_i32_2705
  let c64_i32_2706 : BitVec 32 := 64#32
  let v2028 : BitVec 32 := Scalar.addi v2027 c64_i32_2706
  let v2029 : Index := Scalar.indexCast v2028
  let c0_2707 : Index := 0#32
  ![v2029.toNat, 0]

def k0_chk35 (v2021 : BitVec 32) : Prop :=
  (∀ a, (k0_off33 v2021) a + S64x256.size a ≤ S4096x256.size a)
theorem k0_off33_inb : ∀ (v2021 : BitVec 32) (k0_hw35 : k0_chk35 v2021), ∀ a, (k0_off33 v2021) a + S64x256.size a ≤ S4096x256.size a := fun v2021 k0_hw35 => k0_hw35

def k0_off34 (v2033 : BitVec 32) : Fin 2 → Nat :=
  let c128_i32_2715 : BitVec 32 := 128#32
  let v2039 : BitVec 32 := Scalar.muli v2033 c128_i32_2715
  let c64_i32_2716 : BitVec 32 := 64#32
  let v2040 : BitVec 32 := Scalar.addi v2039 c64_i32_2716
  let v2041 : Index := Scalar.indexCast v2040
  let c0_2717 : Index := 0#32
  ![v2041.toNat, 0]

def k0_chk36 (v2033 : BitVec 32) : Prop :=
  (∀ a, (k0_off34 v2033) a + S64x256.size a ≤ S4096x256.size a)
theorem k0_off34_inb : ∀ (v2033 : BitVec 32) (k0_hw36 : k0_chk36 v2033), ∀ a, (k0_off34 v2033) a + S64x256.size a ≤ S4096x256.size a := fun v2033 k0_hw36 => k0_hw36

def k0_dev89 (v1 : BitVec 32) : Nat :=
  let c0_i32_2764 : BitVec 32 := 0#32
  let c1_i32_2763 : BitVec 32 := 1#32
  let v2067 : BitVec 32 := Scalar.muli v1 c1_i32_2763
  let v2068 : BitVec 32 := Scalar.addi c0_i32_2764 v2067
  v2068.toNat
def k0_dev90 (v0 : BitVec 32) : Nat :=
  let c0_i32_2811 : BitVec 32 := 0#32
  let c1_i32_2810 : BitVec 32 := 1#32
  let v2093 : BitVec 32 := Scalar.muli v0 c1_i32_2810
  let v2094 : BitVec 32 := Scalar.addi c0_i32_2811 v2093
  v2094.toNat
def k0_dev91 (v0 : BitVec 32) : Nat :=
  let c0_i32_2835 : BitVec 32 := 0#32
  let c1_i32_2834 : BitVec 32 := 1#32
  let v2103 : BitVec 32 := Scalar.muli v0 c1_i32_2834
  let v2104 : BitVec 32 := Scalar.addi c0_i32_2835 v2103
  v2104.toNat
def k0_dev92 (v1 : BitVec 32) : Nat :=
  let c0_i32_2859 : BitVec 32 := 0#32
  let c1_i32_2858 : BitVec 32 := 1#32
  let v2121 : BitVec 32 := Scalar.muli v1 c1_i32_2858
  let v2122 : BitVec 32 := Scalar.addi c0_i32_2859 v2121
  v2122.toNat
def k0_dev93 (v0 : BitVec 32) : Nat :=
  let c0_i32_2883 : BitVec 32 := 0#32
  let c1_i32_2882 : BitVec 32 := 1#32
  let v2139 : BitVec 32 := Scalar.muli v0 c1_i32_2882
  let v2140 : BitVec 32 := Scalar.addi c0_i32_2883 v2139
  v2140.toNat
def k0_dev94 (v1 : BitVec 32) : Nat :=
  let c0_i32_2907 : BitVec 32 := 0#32
  let c1_i32_2906 : BitVec 32 := 1#32
  let v2157 : BitVec 32 := Scalar.muli v1 c1_i32_2906
  let v2158 : BitVec 32 := Scalar.addi c0_i32_2907 v2157
  v2158.toNat
def k0_off35 (v2169 : BitVec 32) : Fin 2 → Nat :=
  let c128_i32_2918 : BitVec 32 := 128#32
  let v2175 : BitVec 32 := Scalar.muli v2169 c128_i32_2918
  let c0_i32_2919 : BitVec 32 := 0#32
  let v2176 : BitVec 32 := Scalar.addi v2175 c0_i32_2919
  let v2177 : Index := Scalar.indexCast v2176
  let c0_2920 : Index := 0#32
  ![v2177.toNat, 0]

def k0_chk37 (v2169 : BitVec 32) : Prop :=
  (∀ a, (k0_off35 v2169) a + S64x256.size a ≤ S4096x256.size a)
theorem k0_off35_inb : ∀ (v2169 : BitVec 32) (k0_hw37 : k0_chk37 v2169), ∀ a, (k0_off35 v2169) a + S64x256.size a ≤ S4096x256.size a := fun v2169 k0_hw37 => k0_hw37

def k0_off36 (v2181 : BitVec 32) : Fin 2 → Nat :=
  let c128_i32_2928 : BitVec 32 := 128#32
  let v2187 : BitVec 32 := Scalar.muli v2181 c128_i32_2928
  let c0_i32_2929 : BitVec 32 := 0#32
  let v2188 : BitVec 32 := Scalar.addi v2187 c0_i32_2929
  let v2189 : Index := Scalar.indexCast v2188
  let c0_2930 : Index := 0#32
  ![v2189.toNat, 0]

def k0_chk38 (v2181 : BitVec 32) : Prop :=
  (∀ a, (k0_off36 v2181) a + S64x256.size a ≤ S4096x256.size a)
theorem k0_off36_inb : ∀ (v2181 : BitVec 32) (k0_hw38 : k0_chk38 v2181), ∀ a, (k0_off36 v2181) a + S64x256.size a ≤ S4096x256.size a := fun v2181 k0_hw38 => k0_hw38

def k0_dev95 (v0 : BitVec 32) : Nat :=
  let c0_i32_2950 : BitVec 32 := 0#32
  let c1_i32_2949 : BitVec 32 := 1#32
  let v2199 : BitVec 32 := Scalar.muli v0 c1_i32_2949
  let v2200 : BitVec 32 := Scalar.addi c0_i32_2950 v2199
  v2200.toNat
def k0_dev96 (v1 : BitVec 32) : Nat :=
  let c0_i32_2974 : BitVec 32 := 0#32
  let c1_i32_2973 : BitVec 32 := 1#32
  let v2217 : BitVec 32 := Scalar.muli v1 c1_i32_2973
  let v2218 : BitVec 32 := Scalar.addi c0_i32_2974 v2217
  v2218.toNat
def k0_dev97 (v0 : BitVec 32) : Nat :=
  let c0_i32_2998 : BitVec 32 := 0#32
  let c1_i32_2997 : BitVec 32 := 1#32
  let v2235 : BitVec 32 := Scalar.muli v0 c1_i32_2997
  let v2236 : BitVec 32 := Scalar.addi c0_i32_2998 v2235
  v2236.toNat
def k0_dev98 (v1 : BitVec 32) : Nat :=
  let c0_i32_3022 : BitVec 32 := 0#32
  let c1_i32_3021 : BitVec 32 := 1#32
  let v2253 : BitVec 32 := Scalar.muli v1 c1_i32_3021
  let v2254 : BitVec 32 := Scalar.addi c0_i32_3022 v2253
  v2254.toNat
def k0_off37 (v2265 : BitVec 32) : Fin 2 → Nat :=
  let c128_i32_3034 : BitVec 32 := 128#32
  let v2271 : BitVec 32 := Scalar.muli v2265 c128_i32_3034
  let c64_i32_3035 : BitVec 32 := 64#32
  let v2272 : BitVec 32 := Scalar.addi v2271 c64_i32_3035
  let v2273 : Index := Scalar.indexCast v2272
  let c0_3036 : Index := 0#32
  ![v2273.toNat, 0]

def k0_chk39 (v2265 : BitVec 32) : Prop :=
  (∀ a, (k0_off37 v2265) a + S64x256.size a ≤ S4096x256.size a)
theorem k0_off37_inb : ∀ (v2265 : BitVec 32) (k0_hw39 : k0_chk39 v2265), ∀ a, (k0_off37 v2265) a + S64x256.size a ≤ S4096x256.size a := fun v2265 k0_hw39 => k0_hw39

def k0_off38 (v2277 : BitVec 32) : Fin 2 → Nat :=
  let c128_i32_3044 : BitVec 32 := 128#32
  let v2283 : BitVec 32 := Scalar.muli v2277 c128_i32_3044
  let c64_i32_3045 : BitVec 32 := 64#32
  let v2284 : BitVec 32 := Scalar.addi v2283 c64_i32_3045
  let v2285 : Index := Scalar.indexCast v2284
  let c0_3046 : Index := 0#32
  ![v2285.toNat, 0]

def k0_chk40 (v2277 : BitVec 32) : Prop :=
  (∀ a, (k0_off38 v2277) a + S64x256.size a ≤ S4096x256.size a)
theorem k0_off38_inb : ∀ (v2277 : BitVec 32) (k0_hw40 : k0_chk40 v2277), ∀ a, (k0_off38 v2277) a + S64x256.size a ≤ S4096x256.size a := fun v2277 k0_hw40 => k0_hw40

def k0_dev99 (v1 : BitVec 32) : Nat :=
  let c0_i32_3093 : BitVec 32 := 0#32
  let c1_i32_3092 : BitVec 32 := 1#32
  let v2311 : BitVec 32 := Scalar.muli v1 c1_i32_3092
  let v2312 : BitVec 32 := Scalar.addi c0_i32_3093 v2311
  v2312.toNat
def k0_dev100 (v0 : BitVec 32) : Nat :=
  let c0_i32_3140 : BitVec 32 := 0#32
  let c1_i32_3139 : BitVec 32 := 1#32
  let v2337 : BitVec 32 := Scalar.muli v0 c1_i32_3139
  let v2338 : BitVec 32 := Scalar.addi c0_i32_3140 v2337
  v2338.toNat
def k0_dev101 (v0 : BitVec 32) : Nat :=
  let c0_i32_3164 : BitVec 32 := 0#32
  let c1_i32_3163 : BitVec 32 := 1#32
  let v2347 : BitVec 32 := Scalar.muli v0 c1_i32_3163
  let v2348 : BitVec 32 := Scalar.addi c0_i32_3164 v2347
  v2348.toNat
def k0_dev102 (v1 : BitVec 32) : Nat :=
  let c0_i32_3188 : BitVec 32 := 0#32
  let c1_i32_3187 : BitVec 32 := 1#32
  let v2365 : BitVec 32 := Scalar.muli v1 c1_i32_3187
  let v2366 : BitVec 32 := Scalar.addi c0_i32_3188 v2365
  v2366.toNat
def k0_dev103 (v0 : BitVec 32) : Nat :=
  let c0_i32_3212 : BitVec 32 := 0#32
  let c1_i32_3211 : BitVec 32 := 1#32
  let v2383 : BitVec 32 := Scalar.muli v0 c1_i32_3211
  let v2384 : BitVec 32 := Scalar.addi c0_i32_3212 v2383
  v2384.toNat
def k0_dev104 (v1 : BitVec 32) : Nat :=
  let c0_i32_3236 : BitVec 32 := 0#32
  let c1_i32_3235 : BitVec 32 := 1#32
  let v2401 : BitVec 32 := Scalar.muli v1 c1_i32_3235
  let v2402 : BitVec 32 := Scalar.addi c0_i32_3236 v2401
  v2402.toNat
def k0_off39 (v2413 : BitVec 32) : Fin 2 → Nat :=
  let c128_i32_3247 : BitVec 32 := 128#32
  let v2419 : BitVec 32 := Scalar.muli v2413 c128_i32_3247
  let c0_i32_3248 : BitVec 32 := 0#32
  let v2420 : BitVec 32 := Scalar.addi v2419 c0_i32_3248
  let v2421 : Index := Scalar.indexCast v2420
  let c0_3249 : Index := 0#32
  ![v2421.toNat, 0]

def k0_chk41 (v2413 : BitVec 32) : Prop :=
  (∀ a, (k0_off39 v2413) a + S64x256.size a ≤ S4096x256.size a)
theorem k0_off39_inb : ∀ (v2413 : BitVec 32) (k0_hw41 : k0_chk41 v2413), ∀ a, (k0_off39 v2413) a + S64x256.size a ≤ S4096x256.size a := fun v2413 k0_hw41 => k0_hw41

def k0_off40 (v2425 : BitVec 32) : Fin 2 → Nat :=
  let c128_i32_3257 : BitVec 32 := 128#32
  let v2431 : BitVec 32 := Scalar.muli v2425 c128_i32_3257
  let c0_i32_3258 : BitVec 32 := 0#32
  let v2432 : BitVec 32 := Scalar.addi v2431 c0_i32_3258
  let v2433 : Index := Scalar.indexCast v2432
  let c0_3259 : Index := 0#32
  ![v2433.toNat, 0]

def k0_chk42 (v2425 : BitVec 32) : Prop :=
  (∀ a, (k0_off40 v2425) a + S64x256.size a ≤ S4096x256.size a)
theorem k0_off40_inb : ∀ (v2425 : BitVec 32) (k0_hw42 : k0_chk42 v2425), ∀ a, (k0_off40 v2425) a + S64x256.size a ≤ S4096x256.size a := fun v2425 k0_hw42 => k0_hw42

def k0_dev105 (v0 : BitVec 32) : Nat :=
  let c0_i32_3279 : BitVec 32 := 0#32
  let c1_i32_3278 : BitVec 32 := 1#32
  let v2443 : BitVec 32 := Scalar.muli v0 c1_i32_3278
  let v2444 : BitVec 32 := Scalar.addi c0_i32_3279 v2443
  v2444.toNat
def k0_dev106 (v1 : BitVec 32) : Nat :=
  let c0_i32_3303 : BitVec 32 := 0#32
  let c1_i32_3302 : BitVec 32 := 1#32
  let v2461 : BitVec 32 := Scalar.muli v1 c1_i32_3302
  let v2462 : BitVec 32 := Scalar.addi c0_i32_3303 v2461
  v2462.toNat
def k0_dev107 (v0 : BitVec 32) : Nat :=
  let c0_i32_3327 : BitVec 32 := 0#32
  let c1_i32_3326 : BitVec 32 := 1#32
  let v2479 : BitVec 32 := Scalar.muli v0 c1_i32_3326
  let v2480 : BitVec 32 := Scalar.addi c0_i32_3327 v2479
  v2480.toNat
def k0_dev108 (v1 : BitVec 32) : Nat :=
  let c0_i32_3351 : BitVec 32 := 0#32
  let c1_i32_3350 : BitVec 32 := 1#32
  let v2497 : BitVec 32 := Scalar.muli v1 c1_i32_3350
  let v2498 : BitVec 32 := Scalar.addi c0_i32_3351 v2497
  v2498.toNat
def k0_off41 (v2509 : BitVec 32) : Fin 2 → Nat :=
  let c128_i32_3363 : BitVec 32 := 128#32
  let v2515 : BitVec 32 := Scalar.muli v2509 c128_i32_3363
  let c64_i32_3364 : BitVec 32 := 64#32
  let v2516 : BitVec 32 := Scalar.addi v2515 c64_i32_3364
  let v2517 : Index := Scalar.indexCast v2516
  let c0_3365 : Index := 0#32
  ![v2517.toNat, 0]

def k0_chk43 (v2509 : BitVec 32) : Prop :=
  (∀ a, (k0_off41 v2509) a + S64x256.size a ≤ S4096x256.size a)
theorem k0_off41_inb : ∀ (v2509 : BitVec 32) (k0_hw43 : k0_chk43 v2509), ∀ a, (k0_off41 v2509) a + S64x256.size a ≤ S4096x256.size a := fun v2509 k0_hw43 => k0_hw43

def k0_off42 (v2521 : BitVec 32) : Fin 2 → Nat :=
  let c128_i32_3373 : BitVec 32 := 128#32
  let v2527 : BitVec 32 := Scalar.muli v2521 c128_i32_3373
  let c64_i32_3374 : BitVec 32 := 64#32
  let v2528 : BitVec 32 := Scalar.addi v2527 c64_i32_3374
  let v2529 : Index := Scalar.indexCast v2528
  let c0_3375 : Index := 0#32
  ![v2529.toNat, 0]

def k0_chk44 (v2521 : BitVec 32) : Prop :=
  (∀ a, (k0_off42 v2521) a + S64x256.size a ≤ S4096x256.size a)
theorem k0_off42_inb : ∀ (v2521 : BitVec 32) (k0_hw44 : k0_chk44 v2521), ∀ a, (k0_off42 v2521) a + S64x256.size a ≤ S4096x256.size a := fun v2521 k0_hw44 => k0_hw44

def k0_dev109 (v1 : BitVec 32) : Nat :=
  let c0_i32_3422 : BitVec 32 := 0#32
  let c1_i32_3421 : BitVec 32 := 1#32
  let v2555 : BitVec 32 := Scalar.muli v1 c1_i32_3421
  let v2556 : BitVec 32 := Scalar.addi c0_i32_3422 v2555
  v2556.toNat
def k0_dev110 (v0 : BitVec 32) : Nat :=
  let c0_i32_3469 : BitVec 32 := 0#32
  let c1_i32_3468 : BitVec 32 := 1#32
  let v2581 : BitVec 32 := Scalar.muli v0 c1_i32_3468
  let v2582 : BitVec 32 := Scalar.addi c0_i32_3469 v2581
  v2582.toNat
def k0_dev111 (v0 : BitVec 32) : Nat :=
  let c0_i32_3493 : BitVec 32 := 0#32
  let c1_i32_3492 : BitVec 32 := 1#32
  let v2591 : BitVec 32 := Scalar.muli v0 c1_i32_3492
  let v2592 : BitVec 32 := Scalar.addi c0_i32_3493 v2591
  v2592.toNat
def k0_dev112 (v1 : BitVec 32) : Nat :=
  let c0_i32_3517 : BitVec 32 := 0#32
  let c1_i32_3516 : BitVec 32 := 1#32
  let v2609 : BitVec 32 := Scalar.muli v1 c1_i32_3516
  let v2610 : BitVec 32 := Scalar.addi c0_i32_3517 v2609
  v2610.toNat
def k0_dev113 (v0 : BitVec 32) : Nat :=
  let c0_i32_3541 : BitVec 32 := 0#32
  let c1_i32_3540 : BitVec 32 := 1#32
  let v2627 : BitVec 32 := Scalar.muli v0 c1_i32_3540
  let v2628 : BitVec 32 := Scalar.addi c0_i32_3541 v2627
  v2628.toNat
def k0_dev114 (v1 : BitVec 32) : Nat :=
  let c0_i32_3565 : BitVec 32 := 0#32
  let c1_i32_3564 : BitVec 32 := 1#32
  let v2645 : BitVec 32 := Scalar.muli v1 c1_i32_3564
  let v2646 : BitVec 32 := Scalar.addi c0_i32_3565 v2645
  v2646.toNat
def k0_off43 (v2657 : BitVec 32) : Fin 2 → Nat :=
  let c128_i32_3576 : BitVec 32 := 128#32
  let v2663 : BitVec 32 := Scalar.muli v2657 c128_i32_3576
  let c0_i32_3577 : BitVec 32 := 0#32
  let v2664 : BitVec 32 := Scalar.addi v2663 c0_i32_3577
  let v2665 : Index := Scalar.indexCast v2664
  let c0_3578 : Index := 0#32
  ![v2665.toNat, 0]

def k0_chk45 (v2657 : BitVec 32) : Prop :=
  (∀ a, (k0_off43 v2657) a + S64x256.size a ≤ S4096x256.size a)
theorem k0_off43_inb : ∀ (v2657 : BitVec 32) (k0_hw45 : k0_chk45 v2657), ∀ a, (k0_off43 v2657) a + S64x256.size a ≤ S4096x256.size a := fun v2657 k0_hw45 => k0_hw45

def k0_off44 (v2669 : BitVec 32) : Fin 2 → Nat :=
  let c128_i32_3586 : BitVec 32 := 128#32
  let v2675 : BitVec 32 := Scalar.muli v2669 c128_i32_3586
  let c0_i32_3587 : BitVec 32 := 0#32
  let v2676 : BitVec 32 := Scalar.addi v2675 c0_i32_3587
  let v2677 : Index := Scalar.indexCast v2676
  let c0_3588 : Index := 0#32
  ![v2677.toNat, 0]

def k0_chk46 (v2669 : BitVec 32) : Prop :=
  (∀ a, (k0_off44 v2669) a + S64x256.size a ≤ S4096x256.size a)
theorem k0_off44_inb : ∀ (v2669 : BitVec 32) (k0_hw46 : k0_chk46 v2669), ∀ a, (k0_off44 v2669) a + S64x256.size a ≤ S4096x256.size a := fun v2669 k0_hw46 => k0_hw46

def k0_dev115 (v0 : BitVec 32) : Nat :=
  let c0_i32_3608 : BitVec 32 := 0#32
  let c1_i32_3607 : BitVec 32 := 1#32
  let v2687 : BitVec 32 := Scalar.muli v0 c1_i32_3607
  let v2688 : BitVec 32 := Scalar.addi c0_i32_3608 v2687
  v2688.toNat
def k0_dev116 (v1 : BitVec 32) : Nat :=
  let c0_i32_3632 : BitVec 32 := 0#32
  let c1_i32_3631 : BitVec 32 := 1#32
  let v2705 : BitVec 32 := Scalar.muli v1 c1_i32_3631
  let v2706 : BitVec 32 := Scalar.addi c0_i32_3632 v2705
  v2706.toNat
def k0_dev117 (v0 : BitVec 32) : Nat :=
  let c0_i32_3656 : BitVec 32 := 0#32
  let c1_i32_3655 : BitVec 32 := 1#32
  let v2723 : BitVec 32 := Scalar.muli v0 c1_i32_3655
  let v2724 : BitVec 32 := Scalar.addi c0_i32_3656 v2723
  v2724.toNat
def k0_dev118 (v1 : BitVec 32) : Nat :=
  let c0_i32_3680 : BitVec 32 := 0#32
  let c1_i32_3679 : BitVec 32 := 1#32
  let v2741 : BitVec 32 := Scalar.muli v1 c1_i32_3679
  let v2742 : BitVec 32 := Scalar.addi c0_i32_3680 v2741
  v2742.toNat
def k0_off45 (v2753 : BitVec 32) : Fin 2 → Nat :=
  let c128_i32_3692 : BitVec 32 := 128#32
  let v2759 : BitVec 32 := Scalar.muli v2753 c128_i32_3692
  let c64_i32_3693 : BitVec 32 := 64#32
  let v2760 : BitVec 32 := Scalar.addi v2759 c64_i32_3693
  let v2761 : Index := Scalar.indexCast v2760
  let c0_3694 : Index := 0#32
  ![v2761.toNat, 0]

def k0_chk47 (v2753 : BitVec 32) : Prop :=
  (∀ a, (k0_off45 v2753) a + S64x256.size a ≤ S4096x256.size a)
theorem k0_off45_inb : ∀ (v2753 : BitVec 32) (k0_hw47 : k0_chk47 v2753), ∀ a, (k0_off45 v2753) a + S64x256.size a ≤ S4096x256.size a := fun v2753 k0_hw47 => k0_hw47

def k0_off46 (v2765 : BitVec 32) : Fin 2 → Nat :=
  let c128_i32_3702 : BitVec 32 := 128#32
  let v2771 : BitVec 32 := Scalar.muli v2765 c128_i32_3702
  let c64_i32_3703 : BitVec 32 := 64#32
  let v2772 : BitVec 32 := Scalar.addi v2771 c64_i32_3703
  let v2773 : Index := Scalar.indexCast v2772
  let c0_3704 : Index := 0#32
  ![v2773.toNat, 0]

def k0_chk48 (v2765 : BitVec 32) : Prop :=
  (∀ a, (k0_off46 v2765) a + S64x256.size a ≤ S4096x256.size a)
theorem k0_off46_inb : ∀ (v2765 : BitVec 32) (k0_hw48 : k0_chk48 v2765), ∀ a, (k0_off46 v2765) a + S64x256.size a ≤ S4096x256.size a := fun v2765 k0_hw48 => k0_hw48

def k0_dev119 (v1 : BitVec 32) : Nat :=
  let c0_i32_3751 : BitVec 32 := 0#32
  let c1_i32_3750 : BitVec 32 := 1#32
  let v2799 : BitVec 32 := Scalar.muli v1 c1_i32_3750
  let v2800 : BitVec 32 := Scalar.addi c0_i32_3751 v2799
  v2800.toNat
def k0_dev120 (v0 : BitVec 32) : Nat :=
  let c0_i32_3798 : BitVec 32 := 0#32
  let c1_i32_3797 : BitVec 32 := 1#32
  let v2825 : BitVec 32 := Scalar.muli v0 c1_i32_3797
  let v2826 : BitVec 32 := Scalar.addi c0_i32_3798 v2825
  v2826.toNat
def k0_dev121 (v0 : BitVec 32) : Nat :=
  let c0_i32_3822 : BitVec 32 := 0#32
  let c1_i32_3821 : BitVec 32 := 1#32
  let v2835 : BitVec 32 := Scalar.muli v0 c1_i32_3821
  let v2836 : BitVec 32 := Scalar.addi c0_i32_3822 v2835
  v2836.toNat
def k0_dev122 (v1 : BitVec 32) : Nat :=
  let c0_i32_3846 : BitVec 32 := 0#32
  let c1_i32_3845 : BitVec 32 := 1#32
  let v2853 : BitVec 32 := Scalar.muli v1 c1_i32_3845
  let v2854 : BitVec 32 := Scalar.addi c0_i32_3846 v2853
  v2854.toNat
def k0_dev123 (v0 : BitVec 32) : Nat :=
  let c0_i32_3870 : BitVec 32 := 0#32
  let c1_i32_3869 : BitVec 32 := 1#32
  let v2871 : BitVec 32 := Scalar.muli v0 c1_i32_3869
  let v2872 : BitVec 32 := Scalar.addi c0_i32_3870 v2871
  v2872.toNat
def k0_dev124 (v1 : BitVec 32) : Nat :=
  let c0_i32_3894 : BitVec 32 := 0#32
  let c1_i32_3893 : BitVec 32 := 1#32
  let v2889 : BitVec 32 := Scalar.muli v1 c1_i32_3893
  let v2890 : BitVec 32 := Scalar.addi c0_i32_3894 v2889
  v2890.toNat
def k0_off47 (v2901 : BitVec 32) : Fin 2 → Nat :=
  let c128_i32_3905 : BitVec 32 := 128#32
  let v2907 : BitVec 32 := Scalar.muli v2901 c128_i32_3905
  let c0_i32_3906 : BitVec 32 := 0#32
  let v2908 : BitVec 32 := Scalar.addi v2907 c0_i32_3906
  let v2909 : Index := Scalar.indexCast v2908
  let c0_3907 : Index := 0#32
  ![v2909.toNat, 0]

def k0_chk49 (v2901 : BitVec 32) : Prop :=
  (∀ a, (k0_off47 v2901) a + S64x256.size a ≤ S4096x256.size a)
theorem k0_off47_inb : ∀ (v2901 : BitVec 32) (k0_hw49 : k0_chk49 v2901), ∀ a, (k0_off47 v2901) a + S64x256.size a ≤ S4096x256.size a := fun v2901 k0_hw49 => k0_hw49

def k0_off48 (v2913 : BitVec 32) : Fin 2 → Nat :=
  let c128_i32_3915 : BitVec 32 := 128#32
  let v2919 : BitVec 32 := Scalar.muli v2913 c128_i32_3915
  let c0_i32_3916 : BitVec 32 := 0#32
  let v2920 : BitVec 32 := Scalar.addi v2919 c0_i32_3916
  let v2921 : Index := Scalar.indexCast v2920
  let c0_3917 : Index := 0#32
  ![v2921.toNat, 0]

def k0_chk50 (v2913 : BitVec 32) : Prop :=
  (∀ a, (k0_off48 v2913) a + S64x256.size a ≤ S4096x256.size a)
theorem k0_off48_inb : ∀ (v2913 : BitVec 32) (k0_hw50 : k0_chk50 v2913), ∀ a, (k0_off48 v2913) a + S64x256.size a ≤ S4096x256.size a := fun v2913 k0_hw50 => k0_hw50

def k0_dev125 (v0 : BitVec 32) : Nat :=
  let c0_i32_3937 : BitVec 32 := 0#32
  let c1_i32_3936 : BitVec 32 := 1#32
  let v2931 : BitVec 32 := Scalar.muli v0 c1_i32_3936
  let v2932 : BitVec 32 := Scalar.addi c0_i32_3937 v2931
  v2932.toNat
def k0_dev126 (v1 : BitVec 32) : Nat :=
  let c0_i32_3961 : BitVec 32 := 0#32
  let c1_i32_3960 : BitVec 32 := 1#32
  let v2949 : BitVec 32 := Scalar.muli v1 c1_i32_3960
  let v2950 : BitVec 32 := Scalar.addi c0_i32_3961 v2949
  v2950.toNat
def k0_dev127 (v0 : BitVec 32) : Nat :=
  let c0_i32_3985 : BitVec 32 := 0#32
  let c1_i32_3984 : BitVec 32 := 1#32
  let v2967 : BitVec 32 := Scalar.muli v0 c1_i32_3984
  let v2968 : BitVec 32 := Scalar.addi c0_i32_3985 v2967
  v2968.toNat
def k0_dev128 (v1 : BitVec 32) : Nat :=
  let c0_i32_4009 : BitVec 32 := 0#32
  let c1_i32_4008 : BitVec 32 := 1#32
  let v2985 : BitVec 32 := Scalar.muli v1 c1_i32_4008
  let v2986 : BitVec 32 := Scalar.addi c0_i32_4009 v2985
  v2986.toNat
def k0_off49 (v2997 : BitVec 32) : Fin 2 → Nat :=
  let c128_i32_4021 : BitVec 32 := 128#32
  let v3003 : BitVec 32 := Scalar.muli v2997 c128_i32_4021
  let c64_i32_4022 : BitVec 32 := 64#32
  let v3004 : BitVec 32 := Scalar.addi v3003 c64_i32_4022
  let v3005 : Index := Scalar.indexCast v3004
  let c0_4023 : Index := 0#32
  ![v3005.toNat, 0]

def k0_chk51 (v2997 : BitVec 32) : Prop :=
  (∀ a, (k0_off49 v2997) a + S64x256.size a ≤ S4096x256.size a)
theorem k0_off49_inb : ∀ (v2997 : BitVec 32) (k0_hw51 : k0_chk51 v2997), ∀ a, (k0_off49 v2997) a + S64x256.size a ≤ S4096x256.size a := fun v2997 k0_hw51 => k0_hw51

def k0_off50 (v3009 : BitVec 32) : Fin 2 → Nat :=
  let c128_i32_4031 : BitVec 32 := 128#32
  let v3015 : BitVec 32 := Scalar.muli v3009 c128_i32_4031
  let c64_i32_4032 : BitVec 32 := 64#32
  let v3016 : BitVec 32 := Scalar.addi v3015 c64_i32_4032
  let v3017 : Index := Scalar.indexCast v3016
  let c0_4033 : Index := 0#32
  ![v3017.toNat, 0]

def k0_chk52 (v3009 : BitVec 32) : Prop :=
  (∀ a, (k0_off50 v3009) a + S64x256.size a ≤ S4096x256.size a)
theorem k0_off50_inb : ∀ (v3009 : BitVec 32) (k0_hw52 : k0_chk52 v3009), ∀ a, (k0_off50 v3009) a + S64x256.size a ≤ S4096x256.size a := fun v3009 k0_hw52 => k0_hw52

def k0_dev129 (v1 : BitVec 32) : Nat :=
  let c0_i32_4080 : BitVec 32 := 0#32
  let c1_i32_4079 : BitVec 32 := 1#32
  let v3043 : BitVec 32 := Scalar.muli v1 c1_i32_4079
  let v3044 : BitVec 32 := Scalar.addi c0_i32_4080 v3043
  v3044.toNat
def k0_dev130 (v0 : BitVec 32) : Nat :=
  let c0_i32_4127 : BitVec 32 := 0#32
  let c1_i32_4126 : BitVec 32 := 1#32
  let v3069 : BitVec 32 := Scalar.muli v0 c1_i32_4126
  let v3070 : BitVec 32 := Scalar.addi c0_i32_4127 v3069
  v3070.toNat
def k0_dev131 (v0 : BitVec 32) : Nat :=
  let c0_i32_4151 : BitVec 32 := 0#32
  let c1_i32_4150 : BitVec 32 := 1#32
  let v3079 : BitVec 32 := Scalar.muli v0 c1_i32_4150
  let v3080 : BitVec 32 := Scalar.addi c0_i32_4151 v3079
  v3080.toNat
def k0_dev132 (v1 : BitVec 32) : Nat :=
  let c0_i32_4175 : BitVec 32 := 0#32
  let c1_i32_4174 : BitVec 32 := 1#32
  let v3097 : BitVec 32 := Scalar.muli v1 c1_i32_4174
  let v3098 : BitVec 32 := Scalar.addi c0_i32_4175 v3097
  v3098.toNat
def k0_dev133 (v0 : BitVec 32) : Nat :=
  let c0_i32_4199 : BitVec 32 := 0#32
  let c1_i32_4198 : BitVec 32 := 1#32
  let v3115 : BitVec 32 := Scalar.muli v0 c1_i32_4198
  let v3116 : BitVec 32 := Scalar.addi c0_i32_4199 v3115
  v3116.toNat
def k0_dev134 (v1 : BitVec 32) : Nat :=
  let c0_i32_4223 : BitVec 32 := 0#32
  let c1_i32_4222 : BitVec 32 := 1#32
  let v3133 : BitVec 32 := Scalar.muli v1 c1_i32_4222
  let v3134 : BitVec 32 := Scalar.addi c0_i32_4223 v3133
  v3134.toNat
def k0_off51 (v3145 : BitVec 32) : Fin 2 → Nat :=
  let c128_i32_4234 : BitVec 32 := 128#32
  let v3151 : BitVec 32 := Scalar.muli v3145 c128_i32_4234
  let c0_i32_4235 : BitVec 32 := 0#32
  let v3152 : BitVec 32 := Scalar.addi v3151 c0_i32_4235
  let v3153 : Index := Scalar.indexCast v3152
  let c0_4236 : Index := 0#32
  ![v3153.toNat, 0]

def k0_chk53 (v3145 : BitVec 32) : Prop :=
  (∀ a, (k0_off51 v3145) a + S64x256.size a ≤ S4096x256.size a)
theorem k0_off51_inb : ∀ (v3145 : BitVec 32) (k0_hw53 : k0_chk53 v3145), ∀ a, (k0_off51 v3145) a + S64x256.size a ≤ S4096x256.size a := fun v3145 k0_hw53 => k0_hw53

def k0_off52 (v3157 : BitVec 32) : Fin 2 → Nat :=
  let c128_i32_4244 : BitVec 32 := 128#32
  let v3163 : BitVec 32 := Scalar.muli v3157 c128_i32_4244
  let c0_i32_4245 : BitVec 32 := 0#32
  let v3164 : BitVec 32 := Scalar.addi v3163 c0_i32_4245
  let v3165 : Index := Scalar.indexCast v3164
  let c0_4246 : Index := 0#32
  ![v3165.toNat, 0]

def k0_chk54 (v3157 : BitVec 32) : Prop :=
  (∀ a, (k0_off52 v3157) a + S64x256.size a ≤ S4096x256.size a)
theorem k0_off52_inb : ∀ (v3157 : BitVec 32) (k0_hw54 : k0_chk54 v3157), ∀ a, (k0_off52 v3157) a + S64x256.size a ≤ S4096x256.size a := fun v3157 k0_hw54 => k0_hw54

def k0_dev135 (v0 : BitVec 32) : Nat :=
  let c0_i32_4266 : BitVec 32 := 0#32
  let c1_i32_4265 : BitVec 32 := 1#32
  let v3175 : BitVec 32 := Scalar.muli v0 c1_i32_4265
  let v3176 : BitVec 32 := Scalar.addi c0_i32_4266 v3175
  v3176.toNat
def k0_dev136 (v1 : BitVec 32) : Nat :=
  let c0_i32_4290 : BitVec 32 := 0#32
  let c1_i32_4289 : BitVec 32 := 1#32
  let v3193 : BitVec 32 := Scalar.muli v1 c1_i32_4289
  let v3194 : BitVec 32 := Scalar.addi c0_i32_4290 v3193
  v3194.toNat
def k0_dev137 (v0 : BitVec 32) : Nat :=
  let c0_i32_4314 : BitVec 32 := 0#32
  let c1_i32_4313 : BitVec 32 := 1#32
  let v3211 : BitVec 32 := Scalar.muli v0 c1_i32_4313
  let v3212 : BitVec 32 := Scalar.addi c0_i32_4314 v3211
  v3212.toNat
def k0_dev138 (v1 : BitVec 32) : Nat :=
  let c0_i32_4338 : BitVec 32 := 0#32
  let c1_i32_4337 : BitVec 32 := 1#32
  let v3229 : BitVec 32 := Scalar.muli v1 c1_i32_4337
  let v3230 : BitVec 32 := Scalar.addi c0_i32_4338 v3229
  v3230.toNat
def k0_off53 (v3241 : BitVec 32) : Fin 2 → Nat :=
  let c128_i32_4350 : BitVec 32 := 128#32
  let v3247 : BitVec 32 := Scalar.muli v3241 c128_i32_4350
  let c64_i32_4351 : BitVec 32 := 64#32
  let v3248 : BitVec 32 := Scalar.addi v3247 c64_i32_4351
  let v3249 : Index := Scalar.indexCast v3248
  let c0_4352 : Index := 0#32
  ![v3249.toNat, 0]

def k0_chk55 (v3241 : BitVec 32) : Prop :=
  (∀ a, (k0_off53 v3241) a + S64x256.size a ≤ S4096x256.size a)
theorem k0_off53_inb : ∀ (v3241 : BitVec 32) (k0_hw55 : k0_chk55 v3241), ∀ a, (k0_off53 v3241) a + S64x256.size a ≤ S4096x256.size a := fun v3241 k0_hw55 => k0_hw55

def k0_off54 (v3253 : BitVec 32) : Fin 2 → Nat :=
  let c128_i32_4360 : BitVec 32 := 128#32
  let v3259 : BitVec 32 := Scalar.muli v3253 c128_i32_4360
  let c64_i32_4361 : BitVec 32 := 64#32
  let v3260 : BitVec 32 := Scalar.addi v3259 c64_i32_4361
  let v3261 : Index := Scalar.indexCast v3260
  let c0_4362 : Index := 0#32
  ![v3261.toNat, 0]

def k0_chk56 (v3253 : BitVec 32) : Prop :=
  (∀ a, (k0_off54 v3253) a + S64x256.size a ≤ S4096x256.size a)
theorem k0_off54_inb : ∀ (v3253 : BitVec 32) (k0_hw56 : k0_chk56 v3253), ∀ a, (k0_off54 v3253) a + S64x256.size a ≤ S4096x256.size a := fun v3253 k0_hw56 => k0_hw56

def k0_dev139 (v1 : BitVec 32) : Nat :=
  let c0_i32_4409 : BitVec 32 := 0#32
  let c1_i32_4408 : BitVec 32 := 1#32
  let v3287 : BitVec 32 := Scalar.muli v1 c1_i32_4408
  let v3288 : BitVec 32 := Scalar.addi c0_i32_4409 v3287
  v3288.toNat
def k0_dev140 (v0 : BitVec 32) : Nat :=
  let c0_i32_4456 : BitVec 32 := 0#32
  let c1_i32_4455 : BitVec 32 := 1#32
  let v3313 : BitVec 32 := Scalar.muli v0 c1_i32_4455
  let v3314 : BitVec 32 := Scalar.addi c0_i32_4456 v3313
  v3314.toNat
def k0_dev141 (v0 : BitVec 32) : Nat :=
  let c0_i32_4480 : BitVec 32 := 0#32
  let c1_i32_4479 : BitVec 32 := 1#32
  let v3323 : BitVec 32 := Scalar.muli v0 c1_i32_4479
  let v3324 : BitVec 32 := Scalar.addi c0_i32_4480 v3323
  v3324.toNat
def k0_dev142 (v1 : BitVec 32) : Nat :=
  let c0_i32_4504 : BitVec 32 := 0#32
  let c1_i32_4503 : BitVec 32 := 1#32
  let v3341 : BitVec 32 := Scalar.muli v1 c1_i32_4503
  let v3342 : BitVec 32 := Scalar.addi c0_i32_4504 v3341
  v3342.toNat
def k0_dev143 (v0 : BitVec 32) : Nat :=
  let c0_i32_4528 : BitVec 32 := 0#32
  let c1_i32_4527 : BitVec 32 := 1#32
  let v3359 : BitVec 32 := Scalar.muli v0 c1_i32_4527
  let v3360 : BitVec 32 := Scalar.addi c0_i32_4528 v3359
  v3360.toNat
def k0_dev144 (v1 : BitVec 32) : Nat :=
  let c0_i32_4552 : BitVec 32 := 0#32
  let c1_i32_4551 : BitVec 32 := 1#32
  let v3377 : BitVec 32 := Scalar.muli v1 c1_i32_4551
  let v3378 : BitVec 32 := Scalar.addi c0_i32_4552 v3377
  v3378.toNat
def k0_off55 (v3389 : BitVec 32) : Fin 2 → Nat :=
  let c128_i32_4563 : BitVec 32 := 128#32
  let v3395 : BitVec 32 := Scalar.muli v3389 c128_i32_4563
  let c0_i32_4564 : BitVec 32 := 0#32
  let v3396 : BitVec 32 := Scalar.addi v3395 c0_i32_4564
  let v3397 : Index := Scalar.indexCast v3396
  let c0_4565 : Index := 0#32
  ![v3397.toNat, 0]

def k0_chk57 (v3389 : BitVec 32) : Prop :=
  (∀ a, (k0_off55 v3389) a + S64x256.size a ≤ S4096x256.size a)
theorem k0_off55_inb : ∀ (v3389 : BitVec 32) (k0_hw57 : k0_chk57 v3389), ∀ a, (k0_off55 v3389) a + S64x256.size a ≤ S4096x256.size a := fun v3389 k0_hw57 => k0_hw57

def k0_off56 (v3401 : BitVec 32) : Fin 2 → Nat :=
  let c128_i32_4573 : BitVec 32 := 128#32
  let v3407 : BitVec 32 := Scalar.muli v3401 c128_i32_4573
  let c0_i32_4574 : BitVec 32 := 0#32
  let v3408 : BitVec 32 := Scalar.addi v3407 c0_i32_4574
  let v3409 : Index := Scalar.indexCast v3408
  let c0_4575 : Index := 0#32
  ![v3409.toNat, 0]

def k0_chk58 (v3401 : BitVec 32) : Prop :=
  (∀ a, (k0_off56 v3401) a + S64x256.size a ≤ S4096x256.size a)
theorem k0_off56_inb : ∀ (v3401 : BitVec 32) (k0_hw58 : k0_chk58 v3401), ∀ a, (k0_off56 v3401) a + S64x256.size a ≤ S4096x256.size a := fun v3401 k0_hw58 => k0_hw58

def k0_dev145 (v0 : BitVec 32) : Nat :=
  let c0_i32_4595 : BitVec 32 := 0#32
  let c1_i32_4594 : BitVec 32 := 1#32
  let v3419 : BitVec 32 := Scalar.muli v0 c1_i32_4594
  let v3420 : BitVec 32 := Scalar.addi c0_i32_4595 v3419
  v3420.toNat
def k0_dev146 (v1 : BitVec 32) : Nat :=
  let c0_i32_4619 : BitVec 32 := 0#32
  let c1_i32_4618 : BitVec 32 := 1#32
  let v3437 : BitVec 32 := Scalar.muli v1 c1_i32_4618
  let v3438 : BitVec 32 := Scalar.addi c0_i32_4619 v3437
  v3438.toNat
def k0_dev147 (v0 : BitVec 32) : Nat :=
  let c0_i32_4643 : BitVec 32 := 0#32
  let c1_i32_4642 : BitVec 32 := 1#32
  let v3455 : BitVec 32 := Scalar.muli v0 c1_i32_4642
  let v3456 : BitVec 32 := Scalar.addi c0_i32_4643 v3455
  v3456.toNat
def k0_dev148 (v1 : BitVec 32) : Nat :=
  let c0_i32_4667 : BitVec 32 := 0#32
  let c1_i32_4666 : BitVec 32 := 1#32
  let v3473 : BitVec 32 := Scalar.muli v1 c1_i32_4666
  let v3474 : BitVec 32 := Scalar.addi c0_i32_4667 v3473
  v3474.toNat
def k0_off57 (v3485 : BitVec 32) : Fin 2 → Nat :=
  let c128_i32_4679 : BitVec 32 := 128#32
  let v3491 : BitVec 32 := Scalar.muli v3485 c128_i32_4679
  let c64_i32_4680 : BitVec 32 := 64#32
  let v3492 : BitVec 32 := Scalar.addi v3491 c64_i32_4680
  let v3493 : Index := Scalar.indexCast v3492
  let c0_4681 : Index := 0#32
  ![v3493.toNat, 0]

def k0_chk59 (v3485 : BitVec 32) : Prop :=
  (∀ a, (k0_off57 v3485) a + S64x256.size a ≤ S4096x256.size a)
theorem k0_off57_inb : ∀ (v3485 : BitVec 32) (k0_hw59 : k0_chk59 v3485), ∀ a, (k0_off57 v3485) a + S64x256.size a ≤ S4096x256.size a := fun v3485 k0_hw59 => k0_hw59

def k0_off58 (v3497 : BitVec 32) : Fin 2 → Nat :=
  let c128_i32_4689 : BitVec 32 := 128#32
  let v3503 : BitVec 32 := Scalar.muli v3497 c128_i32_4689
  let c64_i32_4690 : BitVec 32 := 64#32
  let v3504 : BitVec 32 := Scalar.addi v3503 c64_i32_4690
  let v3505 : Index := Scalar.indexCast v3504
  let c0_4691 : Index := 0#32
  ![v3505.toNat, 0]

def k0_chk60 (v3497 : BitVec 32) : Prop :=
  (∀ a, (k0_off58 v3497) a + S64x256.size a ≤ S4096x256.size a)
theorem k0_off58_inb : ∀ (v3497 : BitVec 32) (k0_hw60 : k0_chk60 v3497), ∀ a, (k0_off58 v3497) a + S64x256.size a ≤ S4096x256.size a := fun v3497 k0_hw60 => k0_hw60

def k0_dev149 (v1 : BitVec 32) : Nat :=
  let c0_i32_4738 : BitVec 32 := 0#32
  let c1_i32_4737 : BitVec 32 := 1#32
  let v3531 : BitVec 32 := Scalar.muli v1 c1_i32_4737
  let v3532 : BitVec 32 := Scalar.addi c0_i32_4738 v3531
  v3532.toNat
def k0_dev150 (v0 : BitVec 32) : Nat :=
  let c0_i32_4785 : BitVec 32 := 0#32
  let c1_i32_4784 : BitVec 32 := 1#32
  let v3557 : BitVec 32 := Scalar.muli v0 c1_i32_4784
  let v3558 : BitVec 32 := Scalar.addi c0_i32_4785 v3557
  v3558.toNat
def k0_dev151 (v0 : BitVec 32) : Nat :=
  let c0_i32_4809 : BitVec 32 := 0#32
  let c1_i32_4808 : BitVec 32 := 1#32
  let v3567 : BitVec 32 := Scalar.muli v0 c1_i32_4808
  let v3568 : BitVec 32 := Scalar.addi c0_i32_4809 v3567
  v3568.toNat
def k0_dev152 (v0 : BitVec 32) : Nat :=
  let c0_i32_4845 : BitVec 32 := 0#32
  let c1_i32_4844 : BitVec 32 := 1#32
  let v3593 : BitVec 32 := Scalar.muli v0 c1_i32_4844
  let v3594 : BitVec 32 := Scalar.addi c0_i32_4845 v3593
  v3594.toNat

def k0_chk1_0 (v0 : BitVec 32) : Prop :=
  ((k0_dev1 v0) < nD) ∧
  ((k0_dev3 v0) < nD) ∧
  ((k0_dev5 v0) < nD) ∧
  ((k0_dev7 v0) < nD) ∧
  ((k0_dev9 v0) < nD) ∧
  ((k0_dev11 v0) < nD) ∧
  ((k0_dev13 v0) < nD) ∧
  ((k0_dev15 v0) < nD) ∧
  ((k0_dev17 v0) < nD) ∧
  ((k0_dev20 v0) < nD) ∧
  ((k0_dev21 v0) < nD) ∧
  ((k0_dev23 v0) < nD) ∧
  ((k0_dev25 v0) < nD) ∧
  ((k0_dev27 v0) < nD) ∧
  ((k0_dev30 v0) < nD) ∧
  ((k0_dev31 v0) < nD) ∧
  ((k0_dev33 v0) < nD) ∧
  ((k0_dev35 v0) < nD) ∧
  ((k0_dev37 v0) < nD) ∧
  ((k0_dev40 v0) < nD) ∧
  ((k0_dev41 v0) < nD) ∧
  ((k0_dev43 v0) < nD) ∧
  ((k0_dev45 v0) < nD) ∧
  ((k0_dev47 v0) < nD) ∧
  ((k0_dev50 v0) < nD) ∧
  ((k0_dev51 v0) < nD) ∧
  ((k0_dev53 v0) < nD) ∧
  ((k0_dev55 v0) < nD) ∧
  ((k0_dev57 v0) < nD) ∧
  ((k0_dev60 v0) < nD) ∧
  ((k0_dev61 v0) < nD) ∧
  ((k0_dev63 v0) < nD)
def k0_chk1_1 (v0 : BitVec 32) : Prop :=
  ((k0_dev65 v0) < nD) ∧
  ((k0_dev67 v0) < nD) ∧
  ((k0_dev70 v0) < nD) ∧
  ((k0_dev71 v0) < nD) ∧
  ((k0_dev73 v0) < nD) ∧
  ((k0_dev75 v0) < nD) ∧
  ((k0_dev77 v0) < nD) ∧
  ((k0_dev80 v0) < nD) ∧
  ((k0_dev81 v0) < nD) ∧
  ((k0_dev83 v0) < nD) ∧
  ((k0_dev85 v0) < nD) ∧
  ((k0_dev87 v0) < nD) ∧
  ((k0_dev90 v0) < nD) ∧
  ((k0_dev91 v0) < nD) ∧
  ((k0_dev93 v0) < nD) ∧
  ((k0_dev95 v0) < nD) ∧
  ((k0_dev97 v0) < nD) ∧
  ((k0_dev100 v0) < nD) ∧
  ((k0_dev101 v0) < nD) ∧
  ((k0_dev103 v0) < nD) ∧
  ((k0_dev105 v0) < nD) ∧
  ((k0_dev107 v0) < nD) ∧
  ((k0_dev110 v0) < nD) ∧
  ((k0_dev111 v0) < nD) ∧
  ((k0_dev113 v0) < nD) ∧
  ((k0_dev115 v0) < nD) ∧
  ((k0_dev117 v0) < nD) ∧
  ((k0_dev120 v0) < nD) ∧
  ((k0_dev121 v0) < nD) ∧
  ((k0_dev123 v0) < nD) ∧
  ((k0_dev125 v0) < nD) ∧
  ((k0_dev127 v0) < nD)
def k0_chk1_2 (v0 : BitVec 32) : Prop :=
  ((k0_dev130 v0) < nD) ∧
  ((k0_dev131 v0) < nD) ∧
  ((k0_dev133 v0) < nD) ∧
  ((k0_dev135 v0) < nD) ∧
  ((k0_dev137 v0) < nD) ∧
  ((k0_dev140 v0) < nD) ∧
  ((k0_dev141 v0) < nD) ∧
  ((k0_dev143 v0) < nD) ∧
  ((k0_dev145 v0) < nD) ∧
  ((k0_dev147 v0) < nD) ∧
  ((k0_dev150 v0) < nD) ∧
  ((k0_dev151 v0) < nD) ∧
  ((k0_dev152 v0) < nD)
def k0_chk1 (v0 : BitVec 32) : Prop :=
  k0_chk1_0 v0 ∧
  k0_chk1_1 v0 ∧
  k0_chk1_2 v0
theorem k0_dev1_lt : ∀ (v0 : BitVec 32) (k0_hw1 : k0_chk1 v0), (k0_dev1 v0) < nD := fun v0 k0_hw1 => k0_hw1.1.1
theorem k0_dev3_lt : ∀ (v0 : BitVec 32) (k0_hw1 : k0_chk1 v0), (k0_dev3 v0) < nD := fun v0 k0_hw1 => k0_hw1.1.2.1
theorem k0_dev5_lt : ∀ (v0 : BitVec 32) (k0_hw1 : k0_chk1 v0), (k0_dev5 v0) < nD := fun v0 k0_hw1 => k0_hw1.1.2.2.1
theorem k0_dev7_lt : ∀ (v0 : BitVec 32) (k0_hw1 : k0_chk1 v0), (k0_dev7 v0) < nD := fun v0 k0_hw1 => k0_hw1.1.2.2.2.1
theorem k0_dev9_lt : ∀ (v0 : BitVec 32) (k0_hw1 : k0_chk1 v0), (k0_dev9 v0) < nD := fun v0 k0_hw1 => k0_hw1.1.2.2.2.2.1
theorem k0_dev11_lt : ∀ (v0 : BitVec 32) (k0_hw1 : k0_chk1 v0), (k0_dev11 v0) < nD := fun v0 k0_hw1 => k0_hw1.1.2.2.2.2.2.1
theorem k0_dev13_lt : ∀ (v0 : BitVec 32) (k0_hw1 : k0_chk1 v0), (k0_dev13 v0) < nD := fun v0 k0_hw1 => k0_hw1.1.2.2.2.2.2.2.1
theorem k0_dev15_lt : ∀ (v0 : BitVec 32) (k0_hw1 : k0_chk1 v0), (k0_dev15 v0) < nD := fun v0 k0_hw1 => k0_hw1.1.2.2.2.2.2.2.2.1
theorem k0_dev17_lt : ∀ (v0 : BitVec 32) (k0_hw1 : k0_chk1 v0), (k0_dev17 v0) < nD := fun v0 k0_hw1 => k0_hw1.1.2.2.2.2.2.2.2.2.1
theorem k0_dev20_lt : ∀ (v0 : BitVec 32) (k0_hw1 : k0_chk1 v0), (k0_dev20 v0) < nD := fun v0 k0_hw1 => k0_hw1.1.2.2.2.2.2.2.2.2.2.1
theorem k0_dev21_lt : ∀ (v0 : BitVec 32) (k0_hw1 : k0_chk1 v0), (k0_dev21 v0) < nD := fun v0 k0_hw1 => k0_hw1.1.2.2.2.2.2.2.2.2.2.2.1
theorem k0_dev23_lt : ∀ (v0 : BitVec 32) (k0_hw1 : k0_chk1 v0), (k0_dev23 v0) < nD := fun v0 k0_hw1 => k0_hw1.1.2.2.2.2.2.2.2.2.2.2.2.1
theorem k0_dev25_lt : ∀ (v0 : BitVec 32) (k0_hw1 : k0_chk1 v0), (k0_dev25 v0) < nD := fun v0 k0_hw1 => k0_hw1.1.2.2.2.2.2.2.2.2.2.2.2.2.1
theorem k0_dev27_lt : ∀ (v0 : BitVec 32) (k0_hw1 : k0_chk1 v0), (k0_dev27 v0) < nD := fun v0 k0_hw1 => k0_hw1.1.2.2.2.2.2.2.2.2.2.2.2.2.2.1
theorem k0_dev30_lt : ∀ (v0 : BitVec 32) (k0_hw1 : k0_chk1 v0), (k0_dev30 v0) < nD := fun v0 k0_hw1 => k0_hw1.1.2.2.2.2.2.2.2.2.2.2.2.2.2.2.1
theorem k0_dev31_lt : ∀ (v0 : BitVec 32) (k0_hw1 : k0_chk1 v0), (k0_dev31 v0) < nD := fun v0 k0_hw1 => k0_hw1.1.2.2.2.2.2.2.2.2.2.2.2.2.2.2.2.1
theorem k0_dev33_lt : ∀ (v0 : BitVec 32) (k0_hw1 : k0_chk1 v0), (k0_dev33 v0) < nD := fun v0 k0_hw1 => k0_hw1.1.2.2.2.2.2.2.2.2.2.2.2.2.2.2.2.2.1
theorem k0_dev35_lt : ∀ (v0 : BitVec 32) (k0_hw1 : k0_chk1 v0), (k0_dev35 v0) < nD := fun v0 k0_hw1 => k0_hw1.1.2.2.2.2.2.2.2.2.2.2.2.2.2.2.2.2.2.1
theorem k0_dev37_lt : ∀ (v0 : BitVec 32) (k0_hw1 : k0_chk1 v0), (k0_dev37 v0) < nD := fun v0 k0_hw1 => k0_hw1.1.2.2.2.2.2.2.2.2.2.2.2.2.2.2.2.2.2.2.1
theorem k0_dev40_lt : ∀ (v0 : BitVec 32) (k0_hw1 : k0_chk1 v0), (k0_dev40 v0) < nD := fun v0 k0_hw1 => k0_hw1.1.2.2.2.2.2.2.2.2.2.2.2.2.2.2.2.2.2.2.2.1
theorem k0_dev41_lt : ∀ (v0 : BitVec 32) (k0_hw1 : k0_chk1 v0), (k0_dev41 v0) < nD := fun v0 k0_hw1 => k0_hw1.1.2.2.2.2.2.2.2.2.2.2.2.2.2.2.2.2.2.2.2.2.1
theorem k0_dev43_lt : ∀ (v0 : BitVec 32) (k0_hw1 : k0_chk1 v0), (k0_dev43 v0) < nD := fun v0 k0_hw1 => k0_hw1.1.2.2.2.2.2.2.2.2.2.2.2.2.2.2.2.2.2.2.2.2.2.1
theorem k0_dev45_lt : ∀ (v0 : BitVec 32) (k0_hw1 : k0_chk1 v0), (k0_dev45 v0) < nD := fun v0 k0_hw1 => k0_hw1.1.2.2.2.2.2.2.2.2.2.2.2.2.2.2.2.2.2.2.2.2.2.2.1
theorem k0_dev47_lt : ∀ (v0 : BitVec 32) (k0_hw1 : k0_chk1 v0), (k0_dev47 v0) < nD := fun v0 k0_hw1 => k0_hw1.1.2.2.2.2.2.2.2.2.2.2.2.2.2.2.2.2.2.2.2.2.2.2.2.1
theorem k0_dev50_lt : ∀ (v0 : BitVec 32) (k0_hw1 : k0_chk1 v0), (k0_dev50 v0) < nD := fun v0 k0_hw1 => k0_hw1.1.2.2.2.2.2.2.2.2.2.2.2.2.2.2.2.2.2.2.2.2.2.2.2.2.1
theorem k0_dev51_lt : ∀ (v0 : BitVec 32) (k0_hw1 : k0_chk1 v0), (k0_dev51 v0) < nD := fun v0 k0_hw1 => k0_hw1.1.2.2.2.2.2.2.2.2.2.2.2.2.2.2.2.2.2.2.2.2.2.2.2.2.2.1
theorem k0_dev53_lt : ∀ (v0 : BitVec 32) (k0_hw1 : k0_chk1 v0), (k0_dev53 v0) < nD := fun v0 k0_hw1 => k0_hw1.1.2.2.2.2.2.2.2.2.2.2.2.2.2.2.2.2.2.2.2.2.2.2.2.2.2.2.1
theorem k0_dev55_lt : ∀ (v0 : BitVec 32) (k0_hw1 : k0_chk1 v0), (k0_dev55 v0) < nD := fun v0 k0_hw1 => k0_hw1.1.2.2.2.2.2.2.2.2.2.2.2.2.2.2.2.2.2.2.2.2.2.2.2.2.2.2.2.1
theorem k0_dev57_lt : ∀ (v0 : BitVec 32) (k0_hw1 : k0_chk1 v0), (k0_dev57 v0) < nD := fun v0 k0_hw1 => k0_hw1.1.2.2.2.2.2.2.2.2.2.2.2.2.2.2.2.2.2.2.2.2.2.2.2.2.2.2.2.2.1
theorem k0_dev60_lt : ∀ (v0 : BitVec 32) (k0_hw1 : k0_chk1 v0), (k0_dev60 v0) < nD := fun v0 k0_hw1 => k0_hw1.1.2.2.2.2.2.2.2.2.2.2.2.2.2.2.2.2.2.2.2.2.2.2.2.2.2.2.2.2.2.1
theorem k0_dev61_lt : ∀ (v0 : BitVec 32) (k0_hw1 : k0_chk1 v0), (k0_dev61 v0) < nD := fun v0 k0_hw1 => k0_hw1.1.2.2.2.2.2.2.2.2.2.2.2.2.2.2.2.2.2.2.2.2.2.2.2.2.2.2.2.2.2.2.1
theorem k0_dev63_lt : ∀ (v0 : BitVec 32) (k0_hw1 : k0_chk1 v0), (k0_dev63 v0) < nD := fun v0 k0_hw1 => k0_hw1.1.2.2.2.2.2.2.2.2.2.2.2.2.2.2.2.2.2.2.2.2.2.2.2.2.2.2.2.2.2.2.2
theorem k0_dev65_lt : ∀ (v0 : BitVec 32) (k0_hw1 : k0_chk1 v0), (k0_dev65 v0) < nD := fun v0 k0_hw1 => k0_hw1.2.1.1
theorem k0_dev67_lt : ∀ (v0 : BitVec 32) (k0_hw1 : k0_chk1 v0), (k0_dev67 v0) < nD := fun v0 k0_hw1 => k0_hw1.2.1.2.1
theorem k0_dev70_lt : ∀ (v0 : BitVec 32) (k0_hw1 : k0_chk1 v0), (k0_dev70 v0) < nD := fun v0 k0_hw1 => k0_hw1.2.1.2.2.1
theorem k0_dev71_lt : ∀ (v0 : BitVec 32) (k0_hw1 : k0_chk1 v0), (k0_dev71 v0) < nD := fun v0 k0_hw1 => k0_hw1.2.1.2.2.2.1
theorem k0_dev73_lt : ∀ (v0 : BitVec 32) (k0_hw1 : k0_chk1 v0), (k0_dev73 v0) < nD := fun v0 k0_hw1 => k0_hw1.2.1.2.2.2.2.1
theorem k0_dev75_lt : ∀ (v0 : BitVec 32) (k0_hw1 : k0_chk1 v0), (k0_dev75 v0) < nD := fun v0 k0_hw1 => k0_hw1.2.1.2.2.2.2.2.1
theorem k0_dev77_lt : ∀ (v0 : BitVec 32) (k0_hw1 : k0_chk1 v0), (k0_dev77 v0) < nD := fun v0 k0_hw1 => k0_hw1.2.1.2.2.2.2.2.2.1
theorem k0_dev80_lt : ∀ (v0 : BitVec 32) (k0_hw1 : k0_chk1 v0), (k0_dev80 v0) < nD := fun v0 k0_hw1 => k0_hw1.2.1.2.2.2.2.2.2.2.1
theorem k0_dev81_lt : ∀ (v0 : BitVec 32) (k0_hw1 : k0_chk1 v0), (k0_dev81 v0) < nD := fun v0 k0_hw1 => k0_hw1.2.1.2.2.2.2.2.2.2.2.1
theorem k0_dev83_lt : ∀ (v0 : BitVec 32) (k0_hw1 : k0_chk1 v0), (k0_dev83 v0) < nD := fun v0 k0_hw1 => k0_hw1.2.1.2.2.2.2.2.2.2.2.2.1
theorem k0_dev85_lt : ∀ (v0 : BitVec 32) (k0_hw1 : k0_chk1 v0), (k0_dev85 v0) < nD := fun v0 k0_hw1 => k0_hw1.2.1.2.2.2.2.2.2.2.2.2.2.1
theorem k0_dev87_lt : ∀ (v0 : BitVec 32) (k0_hw1 : k0_chk1 v0), (k0_dev87 v0) < nD := fun v0 k0_hw1 => k0_hw1.2.1.2.2.2.2.2.2.2.2.2.2.2.1
theorem k0_dev90_lt : ∀ (v0 : BitVec 32) (k0_hw1 : k0_chk1 v0), (k0_dev90 v0) < nD := fun v0 k0_hw1 => k0_hw1.2.1.2.2.2.2.2.2.2.2.2.2.2.2.1
theorem k0_dev91_lt : ∀ (v0 : BitVec 32) (k0_hw1 : k0_chk1 v0), (k0_dev91 v0) < nD := fun v0 k0_hw1 => k0_hw1.2.1.2.2.2.2.2.2.2.2.2.2.2.2.2.1
theorem k0_dev93_lt : ∀ (v0 : BitVec 32) (k0_hw1 : k0_chk1 v0), (k0_dev93 v0) < nD := fun v0 k0_hw1 => k0_hw1.2.1.2.2.2.2.2.2.2.2.2.2.2.2.2.2.1
theorem k0_dev95_lt : ∀ (v0 : BitVec 32) (k0_hw1 : k0_chk1 v0), (k0_dev95 v0) < nD := fun v0 k0_hw1 => k0_hw1.2.1.2.2.2.2.2.2.2.2.2.2.2.2.2.2.2.1
theorem k0_dev97_lt : ∀ (v0 : BitVec 32) (k0_hw1 : k0_chk1 v0), (k0_dev97 v0) < nD := fun v0 k0_hw1 => k0_hw1.2.1.2.2.2.2.2.2.2.2.2.2.2.2.2.2.2.2.1
theorem k0_dev100_lt : ∀ (v0 : BitVec 32) (k0_hw1 : k0_chk1 v0), (k0_dev100 v0) < nD := fun v0 k0_hw1 => k0_hw1.2.1.2.2.2.2.2.2.2.2.2.2.2.2.2.2.2.2.2.1
theorem k0_dev101_lt : ∀ (v0 : BitVec 32) (k0_hw1 : k0_chk1 v0), (k0_dev101 v0) < nD := fun v0 k0_hw1 => k0_hw1.2.1.2.2.2.2.2.2.2.2.2.2.2.2.2.2.2.2.2.2.1
theorem k0_dev103_lt : ∀ (v0 : BitVec 32) (k0_hw1 : k0_chk1 v0), (k0_dev103 v0) < nD := fun v0 k0_hw1 => k0_hw1.2.1.2.2.2.2.2.2.2.2.2.2.2.2.2.2.2.2.2.2.2.1
theorem k0_dev105_lt : ∀ (v0 : BitVec 32) (k0_hw1 : k0_chk1 v0), (k0_dev105 v0) < nD := fun v0 k0_hw1 => k0_hw1.2.1.2.2.2.2.2.2.2.2.2.2.2.2.2.2.2.2.2.2.2.2.1
theorem k0_dev107_lt : ∀ (v0 : BitVec 32) (k0_hw1 : k0_chk1 v0), (k0_dev107 v0) < nD := fun v0 k0_hw1 => k0_hw1.2.1.2.2.2.2.2.2.2.2.2.2.2.2.2.2.2.2.2.2.2.2.2.1
theorem k0_dev110_lt : ∀ (v0 : BitVec 32) (k0_hw1 : k0_chk1 v0), (k0_dev110 v0) < nD := fun v0 k0_hw1 => k0_hw1.2.1.2.2.2.2.2.2.2.2.2.2.2.2.2.2.2.2.2.2.2.2.2.2.1
theorem k0_dev111_lt : ∀ (v0 : BitVec 32) (k0_hw1 : k0_chk1 v0), (k0_dev111 v0) < nD := fun v0 k0_hw1 => k0_hw1.2.1.2.2.2.2.2.2.2.2.2.2.2.2.2.2.2.2.2.2.2.2.2.2.2.1
theorem k0_dev113_lt : ∀ (v0 : BitVec 32) (k0_hw1 : k0_chk1 v0), (k0_dev113 v0) < nD := fun v0 k0_hw1 => k0_hw1.2.1.2.2.2.2.2.2.2.2.2.2.2.2.2.2.2.2.2.2.2.2.2.2.2.2.1
theorem k0_dev115_lt : ∀ (v0 : BitVec 32) (k0_hw1 : k0_chk1 v0), (k0_dev115 v0) < nD := fun v0 k0_hw1 => k0_hw1.2.1.2.2.2.2.2.2.2.2.2.2.2.2.2.2.2.2.2.2.2.2.2.2.2.2.2.1
theorem k0_dev117_lt : ∀ (v0 : BitVec 32) (k0_hw1 : k0_chk1 v0), (k0_dev117 v0) < nD := fun v0 k0_hw1 => k0_hw1.2.1.2.2.2.2.2.2.2.2.2.2.2.2.2.2.2.2.2.2.2.2.2.2.2.2.2.2.1
theorem k0_dev120_lt : ∀ (v0 : BitVec 32) (k0_hw1 : k0_chk1 v0), (k0_dev120 v0) < nD := fun v0 k0_hw1 => k0_hw1.2.1.2.2.2.2.2.2.2.2.2.2.2.2.2.2.2.2.2.2.2.2.2.2.2.2.2.2.2.1
theorem k0_dev121_lt : ∀ (v0 : BitVec 32) (k0_hw1 : k0_chk1 v0), (k0_dev121 v0) < nD := fun v0 k0_hw1 => k0_hw1.2.1.2.2.2.2.2.2.2.2.2.2.2.2.2.2.2.2.2.2.2.2.2.2.2.2.2.2.2.2.1
theorem k0_dev123_lt : ∀ (v0 : BitVec 32) (k0_hw1 : k0_chk1 v0), (k0_dev123 v0) < nD := fun v0 k0_hw1 => k0_hw1.2.1.2.2.2.2.2.2.2.2.2.2.2.2.2.2.2.2.2.2.2.2.2.2.2.2.2.2.2.2.2.1
theorem k0_dev125_lt : ∀ (v0 : BitVec 32) (k0_hw1 : k0_chk1 v0), (k0_dev125 v0) < nD := fun v0 k0_hw1 => k0_hw1.2.1.2.2.2.2.2.2.2.2.2.2.2.2.2.2.2.2.2.2.2.2.2.2.2.2.2.2.2.2.2.2.1
theorem k0_dev127_lt : ∀ (v0 : BitVec 32) (k0_hw1 : k0_chk1 v0), (k0_dev127 v0) < nD := fun v0 k0_hw1 => k0_hw1.2.1.2.2.2.2.2.2.2.2.2.2.2.2.2.2.2.2.2.2.2.2.2.2.2.2.2.2.2.2.2.2.2
theorem k0_dev130_lt : ∀ (v0 : BitVec 32) (k0_hw1 : k0_chk1 v0), (k0_dev130 v0) < nD := fun v0 k0_hw1 => k0_hw1.2.2.1
theorem k0_dev131_lt : ∀ (v0 : BitVec 32) (k0_hw1 : k0_chk1 v0), (k0_dev131 v0) < nD := fun v0 k0_hw1 => k0_hw1.2.2.2.1
theorem k0_dev133_lt : ∀ (v0 : BitVec 32) (k0_hw1 : k0_chk1 v0), (k0_dev133 v0) < nD := fun v0 k0_hw1 => k0_hw1.2.2.2.2.1
theorem k0_dev135_lt : ∀ (v0 : BitVec 32) (k0_hw1 : k0_chk1 v0), (k0_dev135 v0) < nD := fun v0 k0_hw1 => k0_hw1.2.2.2.2.2.1
theorem k0_dev137_lt : ∀ (v0 : BitVec 32) (k0_hw1 : k0_chk1 v0), (k0_dev137 v0) < nD := fun v0 k0_hw1 => k0_hw1.2.2.2.2.2.2.1
theorem k0_dev140_lt : ∀ (v0 : BitVec 32) (k0_hw1 : k0_chk1 v0), (k0_dev140 v0) < nD := fun v0 k0_hw1 => k0_hw1.2.2.2.2.2.2.2.1
theorem k0_dev141_lt : ∀ (v0 : BitVec 32) (k0_hw1 : k0_chk1 v0), (k0_dev141 v0) < nD := fun v0 k0_hw1 => k0_hw1.2.2.2.2.2.2.2.2.1
theorem k0_dev143_lt : ∀ (v0 : BitVec 32) (k0_hw1 : k0_chk1 v0), (k0_dev143 v0) < nD := fun v0 k0_hw1 => k0_hw1.2.2.2.2.2.2.2.2.2.1
theorem k0_dev145_lt : ∀ (v0 : BitVec 32) (k0_hw1 : k0_chk1 v0), (k0_dev145 v0) < nD := fun v0 k0_hw1 => k0_hw1.2.2.2.2.2.2.2.2.2.2.1
theorem k0_dev147_lt : ∀ (v0 : BitVec 32) (k0_hw1 : k0_chk1 v0), (k0_dev147 v0) < nD := fun v0 k0_hw1 => k0_hw1.2.2.2.2.2.2.2.2.2.2.2.1
theorem k0_dev150_lt : ∀ (v0 : BitVec 32) (k0_hw1 : k0_chk1 v0), (k0_dev150 v0) < nD := fun v0 k0_hw1 => k0_hw1.2.2.2.2.2.2.2.2.2.2.2.2.1
theorem k0_dev151_lt : ∀ (v0 : BitVec 32) (k0_hw1 : k0_chk1 v0), (k0_dev151 v0) < nD := fun v0 k0_hw1 => k0_hw1.2.2.2.2.2.2.2.2.2.2.2.2.2.1
theorem k0_dev152_lt : ∀ (v0 : BitVec 32) (k0_hw1 : k0_chk1 v0), (k0_dev152 v0) < nD := fun v0 k0_hw1 => k0_hw1.2.2.2.2.2.2.2.2.2.2.2.2.2.2

def k0_off59 (v3613 : BitVec 32) : Fin 2 → Nat :=
  let c128_i32_4868 : BitVec 32 := 128#32
  let v3619 : BitVec 32 := Scalar.muli v3613 c128_i32_4868
  let c0_i32_4869 : BitVec 32 := 0#32
  let v3620 : BitVec 32 := Scalar.addi v3619 c0_i32_4869
  let v3621 : Index := Scalar.indexCast v3620
  let c0_4870 : Index := 0#32
  ![v3621.toNat, 0]

def k0_chk61 (v3613 : BitVec 32) : Prop :=
  (∀ a, (k0_off59 v3613) a + S64x256.size a ≤ S4096x256.size a)
theorem k0_off59_inb : ∀ (v3613 : BitVec 32) (k0_hw61 : k0_chk61 v3613), ∀ a, (k0_off59 v3613) a + S64x256.size a ≤ S4096x256.size a := fun v3613 k0_hw61 => k0_hw61

def k0_off60 (v3625 : BitVec 32) : Fin 2 → Nat :=
  let c128_i32_4878 : BitVec 32 := 128#32
  let v3631 : BitVec 32 := Scalar.muli v3625 c128_i32_4878
  let c0_i32_4879 : BitVec 32 := 0#32
  let v3632 : BitVec 32 := Scalar.addi v3631 c0_i32_4879
  let v3633 : Index := Scalar.indexCast v3632
  let c0_4880 : Index := 0#32
  ![v3633.toNat, 0]

def k0_chk62 (v3625 : BitVec 32) : Prop :=
  (∀ a, (k0_off60 v3625) a + S64x256.size a ≤ S4096x256.size a)
theorem k0_off60_inb : ∀ (v3625 : BitVec 32) (k0_hw62 : k0_chk62 v3625), ∀ a, (k0_off60 v3625) a + S64x256.size a ≤ S4096x256.size a := fun v3625 k0_hw62 => k0_hw62

def k0_dev153 (v1 : BitVec 32) : Nat :=
  let c0_i32_4912 : BitVec 32 := 0#32
  let c1_i32_4911 : BitVec 32 := 1#32
  let v3651 : BitVec 32 := Scalar.muli v1 c1_i32_4911
  let v3652 : BitVec 32 := Scalar.addi c0_i32_4912 v3651
  v3652.toNat
def k0_dev154 (v1 : BitVec 32) : Nat :=
  let c0_i32_4948 : BitVec 32 := 0#32
  let c1_i32_4947 : BitVec 32 := 1#32
  let v3677 : BitVec 32 := Scalar.muli v1 c1_i32_4947
  let v3678 : BitVec 32 := Scalar.addi c0_i32_4948 v3677
  v3678.toNat

def k0_chk2_0 (v1 : BitVec 32) : Prop :=
  ((k0_dev2 v1) < nD) ∧
  ((k0_dev4 v1) < nD) ∧
  ((k0_dev6 v1) < nD) ∧
  ((k0_dev8 v1) < nD) ∧
  ((k0_dev10 v1) < nD) ∧
  ((k0_dev12 v1) < nD) ∧
  ((k0_dev14 v1) < nD) ∧
  ((k0_dev16 v1) < nD) ∧
  ((k0_dev18 v1) < nD) ∧
  ((k0_dev19 v1) < nD) ∧
  ((k0_dev22 v1) < nD) ∧
  ((k0_dev24 v1) < nD) ∧
  ((k0_dev26 v1) < nD) ∧
  ((k0_dev28 v1) < nD) ∧
  ((k0_dev29 v1) < nD) ∧
  ((k0_dev32 v1) < nD) ∧
  ((k0_dev34 v1) < nD) ∧
  ((k0_dev36 v1) < nD) ∧
  ((k0_dev38 v1) < nD) ∧
  ((k0_dev39 v1) < nD) ∧
  ((k0_dev42 v1) < nD) ∧
  ((k0_dev44 v1) < nD) ∧
  ((k0_dev46 v1) < nD) ∧
  ((k0_dev48 v1) < nD) ∧
  ((k0_dev49 v1) < nD) ∧
  ((k0_dev52 v1) < nD) ∧
  ((k0_dev54 v1) < nD) ∧
  ((k0_dev56 v1) < nD) ∧
  ((k0_dev58 v1) < nD) ∧
  ((k0_dev59 v1) < nD) ∧
  ((k0_dev62 v1) < nD) ∧
  ((k0_dev64 v1) < nD)
def k0_chk2_1 (v1 : BitVec 32) : Prop :=
  ((k0_dev66 v1) < nD) ∧
  ((k0_dev68 v1) < nD) ∧
  ((k0_dev69 v1) < nD) ∧
  ((k0_dev72 v1) < nD) ∧
  ((k0_dev74 v1) < nD) ∧
  ((k0_dev76 v1) < nD) ∧
  ((k0_dev78 v1) < nD) ∧
  ((k0_dev79 v1) < nD) ∧
  ((k0_dev82 v1) < nD) ∧
  ((k0_dev84 v1) < nD) ∧
  ((k0_dev86 v1) < nD) ∧
  ((k0_dev88 v1) < nD) ∧
  ((k0_dev89 v1) < nD) ∧
  ((k0_dev92 v1) < nD) ∧
  ((k0_dev94 v1) < nD) ∧
  ((k0_dev96 v1) < nD) ∧
  ((k0_dev98 v1) < nD) ∧
  ((k0_dev99 v1) < nD) ∧
  ((k0_dev102 v1) < nD) ∧
  ((k0_dev104 v1) < nD) ∧
  ((k0_dev106 v1) < nD) ∧
  ((k0_dev108 v1) < nD) ∧
  ((k0_dev109 v1) < nD) ∧
  ((k0_dev112 v1) < nD) ∧
  ((k0_dev114 v1) < nD) ∧
  ((k0_dev116 v1) < nD) ∧
  ((k0_dev118 v1) < nD) ∧
  ((k0_dev119 v1) < nD) ∧
  ((k0_dev122 v1) < nD) ∧
  ((k0_dev124 v1) < nD) ∧
  ((k0_dev126 v1) < nD) ∧
  ((k0_dev128 v1) < nD)
def k0_chk2_2 (v1 : BitVec 32) : Prop :=
  ((k0_dev129 v1) < nD) ∧
  ((k0_dev132 v1) < nD) ∧
  ((k0_dev134 v1) < nD) ∧
  ((k0_dev136 v1) < nD) ∧
  ((k0_dev138 v1) < nD) ∧
  ((k0_dev139 v1) < nD) ∧
  ((k0_dev142 v1) < nD) ∧
  ((k0_dev144 v1) < nD) ∧
  ((k0_dev146 v1) < nD) ∧
  ((k0_dev148 v1) < nD) ∧
  ((k0_dev149 v1) < nD) ∧
  ((k0_dev153 v1) < nD) ∧
  ((k0_dev154 v1) < nD)
def k0_chk2 (v1 : BitVec 32) : Prop :=
  k0_chk2_0 v1 ∧
  k0_chk2_1 v1 ∧
  k0_chk2_2 v1
theorem k0_dev2_lt : ∀ (v1 : BitVec 32) (k0_hw2 : k0_chk2 v1), (k0_dev2 v1) < nD := fun v1 k0_hw2 => k0_hw2.1.1
theorem k0_dev4_lt : ∀ (v1 : BitVec 32) (k0_hw2 : k0_chk2 v1), (k0_dev4 v1) < nD := fun v1 k0_hw2 => k0_hw2.1.2.1
theorem k0_dev6_lt : ∀ (v1 : BitVec 32) (k0_hw2 : k0_chk2 v1), (k0_dev6 v1) < nD := fun v1 k0_hw2 => k0_hw2.1.2.2.1
theorem k0_dev8_lt : ∀ (v1 : BitVec 32) (k0_hw2 : k0_chk2 v1), (k0_dev8 v1) < nD := fun v1 k0_hw2 => k0_hw2.1.2.2.2.1
theorem k0_dev10_lt : ∀ (v1 : BitVec 32) (k0_hw2 : k0_chk2 v1), (k0_dev10 v1) < nD := fun v1 k0_hw2 => k0_hw2.1.2.2.2.2.1
theorem k0_dev12_lt : ∀ (v1 : BitVec 32) (k0_hw2 : k0_chk2 v1), (k0_dev12 v1) < nD := fun v1 k0_hw2 => k0_hw2.1.2.2.2.2.2.1
theorem k0_dev14_lt : ∀ (v1 : BitVec 32) (k0_hw2 : k0_chk2 v1), (k0_dev14 v1) < nD := fun v1 k0_hw2 => k0_hw2.1.2.2.2.2.2.2.1
theorem k0_dev16_lt : ∀ (v1 : BitVec 32) (k0_hw2 : k0_chk2 v1), (k0_dev16 v1) < nD := fun v1 k0_hw2 => k0_hw2.1.2.2.2.2.2.2.2.1
theorem k0_dev18_lt : ∀ (v1 : BitVec 32) (k0_hw2 : k0_chk2 v1), (k0_dev18 v1) < nD := fun v1 k0_hw2 => k0_hw2.1.2.2.2.2.2.2.2.2.1
theorem k0_dev19_lt : ∀ (v1 : BitVec 32) (k0_hw2 : k0_chk2 v1), (k0_dev19 v1) < nD := fun v1 k0_hw2 => k0_hw2.1.2.2.2.2.2.2.2.2.2.1
theorem k0_dev22_lt : ∀ (v1 : BitVec 32) (k0_hw2 : k0_chk2 v1), (k0_dev22 v1) < nD := fun v1 k0_hw2 => k0_hw2.1.2.2.2.2.2.2.2.2.2.2.1
theorem k0_dev24_lt : ∀ (v1 : BitVec 32) (k0_hw2 : k0_chk2 v1), (k0_dev24 v1) < nD := fun v1 k0_hw2 => k0_hw2.1.2.2.2.2.2.2.2.2.2.2.2.1
theorem k0_dev26_lt : ∀ (v1 : BitVec 32) (k0_hw2 : k0_chk2 v1), (k0_dev26 v1) < nD := fun v1 k0_hw2 => k0_hw2.1.2.2.2.2.2.2.2.2.2.2.2.2.1
theorem k0_dev28_lt : ∀ (v1 : BitVec 32) (k0_hw2 : k0_chk2 v1), (k0_dev28 v1) < nD := fun v1 k0_hw2 => k0_hw2.1.2.2.2.2.2.2.2.2.2.2.2.2.2.1
theorem k0_dev29_lt : ∀ (v1 : BitVec 32) (k0_hw2 : k0_chk2 v1), (k0_dev29 v1) < nD := fun v1 k0_hw2 => k0_hw2.1.2.2.2.2.2.2.2.2.2.2.2.2.2.2.1
theorem k0_dev32_lt : ∀ (v1 : BitVec 32) (k0_hw2 : k0_chk2 v1), (k0_dev32 v1) < nD := fun v1 k0_hw2 => k0_hw2.1.2.2.2.2.2.2.2.2.2.2.2.2.2.2.2.1
theorem k0_dev34_lt : ∀ (v1 : BitVec 32) (k0_hw2 : k0_chk2 v1), (k0_dev34 v1) < nD := fun v1 k0_hw2 => k0_hw2.1.2.2.2.2.2.2.2.2.2.2.2.2.2.2.2.2.1
theorem k0_dev36_lt : ∀ (v1 : BitVec 32) (k0_hw2 : k0_chk2 v1), (k0_dev36 v1) < nD := fun v1 k0_hw2 => k0_hw2.1.2.2.2.2.2.2.2.2.2.2.2.2.2.2.2.2.2.1
theorem k0_dev38_lt : ∀ (v1 : BitVec 32) (k0_hw2 : k0_chk2 v1), (k0_dev38 v1) < nD := fun v1 k0_hw2 => k0_hw2.1.2.2.2.2.2.2.2.2.2.2.2.2.2.2.2.2.2.2.1
theorem k0_dev39_lt : ∀ (v1 : BitVec 32) (k0_hw2 : k0_chk2 v1), (k0_dev39 v1) < nD := fun v1 k0_hw2 => k0_hw2.1.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.1
theorem k0_dev44_lt : ∀ (v1 : BitVec 32) (k0_hw2 : k0_chk2 v1), (k0_dev44 v1) < nD := fun v1 k0_hw2 => k0_hw2.1.2.2.2.2.2.2.2.2.2.2.2.2.2.2.2.2.2.2.2.2.2.1
theorem k0_dev46_lt : ∀ (v1 : BitVec 32) (k0_hw2 : k0_chk2 v1), (k0_dev46 v1) < nD := fun v1 k0_hw2 => k0_hw2.1.2.2.2.2.2.2.2.2.2.2.2.2.2.2.2.2.2.2.2.2.2.2.1
theorem k0_dev48_lt : ∀ (v1 : BitVec 32) (k0_hw2 : k0_chk2 v1), (k0_dev48 v1) < nD := fun v1 k0_hw2 => k0_hw2.1.2.2.2.2.2.2.2.2.2.2.2.2.2.2.2.2.2.2.2.2.2.2.2.1
theorem k0_dev49_lt : ∀ (v1 : BitVec 32) (k0_hw2 : k0_chk2 v1), (k0_dev49 v1) < nD := fun v1 k0_hw2 => k0_hw2.1.2.2.2.2.2.2.2.2.2.2.2.2.2.2.2.2.2.2.2.2.2.2.2.2.1
theorem k0_dev52_lt : ∀ (v1 : BitVec 32) (k0_hw2 : k0_chk2 v1), (k0_dev52 v1) < nD := fun v1 k0_hw2 => k0_hw2.1.2.2.2.2.2.2.2.2.2.2.2.2.2.2.2.2.2.2.2.2.2.2.2.2.2.1
theorem k0_dev54_lt : ∀ (v1 : BitVec 32) (k0_hw2 : k0_chk2 v1), (k0_dev54 v1) < nD := fun v1 k0_hw2 => k0_hw2.1.2.2.2.2.2.2.2.2.2.2.2.2.2.2.2.2.2.2.2.2.2.2.2.2.2.2.1
theorem k0_dev56_lt : ∀ (v1 : BitVec 32) (k0_hw2 : k0_chk2 v1), (k0_dev56 v1) < nD := fun v1 k0_hw2 => k0_hw2.1.2.2.2.2.2.2.2.2.2.2.2.2.2.2.2.2.2.2.2.2.2.2.2.2.2.2.2.1
theorem k0_dev58_lt : ∀ (v1 : BitVec 32) (k0_hw2 : k0_chk2 v1), (k0_dev58 v1) < nD := fun v1 k0_hw2 => k0_hw2.1.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.1
theorem k0_dev62_lt : ∀ (v1 : BitVec 32) (k0_hw2 : k0_chk2 v1), (k0_dev62 v1) < nD := fun v1 k0_hw2 => k0_hw2.1.2.2.2.2.2.2.2.2.2.2.2.2.2.2.2.2.2.2.2.2.2.2.2.2.2.2.2.2.2.2.1
theorem k0_dev64_lt : ∀ (v1 : BitVec 32) (k0_hw2 : k0_chk2 v1), (k0_dev64 v1) < nD := fun v1 k0_hw2 => k0_hw2.1.2.2.2.2.2.2.2.2.2.2.2.2.2.2.2.2.2.2.2.2.2.2.2.2.2.2.2.2.2.2.2
theorem k0_dev66_lt : ∀ (v1 : BitVec 32) (k0_hw2 : k0_chk2 v1), (k0_dev66 v1) < nD := fun v1 k0_hw2 => k0_hw2.2.1.1
theorem k0_dev68_lt : ∀ (v1 : BitVec 32) (k0_hw2 : k0_chk2 v1), (k0_dev68 v1) < nD := fun v1 k0_hw2 => k0_hw2.2.1.2.1
theorem k0_dev69_lt : ∀ (v1 : BitVec 32) (k0_hw2 : k0_chk2 v1), (k0_dev69 v1) < nD := fun v1 k0_hw2 => k0_hw2.2.1.2.2.1
theorem k0_dev72_lt : ∀ (v1 : BitVec 32) (k0_hw2 : k0_chk2 v1), (k0_dev72 v1) < nD := fun v1 k0_hw2 => k0_hw2.2.1.2.2.2.1
theorem k0_dev74_lt : ∀ (v1 : BitVec 32) (k0_hw2 : k0_chk2 v1), (k0_dev74 v1) < nD := fun v1 k0_hw2 => k0_hw2.2.1.2.2.2.2.1
theorem k0_dev76_lt : ∀ (v1 : BitVec 32) (k0_hw2 : k0_chk2 v1), (k0_dev76 v1) < nD := fun v1 k0_hw2 => k0_hw2.2.1.2.2.2.2.2.1
theorem k0_dev78_lt : ∀ (v1 : BitVec 32) (k0_hw2 : k0_chk2 v1), (k0_dev78 v1) < nD := fun v1 k0_hw2 => k0_hw2.2.1.2.2.2.2.2.2.1
theorem k0_dev79_lt : ∀ (v1 : BitVec 32) (k0_hw2 : k0_chk2 v1), (k0_dev79 v1) < nD := fun v1 k0_hw2 => k0_hw2.2.1.2.2.2.2.2.2.2.1
theorem k0_dev82_lt : ∀ (v1 : BitVec 32) (k0_hw2 : k0_chk2 v1), (k0_dev82 v1) < nD := fun v1 k0_hw2 => k0_hw2.2.1.2.2.2.2.2.2.2.2.1
theorem k0_dev84_lt : ∀ (v1 : BitVec 32) (k0_hw2 : k0_chk2 v1), (k0_dev84 v1) < nD := fun v1 k0_hw2 => k0_hw2.2.1.2.2.2.2.2.2.2.2.2.1
theorem k0_dev86_lt : ∀ (v1 : BitVec 32) (k0_hw2 : k0_chk2 v1), (k0_dev86 v1) < nD := fun v1 k0_hw2 => k0_hw2.2.1.2.2.2.2.2.2.2.2.2.2.1
theorem k0_dev88_lt : ∀ (v1 : BitVec 32) (k0_hw2 : k0_chk2 v1), (k0_dev88 v1) < nD := fun v1 k0_hw2 => k0_hw2.2.1.2.2.2.2.2.2.2.2.2.2.2.1
theorem k0_dev89_lt : ∀ (v1 : BitVec 32) (k0_hw2 : k0_chk2 v1), (k0_dev89 v1) < nD := fun v1 k0_hw2 => k0_hw2.2.1.2.2.2.2.2.2.2.2.2.2.2.2.1
theorem k0_dev92_lt : ∀ (v1 : BitVec 32) (k0_hw2 : k0_chk2 v1), (k0_dev92 v1) < nD := fun v1 k0_hw2 => k0_hw2.2.1.2.2.2.2.2.2.2.2.2.2.2.2.2.1
theorem k0_dev94_lt : ∀ (v1 : BitVec 32) (k0_hw2 : k0_chk2 v1), (k0_dev94 v1) < nD := fun v1 k0_hw2 => k0_hw2.2.1.2.2.2.2.2.2.2.2.2.2.2.2.2.2.1
theorem k0_dev96_lt : ∀ (v1 : BitVec 32) (k0_hw2 : k0_chk2 v1), (k0_dev96 v1) < nD := fun v1 k0_hw2 => k0_hw2.2.1.2.2.2.2.2.2.2.2.2.2.2.2.2.2.2.1
theorem k0_dev98_lt : ∀ (v1 : BitVec 32) (k0_hw2 : k0_chk2 v1), (k0_dev98 v1) < nD := fun v1 k0_hw2 => k0_hw2.2.1.2.2.2.2.2.2.2.2.2.2.2.2.2.2.2.2.1
theorem k0_dev99_lt : ∀ (v1 : BitVec 32) (k0_hw2 : k0_chk2 v1), (k0_dev99 v1) < nD := fun v1 k0_hw2 => k0_hw2.2.1.2.2.2.2.2.2.2.2.2.2.2.2.2.2.2.2.2.1
theorem k0_dev102_lt : ∀ (v1 : BitVec 32) (k0_hw2 : k0_chk2 v1), (k0_dev102 v1) < nD := fun v1 k0_hw2 => k0_hw2.2.1.2.2.2.2.2.2.2.2.2.2.2.2.2.2.2.2.2.2.1
theorem k0_dev104_lt : ∀ (v1 : BitVec 32) (k0_hw2 : k0_chk2 v1), (k0_dev104 v1) < nD := fun v1 k0_hw2 => k0_hw2.2.1.2.2.2.2.2.2.2.2.2.2.2.2.2.2.2.2.2.2.2.1
theorem k0_dev106_lt : ∀ (v1 : BitVec 32) (k0_hw2 : k0_chk2 v1), (k0_dev106 v1) < nD := fun v1 k0_hw2 => k0_hw2.2.1.2.2.2.2.2.2.2.2.2.2.2.2.2.2.2.2.2.2.2.2.1
theorem k0_dev108_lt : ∀ (v1 : BitVec 32) (k0_hw2 : k0_chk2 v1), (k0_dev108 v1) < nD := fun v1 k0_hw2 => k0_hw2.2.1.2.2.2.2.2.2.2.2.2.2.2.2.2.2.2.2.2.2.2.2.2.1
theorem k0_dev109_lt : ∀ (v1 : BitVec 32) (k0_hw2 : k0_chk2 v1), (k0_dev109 v1) < nD := fun v1 k0_hw2 => k0_hw2.2.1.2.2.2.2.2.2.2.2.2.2.2.2.2.2.2.2.2.2.2.2.2.2.1
theorem k0_dev112_lt : ∀ (v1 : BitVec 32) (k0_hw2 : k0_chk2 v1), (k0_dev112 v1) < nD := fun v1 k0_hw2 => k0_hw2.2.1.2.2.2.2.2.2.2.2.2.2.2.2.2.2.2.2.2.2.2.2.2.2.2.1
theorem k0_dev114_lt : ∀ (v1 : BitVec 32) (k0_hw2 : k0_chk2 v1), (k0_dev114 v1) < nD := fun v1 k0_hw2 => k0_hw2.2.1.2.2.2.2.2.2.2.2.2.2.2.2.2.2.2.2.2.2.2.2.2.2.2.2.1
theorem k0_dev116_lt : ∀ (v1 : BitVec 32) (k0_hw2 : k0_chk2 v1), (k0_dev116 v1) < nD := fun v1 k0_hw2 => k0_hw2.2.1.2.2.2.2.2.2.2.2.2.2.2.2.2.2.2.2.2.2.2.2.2.2.2.2.2.1
theorem k0_dev118_lt : ∀ (v1 : BitVec 32) (k0_hw2 : k0_chk2 v1), (k0_dev118 v1) < nD := fun v1 k0_hw2 => k0_hw2.2.1.2.2.2.2.2.2.2.2.2.2.2.2.2.2.2.2.2.2.2.2.2.2.2.2.2.2.1
theorem k0_dev119_lt : ∀ (v1 : BitVec 32) (k0_hw2 : k0_chk2 v1), (k0_dev119 v1) < nD := fun v1 k0_hw2 => k0_hw2.2.1.2.2.2.2.2.2.2.2.2.2.2.2.2.2.2.2.2.2.2.2.2.2.2.2.2.2.2.1
theorem k0_dev122_lt : ∀ (v1 : BitVec 32) (k0_hw2 : k0_chk2 v1), (k0_dev122 v1) < nD := fun v1 k0_hw2 => k0_hw2.2.1.2.2.2.2.2.2.2.2.2.2.2.2.2.2.2.2.2.2.2.2.2.2.2.2.2.2.2.2.1
theorem k0_dev124_lt : ∀ (v1 : BitVec 32) (k0_hw2 : k0_chk2 v1), (k0_dev124 v1) < nD := fun v1 k0_hw2 => k0_hw2.2.1.2.2.2.2.2.2.2.2.2.2.2.2.2.2.2.2.2.2.2.2.2.2.2.2.2.2.2.2.2.1
theorem k0_dev126_lt : ∀ (v1 : BitVec 32) (k0_hw2 : k0_chk2 v1), (k0_dev126 v1) < nD := fun v1 k0_hw2 => k0_hw2.2.1.2.2.2.2.2.2.2.2.2.2.2.2.2.2.2.2.2.2.2.2.2.2.2.2.2.2.2.2.2.2.1
theorem k0_dev128_lt : ∀ (v1 : BitVec 32) (k0_hw2 : k0_chk2 v1), (k0_dev128 v1) < nD := fun v1 k0_hw2 => k0_hw2.2.1.2.2.2.2.2.2.2.2.2.2.2.2.2.2.2.2.2.2.2.2.2.2.2.2.2.2.2.2.2.2.2
theorem k0_dev129_lt : ∀ (v1 : BitVec 32) (k0_hw2 : k0_chk2 v1), (k0_dev129 v1) < nD := fun v1 k0_hw2 => k0_hw2.2.2.1
theorem k0_dev132_lt : ∀ (v1 : BitVec 32) (k0_hw2 : k0_chk2 v1), (k0_dev132 v1) < nD := fun v1 k0_hw2 => k0_hw2.2.2.2.1
theorem k0_dev134_lt : ∀ (v1 : BitVec 32) (k0_hw2 : k0_chk2 v1), (k0_dev134 v1) < nD := fun v1 k0_hw2 => k0_hw2.2.2.2.2.1
theorem k0_dev136_lt : ∀ (v1 : BitVec 32) (k0_hw2 : k0_chk2 v1), (k0_dev136 v1) < nD := fun v1 k0_hw2 => k0_hw2.2.2.2.2.2.1
theorem k0_dev138_lt : ∀ (v1 : BitVec 32) (k0_hw2 : k0_chk2 v1), (k0_dev138 v1) < nD := fun v1 k0_hw2 => k0_hw2.2.2.2.2.2.2.1
theorem k0_dev139_lt : ∀ (v1 : BitVec 32) (k0_hw2 : k0_chk2 v1), (k0_dev139 v1) < nD := fun v1 k0_hw2 => k0_hw2.2.2.2.2.2.2.2.1
theorem k0_dev142_lt : ∀ (v1 : BitVec 32) (k0_hw2 : k0_chk2 v1), (k0_dev142 v1) < nD := fun v1 k0_hw2 => k0_hw2.2.2.2.2.2.2.2.2.1
theorem k0_dev144_lt : ∀ (v1 : BitVec 32) (k0_hw2 : k0_chk2 v1), (k0_dev144 v1) < nD := fun v1 k0_hw2 => k0_hw2.2.2.2.2.2.2.2.2.2.1
theorem k0_dev146_lt : ∀ (v1 : BitVec 32) (k0_hw2 : k0_chk2 v1), (k0_dev146 v1) < nD := fun v1 k0_hw2 => k0_hw2.2.2.2.2.2.2.2.2.2.2.1
theorem k0_dev148_lt : ∀ (v1 : BitVec 32) (k0_hw2 : k0_chk2 v1), (k0_dev148 v1) < nD := fun v1 k0_hw2 => k0_hw2.2.2.2.2.2.2.2.2.2.2.2.1
theorem k0_dev149_lt : ∀ (v1 : BitVec 32) (k0_hw2 : k0_chk2 v1), (k0_dev149 v1) < nD := fun v1 k0_hw2 => k0_hw2.2.2.2.2.2.2.2.2.2.2.2.2.1
theorem k0_dev153_lt : ∀ (v1 : BitVec 32) (k0_hw2 : k0_chk2 v1), (k0_dev153 v1) < nD := fun v1 k0_hw2 => k0_hw2.2.2.2.2.2.2.2.2.2.2.2.2.2.1
theorem k0_dev154_lt : ∀ (v1 : BitVec 32) (k0_hw2 : k0_chk2 v1), (k0_dev154 v1) < nD := fun v1 k0_hw2 => k0_hw2.2.2.2.2.2.2.2.2.2.2.2.2.2.2

def k0_off61 (v3689 : BitVec 32) : Fin 2 → Nat :=
  let c128_i32_4960 : BitVec 32 := 128#32
  let v3695 : BitVec 32 := Scalar.muli v3689 c128_i32_4960
  let c64_i32_4961 : BitVec 32 := 64#32
  let v3696 : BitVec 32 := Scalar.addi v3695 c64_i32_4961
  let v3697 : Index := Scalar.indexCast v3696
  let c0_4962 : Index := 0#32
  ![v3697.toNat, 0]

def k0_chk63 (v3689 : BitVec 32) : Prop :=
  (∀ a, (k0_off61 v3689) a + S64x256.size a ≤ S4096x256.size a)
theorem k0_off61_inb : ∀ (v3689 : BitVec 32) (k0_hw63 : k0_chk63 v3689), ∀ a, (k0_off61 v3689) a + S64x256.size a ≤ S4096x256.size a := fun v3689 k0_hw63 => k0_hw63

def k0_off62 (v3701 : BitVec 32) : Fin 2 → Nat :=
  let c128_i32_4970 : BitVec 32 := 128#32
  let v3707 : BitVec 32 := Scalar.muli v3701 c128_i32_4970
  let c64_i32_4971 : BitVec 32 := 64#32
  let v3708 : BitVec 32 := Scalar.addi v3707 c64_i32_4971
  let v3709 : Index := Scalar.indexCast v3708
  let c0_4972 : Index := 0#32
  ![v3709.toNat, 0]

def k0_chk64 (v3701 : BitVec 32) : Prop :=
  (∀ a, (k0_off62 v3701) a + S64x256.size a ≤ S4096x256.size a)
theorem k0_off62_inb : ∀ (v3701 : BitVec 32) (k0_hw64 : k0_chk64 v3701), ∀ a, (k0_off62 v3701) a + S64x256.size a ≤ S4096x256.size a := fun v3701 k0_hw64 => k0_hw64

def k0_off63 (v3753 : BitVec 32) : Fin 2 → Nat :=
  let c128_i32_5047 : BitVec 32 := 128#32
  let v3759 : BitVec 32 := Scalar.muli v3753 c128_i32_5047
  let c0_i32_5048 : BitVec 32 := 0#32
  let v3760 : BitVec 32 := Scalar.addi v3759 c0_i32_5048
  let v3761 : Index := Scalar.indexCast v3760
  let c0_5049 : Index := 0#32
  ![v3761.toNat, 0]

def k0_chk65 (v3753 : BitVec 32) : Prop :=
  (∀ a, (k0_off63 v3753) a + S64x256.size a ≤ S4096x256.size a)
theorem k0_off63_inb : ∀ (v3753 : BitVec 32) (k0_hw65 : k0_chk65 v3753), ∀ a, (k0_off63 v3753) a + S64x256.size a ≤ S4096x256.size a := fun v3753 k0_hw65 => k0_hw65

def k0_off64 (v3781 : BitVec 32) : Fin 2 → Nat :=
  let c128_i32_5081 : BitVec 32 := 128#32
  let v3787 : BitVec 32 := Scalar.muli v3781 c128_i32_5081
  let c64_i32_5082 : BitVec 32 := 64#32
  let v3788 : BitVec 32 := Scalar.addi v3787 c64_i32_5082
  let v3789 : Index := Scalar.indexCast v3788
  let c0_5083 : Index := 0#32
  ![v3789.toNat, 0]

def k0_chk66 (v3781 : BitVec 32) : Prop :=
  (∀ a, (k0_off64 v3781) a + S64x256.size a ≤ S4096x256.size a)
theorem k0_off64_inb : ∀ (v3781 : BitVec 32) (k0_hw66 : k0_chk66 v3781), ∀ a, (k0_off64 v3781) a + S64x256.size a ≤ S4096x256.size a := fun v3781 k0_hw66 => k0_hw66

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S17 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .local _ .vmem, ⟨0, _⟩ => ⟨S4096x4096, .f32⟩
  | .local _ .vmem, ⟨1, _⟩ => ⟨S4096x8192, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F] [Named F]

def κ : String → Option EReal := fun
  | "clip_hi" => some ⊤
  | "clip_lo" => some ⊥
  | _ => none

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Ideal.Places.lean ====
/- The ring's order: the device at each place, the place of each device, and the block each hop brings. -/
module

public import Mathlib.Data.Fin.VecNotation
public import Mathlib.Tactic.FinCases

@[expose] public section

namespace Cert.Ring

/-- The device at each place of the ring. -/
def order : Fin 32 → Fin 32 :=
  ![0, 3, 4, 7, 15, 12, 11, 8, 16, 19, 20, 23, 31, 28, 27, 24, 25, 26, 29, 30, 22, 21, 18, 17, 9, 10, 13, 14, 6, 5, 2, 1]

/-- The place of each device in the ring. -/
def place : Fin 32 → Fin 32 :=
  ![0, 31, 30, 1, 2, 29, 28, 3, 7, 24, 25, 6, 5, 26, 27, 4, 8, 23, 22, 9, 10, 21, 20, 11, 15, 16, 17, 14, 13, 18, 19, 12]

/-- The device at place `n` modulo 32. -/
def at' (n : ℕ) : Fin 32 := order ⟨n % 32, Nat.mod_lt n (by decide)⟩

/-- The place of the device at a place. -/
theorem place_at (n : ℕ) : (place (at' n)).val = n % 32 := by
  have h : ∀ k : Fin 32, place (order k) = k := by decide
  exact congrArg Fin.val (h ⟨n % 32, Nat.mod_lt n (by decide)⟩)

/-- The device at a device's place. -/
theorem at_place (c : Fin 32) : at' (place c).val = c := by
  have h : ∀ c : Fin 32, order (place c) = c := by decide
  unfold at'
  have e : (⟨(place c).val % 32, Nat.mod_lt _ (by decide)⟩ : Fin 32) = place c := Fin.ext (Nat.mod_eq_of_lt (place c).isLt)
  rw [e, h]

/-- Places are taken modulo 32. -/
theorem at_congr {m n : ℕ} (h : m % 32 = n % 32) : at' m = at' n := by
  unfold at'
  simp only [h]

/-- A device is found by its place. -/
theorem eq_at {c : Fin 32} {n : ℕ} (h : (place c).val = n % 32) : c = at' n := by
  rw [← at_place c]
  exact at_congr (by rw [h, Nat.mod_mod])

/-- The place a lane's block comes from, one hop back: the forward lane (`true`) brings blocks from the predecessor's
    side, the backward one from the successor's. -/
def step : Bool → ℕ
  | true => 31
  | false => 1

/-- The device `h` hops back along a lane: whose block the lane holds after `h` hops. -/
def org (ℓ : Bool) (h : ℕ) (c : Fin 32) : Fin 32 := at' ((place c).val + step ℓ * h)

/-- The device a lane sends to. -/
abbrev dn (ℓ : Bool) (c : Fin 32) : Fin 32 := org (!ℓ) 1 c

/-- The device a lane receives from. -/
abbrev up (ℓ : Bool) (c : Fin 32) : Fin 32 := org ℓ 1 c

/-- After no hop a lane holds the device's own block. -/
theorem org_zero (ℓ : Bool) (c : Fin 32) : org ℓ 0 c = c := by
  unfold org
  rw [Nat.mul_zero, Nat.add_zero, at_place]

/-- Forward and backward steps cancel. -/
theorem step_not (ℓ : Bool) : step (!ℓ) = 32 - step ℓ ∧ step ℓ ≤ 31 ∧ 1 ≤ step ℓ := by
  cases ℓ <;> decide

/-- What a device holds after `h` hops its lane's next device holds after one more. -/
theorem org_dn (ℓ : Bool) (h : ℕ) (c : Fin 32) : org ℓ (h + 1) (dn ℓ c) = org ℓ h c := by
  unfold dn org
  apply at_congr
  rw [place_at]
  cases ℓ <;> simp only [step, Bool.not_true, Bool.not_false] <;> omega

/-- The receiving end of the sending end. -/
theorem up_dn (ℓ : Bool) (c : Fin 32) : up ℓ (dn ℓ c) = c := by
  have h := org_dn ℓ 0 c
  rw [org_zero] at h
  exact h

/-- The sending end of the receiving end. -/
theorem dn_up (ℓ : Bool) (c : Fin 32) : dn ℓ (up ℓ c) = c := by
  have h := up_dn (!ℓ) c
  simp only [up, dn, Bool.not_not] at h ⊢
  exact h

/-- The two lanes run in opposite directions. -/
theorem dn_not (ℓ : Bool) (c : Fin 32) : dn (!ℓ) c = up ℓ c := by
  simp only [up, dn, Bool.not_not]

/-- No device is its own neighbour's double: the two neighbours differ. -/
theorem dn_ne (c : Fin 32) : dn true c ≠ dn false c := by
  intro h
  have e := congrArg (fun d => (place d).val) h
  simp only [dn, org, place_at, step, Bool.not_true, Bool.not_false] at e
  omega

/-- Sixteen hops either way meet at the same device. -/
theorem org_half (c : Fin 32) : org false 16 c = org true 16 c := by
  unfold org
  apply at_congr
  simp only [step]
  omega

/-- Every device's block arrives within fifteen hops one way or the other, or is the one half way round. -/
theorem covered (c v : Fin 32) : (∃ h, h < 16 ∧ (v = org true h c ∨ v = org false h c)) ∨ v = org true 16 c := by
  have hc := (place c).isLt
  have hv := (place v).isLt
  obtain ⟨k, hk, e⟩ : ∃ k, k < 32 ∧ (place v).val = ((place c).val + k) % 32 := by
    refine ⟨((place v).val + 32 - (place c).val) % 32, Nat.mod_lt _ (by decide), ?_⟩
    omega
  rcases Nat.lt_trichotomy k 16 with h | h | h
  · exact Or.inl ⟨k, h, Or.inr (eq_at (by simp only [step]; omega))⟩
  · exact Or.inr (eq_at (by simp only [step]; omega))
  · exact Or.inl ⟨32 - k, by omega, Or.inl (eq_at (by simp only [step]; omega))⟩

end Cert.Ring

end
-- ==== Proof.Bits.ProgramEq.lean ====
/- The printed body is the chain of hops. -/
module

public import proofs.«01_k».proof.Proof.Bits.Program

@[expose] public section

noncomputable section

namespace Cert.Kernel.Ring

open Idealize.ShloMosaic Idealize.SL.Sem Cert.Kernel Cert.Kernel.Gen

variable {F : FTy → Type} [FloatOps F]

set_option maxRecDepth 1000000 in
set_option maxHeartbeats 0 in
/-- The printed body is the chain of hops. -/
theorem cc0_body_eq (arg0 : Memref sig .tc .smem S2 .i32) (harg0 : arg0.IsWhole) (arg1 : Memref sig .tc .smem S17 .i32) (harg1 : arg1.IsWhole)
    (arg2 : Memref sig .tc .smem S16 .i32) (harg2 : arg2.IsWhole) (arg3 : Memref sig .tc .vmem S128x4096 .f32) (harg3 : arg3.IsWhole)
    (arg4 : Memref sig .tc .vmem S4096x256 .f32) (harg4 : arg4.IsWhole) (arg5 : Memref sig .tc .vmem S4096x256 .f32) (harg5 : arg5.IsWhole)
    (arg6 : Memref sig .tc .vmem S2x128x4096 .f32) (harg6 : arg6.IsWhole) (arg7 : Memref sig .tc .vmem S2x128x4096 .f32) (harg7 : arg7.IsWhole)
    (arg8 arg9 arg10 arg11 : DmaSems sig S2x4) (arg12 arg13 : Sems sig S_) :
    cc0_body (F := F) arg0 harg0 arg1 harg1 arg2 harg2 arg3 harg3 arg4 harg4 arg5 harg5 arg6 harg6 arg7 harg7 arg8 arg9 arg10 arg11 arg12 arg13
      = body ⟨arg0, arg1, arg2, arg3, arg4, arg5, ⟨arg6, arg8, arg9, arg12⟩, ⟨arg7, arg10, arg11, arg13⟩⟩ := rfl

end Cert.Kernel.Ring

end
-- ==== Proof.Ideal.Program.lean ====
/- The kernel's body as a chain of hops over named actions, and the equation with the printed body. -/
module

public import proofs.«01_k».proof.Proof.Gen.KernelIdeal.Skeleton

@[expose] public section

noncomputable section

namespace Cert.KernelIdeal.Ring

open Idealize.ShloMosaic Idealize.SL.Sem Cert.KernelIdeal Cert.KernelIdeal.Gen

variable {F : FTy → Type} [FloatOps F]

/-- The programs of the kernel. -/
abbrev Pg (F : FTy → Type) : Type 1 := Prog (TpuEff nD τ sig (Elt F) Λ₀ .tc) PUnit

/-- One of the two directions the blocks travel in: the double buffer they land in, the sending and the receiving
    semaphores of each slot's pieces, and the credit semaphore. -/
structure Lane where
  comm : Memref sig .tc .vmem S2x128x4096 .f32
  snd : DmaSems sig S2x4
  rcv : DmaSems sig S2x4
  crd : Sems sig S_

/-- What the body is called with. -/
structure Args where
  nbr : Memref sig .tc .smem S2 .i32
  orf : Memref sig .tc .smem S17 .i32
  orb : Memref sig .tc .smem S16 .i32
  x : Memref sig .tc .vmem S128x4096 .f32
  w : Memref sig .tc .vmem S4096x256 .f32
  o : Memref sig .tc .vmem S4096x256 .f32
  f : Lane
  b : Lane

/-- Piece `j` of slot `s` lies in the double buffer. -/
theorem piece_inb (s : Fin 2) (j : Fin 4) : ∀ a, (![s.val, 32 * j.val, 0] : Fin 3 → Nat) a + S1x32x4096.size a ≤ S2x128x4096.size a := by
  intro a
  fin_cases a
  · show s.val + 1 ≤ 2
    omega
  · show 32 * j.val + 32 ≤ 128
    omega
  · show 0 + 4096 ≤ 4096
    omega

/-- Piece `j` lies in the local block. -/
theorem xpiece_inb (j : Fin 4) : ∀ a, (![32 * j.val, 0] : Fin 2 → Nat) a + S32x4096.size a ≤ S128x4096.size a := by
  intro a
  fin_cases a
  · show 32 * j.val + 32 ≤ 128
    omega
  · show 0 + 4096 ≤ 4096
    omega

/-- Half `i` of slot `s` lies in the double buffer. -/
theorem half_inb (s : Fin 2) (i : Fin 2) : ∀ a, (![s.val, 64 * i.val, 0] : Fin 3 → Nat) a + S1x64x4096.size a ≤ S2x128x4096.size a := by
  intro a
  fin_cases a
  · show s.val + 1 ≤ 2
    omega
  · show 64 * i.val + 64 ≤ 128
    omega
  · show 0 + 4096 ≤ 4096
    omega

/-- Half `i` lies in the local block. -/
theorem xhalf_inb (i : Fin 2) : ∀ a, (![64 * i.val, 0] : Fin 2 → Nat) a + S64x4096.size a ≤ S128x4096.size a := by
  intro a
  fin_cases a
  · show 64 * i.val + 64 ≤ 128
    omega
  · show 0 + 4096 ≤ 4096
    omega

/-- The semaphore of piece `j` of slot `s` is one of the array's. -/
theorem sem_inb (s : Fin 2) (j : Fin 4) : ∀ a, (![s.val, j.val] : Fin 2 → Nat) a + S1x1.size a ≤ S2x4.size a := by
  intro a
  fin_cases a
  · show s.val + 1 ≤ 2
    omega
  · show j.val + 1 ≤ 4
    omega

/-- Entry `h` of the forward table. -/
theorem orf_inb (h : Fin 17) : ∀ a, (![h.val] : Fin 1 → Nat) a + S1.size a ≤ S17.size a := by
  intro a
  fin_cases a
  show h.val + 1 ≤ 17
  omega

/-- Entry `h` of the backward table. -/
theorem orb_inb (h : Fin 16) : ∀ a, (![h.val] : Fin 1 → Nat) a + S1.size a ≤ S16.size a := by
  intro a
  fin_cases a
  show h.val + 1 ≤ 16
  omega

/-- Piece `j` of slot `s` of a double buffer: 32 rows. -/
def piece (m : Memref sig .tc .vmem S2x128x4096 .f32) (s : Fin 2) (j : Fin 4) : Memref sig .tc .vmem S32x4096 .f32 :=
  (m.slice (Rect.unit (s := S2x128x4096) ![s.val, 32 * j.val, 0] S1x32x4096.size (piece_inb s j)) (fun _ => rfl)).squeeze S32x4096
    squeezes_S1x32x4096_S32x4096

/-- Piece `j` of the local block: 32 rows. -/
def xpiece (m : Memref sig .tc .vmem S128x4096 .f32) (j : Fin 4) : Memref sig .tc .vmem S32x4096 .f32 :=
  m.slice (Rect.unit (s := S128x4096) ![32 * j.val, 0] S32x4096.size (xpiece_inb j)) (fun _ => rfl)

/-- The semaphore of piece `j` of slot `s`. -/
def psem (a : DmaSems sig S2x4) (s : Fin 2) (j : Fin 4) : DmaSem sig :=
  ((a.slice (Rect.unit (s := S2x4) ![s.val, j.val] S1x1.size (sem_inb s j))).squeeze S_ squeezes_S1x1_S_).sem

/-- Wait for piece `j` to have landed in slot `s`. -/
def waitRcv (l : Lane) (s : Fin 2) (j : Fin 4) (k : Pg F) : Pg F :=
  .op (.waitDma2 (psem l.rcv s j) (piece l.comm s j) (piece l.comm s j) ((View.wordExact_bits rfl).reshape _ _)
    ((View.wordExact_bits rfl).reshape _ _)) fun _ => k

/-- Send piece `j` of slot `s` to slot `r` of device `p`. -/
def send (l : Lane) (p : Dev nD) (s r : Fin 2) (j : Fin 4) (k : Pg F) : Pg F :=
  .op (.enqueueDma (piece l.comm s j) (.remote (Dev.tc p) (piece l.comm r j) (.dma (psem l.snd s j))) (.dma (psem l.rcv r j))
    ((View.wordExact_bits rfl).reshape _ _) ((View.wordExact_bits rfl).reshape _ _) ⟨⟨rfl, Or.inl rfl⟩, trivial⟩) fun _ => k

/-- Wait for the piece sent from slot `s` to have been read. -/
def waitSnd (l : Lane) (s r : Fin 2) (j : Fin 4) (k : Pg F) : Pg F :=
  .op (.waitDma2 (psem l.snd s j) (piece l.comm r j) (piece l.comm s j) ((View.wordExact_bits rfl).reshape _ _)
    ((View.wordExact_bits rfl).reshape _ _)) fun _ => k

/-- Send piece `j` of the local block to slot 1 of device `p`. -/
def sendX (l : Lane) (x : Memref sig .tc .vmem S128x4096 .f32) (p : Dev nD) (j : Fin 4) (k : Pg F) : Pg F :=
  .op (.enqueueDma (xpiece x j) (.remote (Dev.tc p) (piece l.comm 1 j) (.dma (psem l.snd 0 j))) (.dma (psem l.rcv 1 j))
    (View.wordExact_bits rfl) ((View.wordExact_bits rfl).reshape _ _) ⟨⟨rfl, Or.inl rfl⟩, trivial⟩) fun _ => k

/-- Wait for the piece of the local block to have been read. -/
def waitSndX (l : Lane) (x : Memref sig .tc .vmem S128x4096 .f32) (j : Fin 4) (k : Pg F) : Pg F :=
  .op (.waitDma2 (psem l.snd 0 j) (piece l.comm 1 j) (xpiece x j) ((View.wordExact_bits rfl).reshape _ _)
    (View.wordExact_bits rfl)) fun _ => k

/-- Read the word `r` names of a table. -/
def word {s : Shape} (m : Memref sig .tc .smem s .i32) (r : Rect s) (h1 : r.shape.numel = 1) (k : BitVec 32 → Pg F) : Pg F :=
  .op (.load m r (View.loadsAt_rect (View.loads_smem_one rfl h1))) fun f => k (f (Shape.Idx.first (h1.symm ▸ Nat.one_pos)))

/-- Where half `i` of block `v` of the result starts. -/
def offH : Fin 2 → BitVec 32 → Fin 2 → Nat
  | 0 => k0_off1
  | 1 => k0_off2

/-- Half `i` of block `v` lies in the result. -/
def chkH : Fin 2 → BitVec 32 → Prop
  | 0 => k0_chk3
  | 1 => k0_chk4

/-- Whether it does is decided. -/
def chkHdec : (i : Fin 2) → (v : BitVec 32) → Decidable (chkH i v)
  | 0 => k0_chk3.dec
  | 1 => k0_chk4.dec

/-- The check is the bound the accesses need. -/
theorem offH_inb (i : Fin 2) (v : BitVec 32) (h : chkH i v) : ∀ a, offH i v a + S64x256.size a ≤ S4096x256.size a := by
  fin_cases i
  · exact h
  · exact h

/-- What is stored of 64 loaded rows and the loaded weights: silu of their product. -/
def siluOf (v : FVec F S64x4096 .f32) (w : Vec F S4096x256 .f32) : FVec F S64x256 .f32 :=
  have y := matmul dot_S64x4096_S4096x256_S64x256_1_0_0_1_n_n none v (shapeCast S4096x256 w shapeCasts_S4096x256_S4096x256)
    (constant S64x256 .f32 0x00000000#32)
  mulf y (logistic y)

/-- Multiply 64 loaded rows by the weights and store silu of the product as half `i` of block `v` of the result. -/
def putTile (A : Args) (i : Fin 2) (v : BitVec 32) (rows : FVec F S64x4096 .f32) (k : Pg F) : Pg F :=
  .op (.assume (chkH i v) (chkHdec i v)) fun hw =>
  .op (.load A.w (Rect.unit (s := S4096x256) ![0, 0] S4096x256.size inb_S4096x256_S4096x256_0_0).toLoadRect (View.loadsAt_vmem h_S4096x256)) fun w =>
  .op (.load A.o (Rect.unit (s := S4096x256) (offH i v) S64x256.size (offH_inb i v hw.down)).toLoadRect (View.loadsAt_vmem h_S64x256)) fun _ =>
  .op (.store A.o (Rect.unit (s := S4096x256) (offH i v) S64x256.size (offH_inb i v hw.down)) (siluOf rows w) Finset.univ (View.stores_vmem_bits_univ h_S64x256 rfl) (.inl rfl)) fun _ => k

/-- Half `i` of the local block, into the block the forward table names first. -/
def tileX (A : Args) (i : Fin 2) (k : Pg F) : Pg F :=
  .op (.load A.x (Rect.unit (s := S128x4096) ![64 * i.val, 0] S64x4096.size (xhalf_inb i)).toLoadRect (View.loadsAt_vmem h_S64x4096)) fun a =>
  word A.orf (Rect.unit (s := S17) ![(0 : Fin 17).val] S1.size (orf_inb 0)) numel1_S1 fun v =>
  putTile A i v (shapeCast S64x4096 a shapeCasts_S64x4096_S64x4096) k

/-- The rows of a loaded half of a slot. -/
def rowsOf (a : Vec F S1x64x4096 .f32) : FVec F S64x4096 .f32 := shapeCast S64x4096 a shapeCasts_S1x64x4096_S64x4096

/-- Half `i` of slot `s` of a lane, into the block entry `h` of the forward table names. -/
def tileF (A : Args) (l : Lane) (s : Fin 2) (h : Fin 17) (i : Fin 2) (k : Pg F) : Pg F :=
  .op (.load l.comm (Rect.unit (s := S2x128x4096) ![s.val, 64 * i.val, 0] S1x64x4096.size (half_inb s i)).toLoadRect (View.loadsAt_vmem h_S1x64x4096)) fun a =>
  word A.orf (Rect.unit (s := S17) ![h.val] S1.size (orf_inb h)) numel1_S1 fun v =>
  putTile A i v (rowsOf a) k

/-- Half `i` of slot `s` of a lane, into the block entry `h` of the backward table names. -/
def tileB (A : Args) (l : Lane) (s : Fin 2) (h : Fin 16) (i : Fin 2) (k : Pg F) : Pg F :=
  .op (.load l.comm (Rect.unit (s := S2x128x4096) ![s.val, 64 * i.val, 0] S1x64x4096.size (half_inb s i)).toLoadRect (View.loadsAt_vmem h_S1x64x4096)) fun a =>
  word A.orb (Rect.unit (s := S16) ![h.val] S1.size (orb_inb h)) numel1_S1 fun v =>
  putTile A i v (rowsOf a) k

/-- The slot hop `h` reads. -/
def slotOf (h : ℕ) : Fin 2 := ⟨h % 2, Nat.mod_lt h (by decide)⟩

/-- Add one to a semaphore of device `p`. -/
def signal (p : Dev nD) (s : Sem sig) (k : Pg F) : Pg F :=
  .op (.semSignal (p, .tc) s (1#32 : BitVec 32).toInt) fun _ => k

/-- Take `n` from a semaphore. -/
def await (s : Sem sig) (n : BitVec 32) (k : Pg F) : Pg F := .op (.semWait s n.toInt) fun _ => k

/-- Hop 0: send the local block both ways and multiply it. -/
def hop0 (A : Args) (p q : Dev nD) (k : Pg F) : Pg F :=
  sendX A.f A.x p 0 <| sendX A.b A.x q 0 <|
  sendX A.f A.x p 1 <| sendX A.b A.x q 1 <|
  tileX A 0 <|
  sendX A.f A.x p 2 <| sendX A.b A.x q 2 <|
  sendX A.f A.x p 3 <| sendX A.b A.x q 3 <|
  tileX A 1 <|
  waitSndX A.f A.x 0 <| waitSndX A.f A.x 1 <| waitSndX A.f A.x 2 <| waitSndX A.f A.x 3 <|
  waitSndX A.b A.x 0 <| waitSndX A.b A.x 1 <| waitSndX A.b A.x 2 <| waitSndX A.b A.x 3 k

/-- Wait for one piece of each lane and send it on. -/
def pass (A : Args) (p q : Dev nD) (s r : Fin 2) (j : Fin 4) (k : Pg F) : Pg F :=
  waitRcv A.f s j <| send A.f p s r j <| waitRcv A.b s j <| send A.b q s r j k

/-- The two tiles of half `i` at hop `h`. -/
def tiles (A : Args) (h : Fin 16) (i : Fin 2) (k : Pg F) : Pg F :=
  tileF A A.f (slotOf h.val) h.castSucc i <| tileB A A.b (slotOf h.val) h i k

/-- Wait for the four pieces of a lane to have been sent. -/
def drain (l : Lane) (s r : Fin 2) (k : Pg F) : Pg F :=
  waitSnd l s r 0 <| waitSnd l s r 1 <| waitSnd l s r 2 <| waitSnd l s r 3 k

/-- A hop between the first and the last, after its credits: pass every piece on, multiply both halves, wait for the
    sends, and signal each neighbour that the slot is free. -/
def hopMid (A : Args) (p q : Dev nD) (h : Fin 16) (k : Pg F) : Pg F :=
  pass A p q (slotOf h.val) (slotOf (h.val + 1)) 0 <|
  pass A p q (slotOf h.val) (slotOf (h.val + 1)) 1 <|
  tiles A h 0 <|
  pass A p q (slotOf h.val) (slotOf (h.val + 1)) 2 <|
  pass A p q (slotOf h.val) (slotOf (h.val + 1)) 3 <|
  tiles A h 1 <|
  drain A.f (slotOf h.val) (slotOf (h.val + 1)) <|
  signal q A.f.crd.sem <|
  drain A.b (slotOf h.val) (slotOf (h.val + 1)) <|
  signal p A.b.crd.sem k

/-- Wait for both credits. -/
def credits (A : Args) (k : Pg F) : Pg F := await A.f.crd.sem 1#32 <| await A.b.crd.sem 1#32 k

/-- The hops of a list, each after its credits. -/
def hopsOf (A : Args) (p q : Dev nD) : List (Fin 16) → Pg F → Pg F
  | [], k => k
  | h :: hs, k => credits A <| hopMid A p q h <| hopsOf A p q hs k

/-- The last hop: of each lane only the half that is still needed is passed on. -/
def hopLast (A : Args) (p q : Dev nD) (k : Pg F) : Pg F :=
  credits A <|
  waitRcv A.f 1 0 <| send A.f p 1 0 0 <| waitRcv A.b 1 0 <|
  waitRcv A.f 1 1 <| send A.f p 1 0 1 <| waitRcv A.b 1 1 <|
  tiles A 15 0 <|
  waitRcv A.f 1 2 <| waitRcv A.b 1 2 <| send A.b q 1 0 2 <|
  waitRcv A.f 1 3 <| waitRcv A.b 1 3 <| send A.b q 1 0 3 <|
  tiles A 15 1 <|
  waitSnd A.f 1 0 0 <| waitSnd A.f 1 0 1 <| waitSnd A.b 1 0 2 <| waitSnd A.b 1 0 3 k

/-- The block half way round the ring: its first half came forward, its second backward. -/
def epilogue (A : Args) (k : Pg F) : Pg F :=
  waitRcv A.f 0 0 <| waitRcv A.f 0 1 <| tileF A A.f 0 16 0 <|
  waitRcv A.b 0 2 <| waitRcv A.b 0 3 <| tileF A A.b 0 16 1 k

/-- The barrier semaphore. -/
def barS : Sem sig := (SemArray.scalar (sig.barrier 0 rfl) : Sems sig S_).sem

/-- The barrier: signal both neighbours, wait for both. -/
def barrier (p q : Dev nD) (k : Pg F) : Pg F := signal p barS <| signal q barS <| await barS 2#32 k

/-- The hops between the second and the last. -/
def midHops : List (Fin 16) := [2, 3, 4, 5, 6, 7, 8, 9, 10, 11, 12, 13, 14]

/-- The body after the neighbours are known. -/
def rest (A : Args) (p q : Dev nD) : Pg F :=
  barrier p q <| hop0 A p q <| hopMid A p q 1 <| hopsOf A p q midHops <| hopLast A p q <| epilogue A <| .ret ⟨⟩

/-- The body once the successor `v0` is read: check that it is a device, read the predecessor, check it, run the hops. -/
def bodyAt (A : Args) (v0 : BitVec 32) : Pg F :=
  .op (.assume (k0_chk1 v0) (k0_chk1.dec v0)) fun hw1 =>
  word A.nbr (Rect.unit (s := S2) ![1] S1.size inb_S2_S1_1) numel1_S1 fun v1 =>
  .op (.assume (k0_chk2 v1) (k0_chk2.dec v1)) fun hw2 =>
  rest A (⟨k0_dev1 v0, k0_dev1_lt v0 hw1.down⟩ : Dev nD) (⟨k0_dev2 v1, k0_dev2_lt v1 hw2.down⟩ : Dev nD)

/-- The body: read the two neighbours, then run the hops. -/
def body (A : Args) : Pg F :=
  word A.nbr (Rect.unit (s := S2) ![0] S1.size inb_S2_S1_0) numel1_S1 fun v0 => bodyAt A v0

end Cert.KernelIdeal.Ring

end
-- ==== Proof.Ideal.Contents.lean ====
/- What the double buffers hold, and where its pieces and halves lie. -/
module

public import proofs.«01_k».proof.Proof.Ideal.Program
public import proofs.«01_k».proof.Proof.Ideal.Places

@[expose] public section

noncomputable section

namespace Cert.KernelIdeal.Ring

open Idealize.ShloMosaic Idealize.ShloMosaic.TcCoe Idealize.SL.Sem Cert.KernelIdeal Cert.KernelIdeal.Gen

variable {F : FTy → Type} [FloatOps F]

/-- The lane of each direction: forward (`true`) and backward. -/
abbrev laneOf : Bool → Lane
  | true => ⟨Memref.whole cc0_scratch0, cc0_scratch2, cc0_scratch3, cc0_scratch6⟩
  | false => ⟨Memref.whole cc0_scratch1, cc0_scratch4, cc0_scratch5, cc0_scratch7⟩

/-- What this launch calls the body with. -/
abbrev kA : Args where
  nbr := Memref.whole cc0_stg0_0
  orf := Memref.whole cc0_stg1_0
  orb := Memref.whole cc0_stg2_0
  x := Memref.whole cc0_stg3_0
  w := Memref.whole cc0_stg4_0
  o := Memref.whole cc0_stg5_0
  f := laneOf true
  b := laneOf false

/-- The contents of one device's block of `x`. -/
abbrev XBuf (F : FTy → Type) : Type := S128x4096.Idx → Elt F .f32

/-- Row and column of a block from an index of the double buffer. -/
def rowCol (i : S2x128x4096.Idx) : S128x4096.Idx := fun a => match a with
  | ⟨0, _⟩ => i 1
  | ⟨1, _⟩ => i 2

/-- A double buffer holding block `x` in both slots. -/
def both (x : XBuf F) : S2x128x4096.Idx → Elt F .f32 := fun i => x (rowCol i)

/-- The same, as contents of a lane's buffer. -/
abbrev bufOf (c : Dev nD) (x : XBuf F) : (ℓ : Bool) → Buf (Elt F) ((laneOf ℓ).comm.view.loc (c : Thread nD τ))
  | true => both x
  | false => both x

/-- The same, as contents of the staged block. -/
abbrev xBuf (c : Dev nD) (x : XBuf F) : Buf (Elt F) (kA.x.view.loc (c : Thread nD τ)) := x

/-- What a piece reads of a buffer holding a block is what the block's own piece reads. -/
theorem piece_read (c d : Dev nD) (ℓ : Bool) (s : Fin 2) (j : Fin 4) (v : XBuf F) :
    (piece (laneOf ℓ).comm s j).view.read (Elt F) (bufOf c v ℓ) = (xpiece kA.x j).view.read (Elt F) (xBuf d v) := by
  have h (x : S32x4096.Idx) : both v ((Rect.unit (s := S2x128x4096) ![s.val, 32 * j.val, 0] S1x32x4096.size (piece_inb s j)).emb
      (Shape.reshapeEquiv squeezes_S1x32x4096_S32x4096.numel_eq x)) = (xpiece kA.x j).view.read (Elt F) (xBuf d v) x := by
    rw [Shape.reshapeEquiv_cons_one]
    refine congrArg v (funext fun a => ?_)
    fin_cases a
    · rfl
    · rfl
  cases ℓ <;> exact funext h

/-- A piece of a lane's buffer overwritten with a piece of block `v` holds block `v` there. -/
theorem landed (c d : Dev nD) (ℓ : Bool) (r : Fin 2) (j : Fin 4) (v : XBuf F)
    (fd : Buf (Elt F) ((laneOf ℓ).comm.view.loc (c : Thread nD τ))) (w : S32x4096.Idx → Elt F .f32)
    (hw : w = (xpiece kA.x j).view.read (Elt F) (xBuf d v)) :
    ∀ i ∈ (piece (laneOf ℓ).comm r j).view.set, (piece (laneOf ℓ).comm r j).view.write (Elt F) fd w Finset.univ i = bufOf c v ℓ i := by
  intro i hi
  obtain ⟨x, -, rfl⟩ := Finset.mem_map.mp hi
  rw [← piece_read c d ℓ r j v] at hw
  rw [hw]
  cases ℓ <;> exact View.write_emb_of_mem _ _ (Finset.mem_univ x)

/-- The elements of piece `j` of slot `s`. -/
def pset (s : Fin 2) (j : Fin 4) : Finset S2x128x4096.Idx :=
  (Rect.unit (s := S2x128x4096) ![s.val, 32 * j.val, 0] S1x32x4096.size (piece_inb s j)).set

/-- They are the slot's elements of 32 rows. -/
theorem mem_pset (s : Fin 2) (j : Fin 4) (i : S2x128x4096.Idx) : i ∈ pset s j ↔ (i 0).val = s.val ∧ (i 1).val / 32 = j.val := by
  unfold pset
  rw [Rect.mem_set_unit]
  have h2 : (i 2).val < 4096 := (i 2).isLt
  constructor
  · intro h
    have a := h 0
    have b := h 1
    change s.val ≤ (i 0).val ∧ (i 0).val < s.val + 1 at a
    change 32 * j.val ≤ (i 1).val ∧ (i 1).val < 32 * j.val + 32 at b
    omega
  · rintro ⟨a, b⟩ k
    fin_cases k
    · show s.val ≤ (i 0).val ∧ (i 0).val < s.val + 1
      omega
    · show 32 * j.val ≤ (i 1).val ∧ (i 1).val < 32 * j.val + 32
      omega
    · show 0 ≤ (i 2).val ∧ (i 2).val < 0 + 4096
      omega

/-- Different pieces are disjoint. -/
theorem pset_disjoint {p q : Fin 2 × Fin 4} (h : p ≠ q) : Disjoint (pset p.1 p.2) (pset q.1 q.2) := by
  refine Finset.disjoint_left.mpr fun i hp hq => h ?_
  rw [mem_pset] at hp hq
  exact Prod.ext (Fin.ext (hp.1.symm.trans hq.1)) (Fin.ext (hp.2.symm.trans hq.2))

/-- The pieces are the whole buffer. -/
theorem pset_cover : (Finset.univ : Finset (Fin 2 × Fin 4)).biUnion (fun p => pset p.1 p.2) = Finset.univ := by
  refine Finset.eq_univ_of_forall fun i => ?_
  have h0 : (i 0).val < 2 := (i 0).isLt
  have h1 : (i 1).val < 128 := (i 1).isLt
  exact Finset.mem_biUnion.mpr ⟨(⟨(i 0).val, h0⟩, ⟨(i 1).val / 32, by omega⟩), Finset.mem_univ _, (mem_pset _ _ _).mpr ⟨rfl, rfl⟩⟩

/-- A piece's elements. -/
theorem piece_set (s : Fin 2) (j : Fin 4) :
    (piece (Memref.whole cc0_scratch0) s j).view.set = pset s j ∧ (piece (Memref.whole cc0_scratch1) s j).view.set = pset s j := by
  constructor
  · exact (View.set_reshape _ _).trans (View.set_slice_whole _ _)
  · exact (View.set_reshape _ _).trans (View.set_slice_whole _ _)

/-- The elements of piece `j` of the local block. -/
def xset (j : Fin 4) : Finset S128x4096.Idx := (Rect.unit (s := S128x4096) ![32 * j.val, 0] S32x4096.size (xpiece_inb j)).set

/-- They are 32 rows. -/
theorem mem_xset (j : Fin 4) (i : S128x4096.Idx) : i ∈ xset j ↔ (i 0).val / 32 = j.val := by
  unfold xset
  rw [Rect.mem_set_unit]
  have h2 : (i 1).val < 4096 := (i 1).isLt
  constructor
  · intro h
    have b := h 0
    change 32 * j.val ≤ (i 0).val ∧ (i 0).val < 32 * j.val + 32 at b
    omega
  · rintro b k
    fin_cases k
    · show 32 * j.val ≤ (i 0).val ∧ (i 0).val < 32 * j.val + 32
      omega
    · show 0 ≤ (i 1).val ∧ (i 1).val < 0 + 4096
      omega

/-- The elements of a piece of the local block, of its view. -/
theorem xpiece_set (j : Fin 4) : (xpiece kA.x j).view.set = xset j := View.set_slice_whole _ _

/-- Different pieces of the local block are disjoint. -/
theorem xset_disjoint {p q : Fin 4} (h : p ≠ q) : Disjoint (xset p) (xset q) := by
  refine Finset.disjoint_left.mpr fun i hp hq => h ?_
  rw [mem_xset] at hp hq
  exact Fin.ext (hp.symm.trans hq)

/-- The pieces are the whole block. -/
theorem xset_cover : (Finset.univ : Finset (Fin 4)).biUnion xset = Finset.univ := by
  refine Finset.eq_univ_of_forall fun i => ?_
  have h1 : (i 0).val < 128 := (i 0).isLt
  exact Finset.mem_biUnion.mpr ⟨⟨(i 0).val / 32, by omega⟩, Finset.mem_univ _, (mem_xset _ _).mpr rfl⟩

/-- The lower and the upper piece of a half. -/
def lo (i : Fin 2) : Fin 4 := ⟨2 * i.val, by omega⟩
/-- The upper piece of a half. -/
def hi (i : Fin 2) : Fin 4 := ⟨2 * i.val + 1, by omega⟩

/-- Half `i` of slot `s`, as a rectangle. -/
abbrev halfR (s i : Fin 2) : Rect S2x128x4096 := Rect.unit ![s.val, 64 * i.val, 0] S1x64x4096.size (half_inb s i)

/-- A half is two pieces. -/
theorem half_sub (s i : Fin 2) : (halfR s i).set ⊆ pset s (lo i) ∪ pset s (hi i) := by
  intro k hk
  rw [Rect.mem_set_unit] at hk
  have a := hk 0
  have b := hk 1
  change s.val ≤ (k 0).val ∧ (k 0).val < s.val + 1 at a
  change 64 * i.val ≤ (k 1).val ∧ (k 1).val < 64 * i.val + 64 at b
  rw [Finset.mem_union, mem_pset, mem_pset]
  show (_ ∧ _ = 2 * i.val) ∨ (_ ∧ _ = 2 * i.val + 1)
  omega

/-- The rows of half `i` of a block. -/
def rowsH (v : XBuf F) (i : Fin 2) : FVec F S64x4096 .f32 := fun y =>
  v ((Rect.unit (s := S128x4096) ![64 * i.val, 0] S64x4096.size (xhalf_inb i)).emb y)

/-- Loading a half of a slot that holds a block gives the block's rows. -/
theorem rowsOf_half (v : XBuf F) (s i : Fin 2) : rowsOf (fun y => both v ((halfR s i).emb y)) = rowsH v i := by
  funext y
  refine (show _ = both v ((halfR s i).emb (Shape.reshapeEquiv _ y)) from rfl).trans ?_
  rw [Shape.reshapeEquiv_cons_one]
  refine congrArg v (funext fun a => ?_)
  fin_cases a
  · rfl
  · rfl

/-- Loading a half of the local block gives its rows. -/
theorem rows_self (v : XBuf F) (i : Fin 2) : shapeCast S64x4096 (rowsH v i) shapeCasts_S64x4096_S64x4096 = rowsH v i := by
  funext y
  refine (show _ = rowsH v i (Shape.reshapeEquiv _ y) from rfl).trans ?_
  rw [Shape.reshapeEquiv_self]

/-! ## The result -/

/-- Row and column within a tile. -/
def inTile (k : S4096x256.Idx) : S64x256.Idx := fun a => match a with
  | ⟨0, _⟩ => (⟨(k 0).val % 64, Nat.mod_lt _ (by decide)⟩ : Fin 64)
  | ⟨1, _⟩ => k 1

/-- The device whose block the row belongs to. -/
def devOf (k : S4096x256.Idx) : Dev nD := ⟨(k 0).val / 128, by have h : (k 0).val < 4096 := (k 0).isLt; show _ < 32; omega⟩

/-- The half of the block the row belongs to. -/
def halfOf (k : S4096x256.Idx) : Fin 2 := ⟨(k 0).val / 64 % 2, Nat.mod_lt _ (by decide)⟩

/-- What the kernel leaves in the result: tile by tile, silu of the block's rows times the weights. -/
def result (X : Dev nD → XBuf F) (w : S4096x256.Idx → Elt F .f32) : S4096x256.Idx → Elt F .f32 :=
  fun k => siluOf (rowsH (X (devOf k)) (halfOf k)) w (inTile k)

/-- The word naming a device. -/
abbrev wordOf (d : Dev nD) : BitVec 32 := BitVec.ofNat 32 d.val

/-- Half `i` of block `d` starts at its row. -/
theorem offH_word (i : Fin 2) (d : Dev nD) : offH i (wordOf d) = ![64 * (2 * d.val + i.val), 0] := by
  revert i d
  decide

/-- The check holds of a word naming a device. -/
theorem chkH_word (i : Fin 2) (d : Dev nD) : chkH i (wordOf d) := by
  have h : ∀ a, offH i (wordOf d) a + S64x256.size a ≤ S4096x256.size a := by
    rw [offH_word]
    intro a
    fin_cases a
    · show 64 * (2 * d.val + i.val) + 64 ≤ 4096
      have h : d.val < 32 := d.isLt
      omega
    · show 0 + 256 ≤ 256
      omega
  fin_cases i
  · exact h
  · exact h

/-- `f` holds the result on the tiles of `D`. -/
def Good (X : Dev nD → XBuf F) (w : S4096x256.Idx → Elt F .f32) (D : ℕ → Prop) (f : S4096x256.Idx → Elt F .f32) : Prop :=
  ∀ k, D ((k 0).val / 64) → f k = result X w k

/-- On fewer tiles. -/
theorem Good.mono {X : Dev nD → XBuf F} {w f} {D E : ℕ → Prop} (h : Good X w D f) (hE : ∀ t, E t → D t) : Good X w E f :=
  fun k hk => h k (hE _ hk)

/-- On every tile. -/
theorem Good.all {X : Dev nD → XBuf F} {w f} {D : ℕ → Prop} (h : Good X w D f) (hD : ∀ t, t < 64 → D t) : f = result X w := by
  funext k
  have hk : (k 0).val < 4096 := (k 0).isLt
  exact h k (hD _ (by omega))

/-- Storing one more tile. -/
theorem Good.put {X : Dev nD → XBuf F} {w f} {D : ℕ → Prop} (h : Good X w D f) (d : Dev nD) (i : Fin 2) (inb) :
    Good X w (fun t => t = 2 * d.val + i.val ∨ D t)
      (((View.whole cc0_stg5_0).slice (Rect.unit (s := S4096x256) (offH i (wordOf d)) S64x256.size inb)).write (Elt F) f
        (siluOf (rowsH (X d) i) w) Finset.univ) := by
  intro k hk
  have e := offH_word i d
  have key : ∀ (off : Fin 2 → ℕ) (hoff : off = ![64 * (2 * d.val + i.val), 0]) (inb),
      (((View.whole cc0_stg5_0).slice (Rect.unit (s := S4096x256) off S64x256.size inb)).write (Elt F) f
        (siluOf (rowsH (X d) i) w) Finset.univ) k = result X w k := by
    rintro off rfl inb
    have h1 : (k 1).val < 256 := (k 1).isLt
    have h0 : (k 0).val < 4096 := (k 0).isLt
    by_cases ht : (k 0).val / 64 = 2 * d.val + i.val
    · have hd : devOf k = d := Fin.ext (show (k 0).val / 128 = d.val by omega)
      have hi : halfOf k = i := Fin.ext (show (k 0).val / 64 % 2 = i.val by omega)
      have hk' : k = ((View.whole cc0_stg5_0).slice (Rect.unit (s := S4096x256) ![64 * (2 * d.val + i.val), 0] S64x256.size inb)).emb (inTile k) := by
        funext a
        fin_cases a
        · refine Fin.ext (show (k 0).val = 64 * (2 * d.val + i.val) + 1 * ((k 0).val % 64) from ?_)
          omega
        · refine Fin.ext (show (k 1).val = 0 + 1 * (k 1).val from ?_)
          omega
      have hr : result X w k = siluOf (rowsH (X d) i) w (inTile k) := by unfold result; rw [hd, hi]
      rw [hr]
      conv_lhs => rw [hk']
      exact View.write_emb_of_mem _ _ (Finset.mem_univ _)
    · rw [View.write_of_not_mem]
      · rcases hk with hk | hk
        · exact absurd hk ht
        · exact h k hk
      · rw [View.setOn_univ, View.set_slice_whole, Rect.mem_set_unit]
        intro hall
        have b := hall 0
        change 64 * (2 * d.val + i.val) ≤ (k 0).val ∧ (k 0).val < 64 * (2 * d.val + i.val) + 64 at b
        omega
  exact key _ e inb

end Cert.KernelIdeal.Ring

end
-- ==== Proof.Ideal.Schedule.lean ====
/- The protocol of the ring.

   Device `c` has two neighbours. The forward lane (`true`) carries blocks to the successor, the backward lane (`false`)
   to the predecessor. `dn ℓ c` is the device lane `ℓ` of `c` sends to, `up ℓ c` the one it receives from. A block is 128
   rows, cut in four pieces of 32. Lane `ℓ` of every device has a double buffer of two slots. Hop `h` reads slot `h % 2`
   (hop 0 the local block) and its sends land in slot `(h + 1) % 2` of the neighbour. Forward hop 15 sends only pieces 0
   and 1, backward hop 15 only pieces 2 and 3, so the block half way round comes half from each side.

   Semaphores of device `c`:
   * the barrier: both neighbours add 1, `c` waits for 2. Duty `ℓ` is paid by `dn ℓ c` and hands `c` both slots of that
     neighbour's lane `ℓ` at any contents;
   * `rcv ℓ s j`: the copy of piece `j` at hop `h` of `up ℓ c` lands in slot `s = (h + 1) % 2`. Round `h / 2`. It hands `c`
     the piece holding the block of the device `h + 1` steps back. `c` waits at hop `h + 1`;
   * `snd ℓ s j`: the same copy, at the sending side `c`, `s = h % 2`, round `h / 2`: hands back the share of the source
     the copy read. `c` waits at the end of hop `h`;
   * `crd ℓ`: at the end of hop `h`, `1 ≤ h ≤ 14`, after its sends are read, the neighbour `dn ℓ c` adds 1: its slot `h % 2`
     may be written again by hop `h + 1`. `c` waits for 1 at the start of hops 2 to 15. The neighbour may be one credit
     ahead, so all fourteen are one round, and a unit brings only the knowledge that the slot has been released; the
     slot itself goes through an invariant per neighbour, lane and hop.

   A wait's level is below those of all that is still owed: the barrier 1, the credit of hop `h` `2 h + 1`, a landing of
   hop `h` `2 h + 2`. -/
module

public import proofs.«01_k».proof.Proof.Ideal.Contents
public import Idealize.ShloMosaic.Lib.Rounds
public import Idealize.ShloMosaic.Lib.Release
public import Idealize.ShloMosaic.Lib.Tactic
public import Idealize.ShloMosaic.Lib.Pipeline.Kit
public import Mathlib.Tactic.DeriveFintype

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

/-! ## Cells -/

/-- The semaphores of a device. -/
inductive Kd where
  | bar
  | crd (ℓ : Bool)
  | snd (ℓ : Bool) (s : Fin 2) (j : Fin 4)
  | rcv (ℓ : Bool) (s : Fin 2) (j : Fin 4)
deriving DecidableEq, Fintype

/-- The semaphore of each kind. -/
def semOf : Kd → SemLoc sig
  | .bar => .reg barS
  | .crd ℓ => .reg (laneOf ℓ).crd.sem
  | .snd ℓ s j => .dma (psem (laneOf ℓ).snd s j)
  | .rcv ℓ s j => .dma (psem (laneOf ℓ).rcv s j)

/-- Where the sending semaphores lie. -/
theorem snd_val : ∀ (ℓ : Bool) (s : Fin 2) (j : Fin 4), (psem (laneOf ℓ).snd s j).val = (if ℓ then 6 else 22) + 4 * s.val + j.val := by
  decide

/-- Where the receiving semaphores lie. -/
theorem rcv_val : ∀ (ℓ : Bool) (s : Fin 2) (j : Fin 4), (psem (laneOf ℓ).rcv s j).val = (if ℓ then 14 else 30) + 4 * s.val + j.val := by
  decide

/-- Where the credit semaphores lie. -/
theorem crd_val : ∀ ℓ : Bool, ((laneOf ℓ).crd.sem : Sem sig).val = if ℓ then 0 else 1 := by
  decide

/-- Different kinds are different semaphores. -/
theorem semOf_injective : Function.Injective semOf := by
  have dm {a b : DmaSem sig} (h : (SemLoc.dma a : SemLoc sig) = .dma b) : a.val = b.val := congrArg Fin.val (SemLoc.dma.inj h)
  have rg {a b : Sem sig} (h : (SemLoc.reg a : SemLoc sig) = .reg b) : a.val = b.val := congrArg Fin.val (SemLoc.reg.inj h)
  have hb : (barS : Sem sig).val = 2 := by decide
  have bl (ℓ ℓ' : Bool) (m n : ℕ) (h : (if ℓ then m else n) = (if ℓ' then m else n)) (hmn : m ≠ n) : ℓ = ℓ' := by
    cases ℓ <;> cases ℓ' <;> first | rfl | exact absurd h hmn | exact absurd h.symm hmn
  intro a b h
  cases a with
  | bar =>
    cases b with
    | bar => rfl
    | crd ℓ => have e := rg h; rw [hb, crd_val] at e; cases ℓ <;> exact absurd e (by decide)
    | snd ℓ s j => exact absurd h (by simp [semOf])
    | rcv ℓ s j => exact absurd h (by simp [semOf])
  | crd ℓ =>
    cases b with
    | bar => have e := rg h; rw [hb, crd_val] at e; cases ℓ <;> exact absurd e (by decide)
    | crd ℓ' => have e := rg h; rw [crd_val, crd_val] at e; rw [bl ℓ ℓ' _ _ e (by decide)]
    | snd ℓ s j => exact absurd h (by simp [semOf])
    | rcv ℓ s j => exact absurd h (by simp [semOf])
  | snd ℓ s j =>
    cases b with
    | bar => exact absurd h (by simp [semOf])
    | crd ℓ' => exact absurd h (by simp [semOf])
    | snd ℓ' s' j' =>
      have e := dm h
      rw [snd_val, snd_val] at e
      cases ℓ <;> cases ℓ' <;> simp only [if_true, if_false, Bool.false_eq_true] at e <;>
        first
        | omega
        | (obtain rfl : s = s' := by omega
           obtain rfl : j = j' := by omega
           rfl)
    | rcv ℓ' s' j' =>
      have e := dm h
      rw [snd_val, rcv_val] at e
      cases ℓ <;> cases ℓ' <;> simp only [if_true, if_false, Bool.false_eq_true] at e <;> omega
  | rcv ℓ s j =>
    cases b with
    | bar => exact absurd h (by simp [semOf])
    | crd ℓ' => exact absurd h (by simp [semOf])
    | snd ℓ' s' j' =>
      have e := dm h
      rw [rcv_val, snd_val] at e
      cases ℓ <;> cases ℓ' <;> simp only [if_true, if_false, Bool.false_eq_true] at e <;> omega
    | rcv ℓ' s' j' =>
      have e := dm h
      rw [rcv_val, rcv_val] at e
      cases ℓ <;> cases ℓ' <;> simp only [if_true, if_false, Bool.false_eq_true] at e <;>
        first
        | omega
        | (obtain rfl : s = s' := by omega
           obtain rfl : j = j' := by omega
           rfl)

open Classical in
/-- The kind of a semaphore. -/
def kindOf (sm : SemLoc sig) : Option Kd := if h : ∃ k, semOf k = sm then some h.choose else none

/-- The kind of a kind's semaphore. -/
theorem kindOf_semOf (k : Kd) : kindOf (semOf k) = some k := by
  have h : ∃ k', semOf k' = semOf k := ⟨k, rfl⟩
  unfold kindOf
  rw [dif_pos h, semOf_injective h.choose_spec]

/-- A device's semaphore of a kind. -/
abbrev cell (c : Dev nD) (k : Kd) : GSem nD τ sig := ((c : Thread nD τ), semOf k)

/-- Cells are told apart by device and kind. -/
theorem cell_injective : Function.Injective fun p : Dev nD × Kd => cell p.1 p.2 := by
  intro p q h
  exact Prod.ext (congrArg (fun g : GSem nD τ sig => g.1.1) h) (semOf_injective (congrArg (fun g : GSem nD τ sig => g.2) h))

/-! ## The ghost state's algebra -/

/-- A key: whose slot, which lane, which hop writes it. -/
abbrev Key : Type := Dev nD × Bool × ℕ

/-- The algebra of the ring's rounds. -/
abbrev UT : Type := URounds (GSem nD τ sig) ℕ

/-- The pipeline's copy of the rounds, the ring's, and the released slots. -/
abbrev UU : Type := UR sig nD τ × (UT × USlots Key)

variable (F) in
/-- The resources. -/
abbrev MM : Type := MT nD τ sig ℕ (Elt F) ℕ UU ℕ

/-- The pipeline's rounds. -/
abbrev EP : Emb (UR sig nD τ) (MM F) := embL
/-- The ring's rounds. -/
abbrev ER : Emb UT (MM F) := Emb.inl.trans (embR : Emb (UT × USlots Key) (MM F))
/-- The released slots. -/
abbrev ES : Emb (USlots Key) (MM F) := Emb.inr.trans (embR : Emb (UT × USlots Key) (MM F))

/-! ## Pieces -/

/-- Which pieces lane `ℓ` sends at hop `h`. -/
def snds (ℓ : Bool) (h : ℕ) (j : Fin 4) : Bool := h < 15 || (h == 15 && (if ℓ then decide (j.val < 2) else decide (2 ≤ j.val)))

/-- Piece `j` of slot `s` of device `c`'s lane `ℓ`, share `q`, holding block `v`. -/
def pcAt (c : Dev nD) (ℓ : Bool) (s : Fin 2) (j : Fin 4) (q : PosShare TreeShare) (v : XBuf F) : sProp (MM F) :=
  (piece (laneOf ℓ).comm s j).view.loc (c : Thread nD τ) ↦[(piece (laneOf ℓ).comm s j).view.set]{q} bufOf c v ℓ

/-- The same piece at any contents. -/
def pcAny (c : Dev nD) (ℓ : Bool) (s : Fin 2) (j : Fin 4) : sProp (MM F) :=
  slot ((piece (laneOf ℓ).comm s j).view.loc (c : Thread nD τ)) (piece (laneOf ℓ).comm s j).view.set

/-- Piece `j` of the local block, share `q`. -/
def xpAt (c : Dev nD) (j : Fin 4) (q : PosShare TreeShare) (v : XBuf F) : sProp (MM F) :=
  (xpiece kA.x j).view.loc (c : Thread nD τ) ↦[(xpiece kA.x j).view.set]{q} xBuf c v

/-- The share of the local block a lane's sends read. -/
def xq : Bool → PosShare TreeShare
  | true => fullShare.left.left
  | false => fullShare.left.right

/-- Four of a kind. -/
def four (Φ : Fin 4 → sProp (MM F)) : sProp (MM F) := iprop(Φ 0 ∗ Φ 1 ∗ Φ 2 ∗ Φ 3)

/-- What hop `h`'s send of piece `j` writes on device `e`, if there is one: the piece, and that its landing's round is
    open. -/
def freePc (e : Dev nD) (ℓ : Bool) (h : ℕ) (j : Fin 4) : sProp (MM F) :=
  if snds ℓ h j then iprop(pcAny e ℓ (slotOf (h + 1)) j ∗ reached ER (cell e (.rcv ℓ (slotOf (h + 1)) j)) (h / 2)) else iprop(emp)

/-- What hop `h`'s sends write on device `e`. -/
def free (e : Dev nD) (ℓ : Bool) (h : ℕ) : sProp (MM F) := four (freePc e ℓ h)

/-- Device `e` has released, on lane `ℓ`, what the hops 2 to `d` write. -/
def heardTo (e : Dev nD) (ℓ : Bool) (d : ℕ) : sProp (MM F) := bigSep (Finset.Icc 2 d) fun i => released ES (e, ℓ, i) 1

/-- What a send hands back: the share its copy reads. -/
def sndPay (X : Dev nD → XBuf F) (c : Dev nD) (ℓ : Bool) (h : ℕ) (j : Fin 4) : sProp (MM F) :=
  if h = 0 then xpAt c j (xq ℓ) (X c) else pcAt c ℓ (slotOf h) j fullShare.left (X (org ℓ h c))

/-- What a landing of hop `h` of `up ℓ c` hands `c`. -/
def rcvPay (X : Dev nD → XBuf F) (c : Dev nD) (ℓ : Bool) (h : ℕ) (j : Fin 4) : sProp (MM F) :=
  pcAt c ℓ (slotOf (h + 1)) j fullShare (X (org ℓ (h + 1) c))

/-- What the barrier's duty of lane `ℓ` hands `c`: what hops 0 and 1 write, and that the credit of the other lane on
    that neighbour is open. -/
def barPay (c : Dev nD) (ℓ : Bool) : sProp (MM F) :=
  iprop(free (dn ℓ c) ℓ 0 ∗ free (dn ℓ c) ℓ 1 ∗ reached ER (cell (dn ℓ c) (.crd (!ℓ))) 0)

/-! ## The schedule -/

/-- What a landing credits. -/
abbrev N : ℕ := (piece (laneOf true).comm 0 0).view.dmaCredit

theorem N_pos : 0 < N := View.dmaCredit_pos _ (by decide)

/-- The hop of a round on the slot a landing fills. -/
def rHop (s : Fin 2) (r : ℕ) : ℕ := 2 * r + 1 - s.val
/-- The hop of a round on the slot a send reads. -/
def sHop (s : Fin 2) (r : ℕ) : ℕ := 2 * r + s.val

theorem rHop_slot (h : ℕ) : rHop (slotOf (h + 1)) (h / 2) = h := by
  unfold rHop slotOf
  show 2 * (h / 2) + 1 - (h + 1) % 2 = h
  omega

theorem sHop_slot (h : ℕ) : sHop (slotOf h) (h / 2) = h := by
  unfold sHop slotOf
  show 2 * (h / 2) + h % 2 = h
  omega

/-- Duties by kind and round. -/
def dutiesK : Kd → ℕ → Finset ℕ
  | .bar, r => if r = 0 then {0, 1} else ∅
  | .crd _, r => if r = 0 then Finset.Icc 2 15 else ∅
  | .snd ℓ s j, r => if snds ℓ (sHop s r) j then {0} else ∅
  | .rcv ℓ s j, r => if snds ℓ (rHop s r) j then {0} else ∅

/-- Units by kind. -/
def amountK : Kd → ℕ
  | .bar => 1
  | .crd _ => 1
  | .snd _ _ _ => N
  | .rcv _ _ _ => N

/-- What is handed over, by kind, round and duty. -/
def payloadK (X : Dev nD → XBuf F) (c : Dev nD) : Kd → ℕ → ℕ → sProp (MM F)
  | .bar, _, d => barPay c (d == 1)
  | .crd ℓ, _, d => heardTo (dn ℓ c) ℓ d
  | .snd ℓ s j, r, _ => sndPay X c ℓ (sHop s r) j
  | .rcv ℓ s j, r, _ => rcvPay X c ℓ (rHop s r) j

theorem amountK_pos (k : Kd) : 0 < amountK k := by
  cases k
  · exact Nat.one_pos
  · exact Nat.one_pos
  · exact N_pos
  · exact N_pos

/-- The ring's schedule; `X` is every device's block. -/
def Rd (X : Dev nD → XBuf F) : Rounds.Schedule (GSem nD τ sig) ℕ (MM F) where
  duties g r := (kindOf g.2).elim ∅ fun k => dutiesK k r
  unitless _ := False
  amount g _ _ := (kindOf g.2).elim 1 amountK
  payload g r d := (kindOf g.2).elim iprop(emp) fun k => payloadK X g.1.1 k r d
  amount_pos g _ _ _ := by
    cases kindOf g.2
    · exact Nat.one_pos
    · exact amountK_pos _

variable (X : Dev nD → XBuf F)

instance four_storable (Φ : Fin 4 → sProp (MM F)) [∀ j, BI.Storable (upEmb : UEmb _ (MM F)) (Φ j)] :
    BI.Storable (upEmb : UEmb _ (MM F)) (four Φ) := by unfold four; infer_instance
/-- A points-to can be stored in an invariant. -/
theorem pts_storable (l : Loc nD τ sig) (I : Finset (Idx l)) (q : PosShare TreeShare) (f : Buf (Elt F) l) :
    BI.Storable (upEmb : UEmb _ (MM F)) (l ↦[I]{q} f : sProp (MM F)) := inferInstance

instance pcAt_storable (c ℓ s j q) (v : XBuf F) : BI.Storable (upEmb : UEmb _ (MM F)) (pcAt c ℓ s j q v) := by
  exact pts_storable _ _ _ _
instance pcAny_storable (c ℓ s j) : BI.Storable (upEmb : UEmb _ (MM F)) (pcAny c ℓ s j) := by
  unfold pcAny; infer_instance
instance xpAt_storable (c j q) (v : XBuf F) : BI.Storable (upEmb : UEmb _ (MM F)) (xpAt c j q v) :=
  pts_storable _ _ _ _
instance freePc_storable (e ℓ h j) : BI.Storable (upEmb : UEmb _ (MM F)) (freePc e ℓ h j) := by
  unfold freePc; split <;> infer_instance
instance free_storable (e ℓ h) : BI.Storable (upEmb : UEmb _ (MM F)) (free e ℓ h) := by
  unfold free; infer_instance
instance heardTo_storable (e ℓ d) : BI.Storable (upEmb : UEmb _ (MM F)) (heardTo e ℓ d) := by
  unfold heardTo; infer_instance
instance heardTo_persistent (e ℓ d) : BI.Persistent (heardTo e ℓ d : sProp (MM F)) := by
  unfold heardTo; infer_instance

instance payload_storable (g : GSem nD τ sig) (r d : ℕ) : BI.Storable (upEmb : UEmb _ (MM F)) ((Rd X).payload g r d) := by
  show BI.Storable _ ((kindOf g.2).elim iprop(emp) fun k => payloadK X g.1.1 k r d)
  cases kindOf g.2 with
  | none => exact inferInstanceAs (BI.Storable _ (iprop(emp) : sProp (MM F)))
  | some k =>
    show BI.Storable _ (payloadK X g.1.1 k r d)
    cases k <;> unfold payloadK
    · dsimp only; unfold barPay; infer_instance
    · dsimp only; infer_instance
    · dsimp only; unfold sndPay; split <;> infer_instance
    · dsimp only; unfold rcvPay; infer_instance

theorem duties_cell (c : Dev nD) (k : Kd) (r : ℕ) : (Rd X).duties (cell c k) r = dutiesK k r := by
  show (kindOf (semOf k)).elim ∅ _ = _
  rw [kindOf_semOf]
  rfl

theorem amount_cell (c : Dev nD) (k : Kd) (r d : ℕ) : (Rd X).amount (cell c k) r d = amountK k := by
  show (kindOf (semOf k)).elim 1 _ = _
  rw [kindOf_semOf]
  rfl

theorem payload_cell (c : Dev nD) (k : Kd) (r d : ℕ) : (Rd X).payload (cell c k) r d = payloadK X c k r d := by
  show (kindOf (semOf k)).elim iprop(emp) _ = _
  rw [kindOf_semOf]
  rfl

theorem expect_cell (c : Dev nD) (k : Kd) (r : ℕ) : (Rd X).expect (cell c k) r = (dutiesK k r).card * amountK k := by
  unfold Schedule.expect Schedule.amountOf
  rw [duties_cell, Finset.sum_congr rfl (fun d _ => amount_cell X c k r d), Finset.sum_const, smul_eq_mul]

/-- The one duty of a landing that happens. -/
theorem duties_rcv (c : Dev nD) {ℓ : Bool} {h : ℕ} {j : Fin 4} (hs : snds ℓ h j) :
    (Rd X).duties (cell c (.rcv ℓ (slotOf (h + 1)) j)) (h / 2) = {0} := by
  rw [duties_cell]
  show (if snds ℓ (rHop _ _) j then ({0} : Finset ℕ) else ∅) = {0}
  rw [rHop_slot, if_pos hs]

/-- The one duty of a send that happens. -/
theorem duties_snd (c : Dev nD) {ℓ : Bool} {h : ℕ} {j : Fin 4} (hs : snds ℓ h j) :
    (Rd X).duties (cell c (.snd ℓ (slotOf h) j)) (h / 2) = {0} := by
  rw [duties_cell]
  show (if snds ℓ (sHop _ _) j then ({0} : Finset ℕ) else ∅) = {0}
  rw [sHop_slot, if_pos hs]

theorem expect_rcv (c : Dev nD) {ℓ : Bool} {h : ℕ} {j : Fin 4} (hs : snds ℓ h j) :
    (Rd X).expect (cell c (.rcv ℓ (slotOf (h + 1)) j)) (h / 2) = N := by
  have e := duties_rcv X c hs
  rw [duties_cell] at e
  rw [expect_cell, e, Finset.card_singleton, Nat.one_mul]
  rfl

theorem expect_snd (c : Dev nD) {ℓ : Bool} {h : ℕ} {j : Fin 4} (hs : snds ℓ h j) :
    (Rd X).expect (cell c (.snd ℓ (slotOf h) j)) (h / 2) = N := by
  have e := duties_snd X c hs
  rw [duties_cell] at e
  rw [expect_cell, e, Finset.card_singleton, Nat.one_mul]
  rfl

theorem payload_rcv (c : Dev nD) (ℓ : Bool) (h : ℕ) (j : Fin 4) (d : ℕ) :
    (Rd X).payload (cell c (.rcv ℓ (slotOf (h + 1)) j)) (h / 2) d = rcvPay X c ℓ h j := by
  rw [payload_cell]
  show rcvPay X c ℓ (rHop _ _) j = _
  rw [rHop_slot]

theorem payload_snd (c : Dev nD) (ℓ : Bool) (h : ℕ) (j : Fin 4) (d : ℕ) :
    (Rd X).payload (cell c (.snd ℓ (slotOf h) j)) (h / 2) d = sndPay X c ℓ h j := by
  rw [payload_cell]
  show sndPay X c ℓ (sHop _ _) j = _
  rw [sHop_slot]

/-- All of a landing's payloads. -/
theorem rest_rcv (c : Dev nD) {ℓ : Bool} {h : ℕ} {j : Fin 4} (hs : snds ℓ h j) :
    bigSep ((Rd X).duties (cell c (.rcv ℓ (slotOf (h + 1)) j)) (h / 2) \ ∅)
      (fun d => (Rd X).payload (cell c (.rcv ℓ (slotOf (h + 1)) j)) (h / 2) d) = rcvPay X c ℓ h j := by
  rw [Finset.sdiff_empty, duties_rcv X c hs, bigSep_singleton, payload_rcv]

/-- All of a send's payloads. -/
theorem rest_snd (c : Dev nD) {ℓ : Bool} {h : ℕ} {j : Fin 4} (hs : snds ℓ h j) :
    bigSep ((Rd X).duties (cell c (.snd ℓ (slotOf h) j)) (h / 2) \ ∅)
      (fun d => (Rd X).payload (cell c (.snd ℓ (slotOf h) j)) (h / 2) d) = sndPay X c ℓ h j := by
  rw [Finset.sdiff_empty, duties_snd X c hs, bigSep_singleton, payload_snd]

/-- Both barrier payloads. -/
theorem rest_bar (c : Dev nD) : bigSep ((Rd X).duties (cell c .bar) 0 \ ∅) (fun d => (Rd X).payload (cell c .bar) 0 d)
    = iprop(barPay c false ∗ barPay c true) := by
  rw [Finset.sdiff_empty, duties_cell]
  show bigSep (insert 0 ({1} : Finset ℕ)) _ = _
  rw [bigSep_insert (by decide), bigSep_singleton, payload_cell, payload_cell]
  rfl

/-! ## Levels and what is owed -/

/-- The indices a cell's units are owed under: the hop. -/
def L (g : GSem nD τ sig) : Finset ℕ := if g.1.2 = .tc then Finset.range 64 else ∅

/-- Levels by kind and hop. -/
def lvK : Kd → ℕ → ℕ
  | .bar, _ => 1
  | .crd _, h => 2 * h + 1
  | .snd _ _ _, _ => 0
  | .rcv _ _ _, h => 2 * h + 2

/-- Levels. -/
def lv (g : GSem nD τ sig) (h : ℕ) : ℕ := (kindOf g.2).elim 0 fun k => lvK k h

theorem L_of_ne (g : GSem nD τ sig) (h : g.1.2 ≠ .tc) : L g = ∅ := if_neg h

theorem L_tc (c : Dev nD) (sm : SemLoc sig) : L ((c : Thread nD τ), sm) = Finset.range 64 := if_pos rfl

theorem lv_cell (c : Dev nD) (k : Kd) (h : ℕ) : lv (cell c k) h = lvK k h := by
  unfold lv
  rw [kindOf_semOf]
  rfl

/-- One thing owed: to which device, on which semaphore, at which hop. -/
abbrev Ob : Type := Dev nD × Kd × ℕ

/-- What a list owes, the first last. -/
def tally : List Ob → CellTallies nD τ sig ℕ
  | [] => 0
  | o :: l => tally l + tallyAt (cell o.1 o.2.1) o.2.2 (amountK o.2.1)

/-- Every thing owed in a list lies above a level. -/
def above (cut : ℕ) (l : List Ob) : Prop := ∀ o ∈ l, cut < lvK o.2.1 o.2.2 ∧ o.2.2 < 64

theorem tally_pos {l : List Ob} {g : GSem nD τ sig} {u : ℕ} (h : 0 < tally l g u) : ∃ o ∈ l, g = cell o.1 o.2.1 ∧ u = o.2.2 := by
  induction l with
  | nil => exact absurd h (Nat.lt_irrefl 0)
  | cons o l ih =>
    by_cases e : g = cell o.1 o.2.1 ∧ u = o.2.2
    · exact ⟨o, List.mem_cons_self, e⟩
    · have h' : 0 < tally l g u + tallyAt (cell o.1 o.2.1) o.2.2 (amountK o.2.1) g u := h
      rw [tallyAt_apply, if_neg e, Nat.add_zero] at h'
      obtain ⟨o', ho', e'⟩ := ih h'
      exact ⟨o', List.mem_cons_of_mem _ ho', e'⟩

variable (F) in
/-- The levels, as a fact every device has. -/
def Lev : sProp (MM F) := levAts L lv

instance Lev_persistent : BI.Persistent (Lev F) := by unfold Lev; infer_instance

/-- A wait below everything owed is allowed. -/
theorem mayWait (c : Dev nD) (k : Kd) (h : ℕ) (hh : h < 64) (l : List Ob) (ha : above (lvK k h) l) :
    Lev F ⊢ MayWait (c : Thread nD τ) (semOf k) h (tally l) :=
  MayOwe.of_cut (L := L) (lev := lv) (lvK k h)
    (fun p hp => by rw [Finset.mem_singleton.mp hp, L_tc]; exact Finset.mem_range.mpr hh)
    (fun g u hg => by
      obtain ⟨o, ho, e, rfl⟩ := tally_pos hg
      rw [e, L_tc]; exact Finset.mem_range.mpr (ha o ho).2)
    (fun p hp => by rw [Finset.mem_singleton.mp hp]; exact (lv_cell c k h).le)
    (fun g u hg => by
      obtain ⟨o, ho, e, rfl⟩ := tally_pos hg
      rw [e, lv_cell]; exact (ha o ho).1)

end Cert.KernelIdeal.Ring

end
-- ==== Proof.Ideal.Action.lean ====
/- One lemma per action of the kernel's body: what it needs and what it leaves, at a symbolic device, lane, hop and piece. -/
module

public import proofs.«01_k».proof.Proof.Ideal.Schedule

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

/-- No loop variant is needed. -/
abbrev 𝒱₀ : Variants := Variants.none

variable (F) in
/-- A program of device `c` runs and ends with `Q`. -/
abbrev Run (c : Dev nD) (p : Pg F) (Q : PUnit → sProp (MM F)) : sProp (MM F) :=
  wp frame (wpE (defs₀ (F := F)) 𝒱₀ (c : Thread nD τ) none) Set.univ p Q

/-- The slots that are released hop by hop. -/
def keys : Finset Key := Finset.univ ×ˢ (Finset.univ ×ˢ Finset.Icc 2 15)

variable (X : Dev nD → XBuf F) (κ : GSem nD τ sig → ℕ) (ιs : Key → ℕ)

/-- What every device may use at any time: the invariants of all cells, those of all slots, and the levels. -/
def Ctx : sProp (MM F) :=
  iprop((bigSep Finset.univ fun p : Dev nD × Kd => cellInv ER (Rd X) (κ (cell p.1 p.2)) (cell p.1 p.2))
    ∗ (bigSep keys fun k => slotInv ES (ιs k) k (free k.1 k.2.1 k.2.2)) ∗ Lev F)

instance Ctx_persistent : BI.Persistent (Ctx X κ ιs) := by unfold Ctx; infer_instance

theorem Ctx_cell (c : Dev nD) (k : Kd) : Ctx X κ ιs ⊢ cellInv ER (Rd X) (κ (cell c k)) (cell c k) := by
  have e : (bigSep Finset.univ fun p : Dev nD × Kd => (cellInv ER (Rd X) (κ (cell p.1 p.2)) (cell p.1 p.2) : sProp (MM F)))
      ⊢ cellInv ER (Rd X) (κ (cell c k)) (cell c k) := bigSep_elim (Finset.mem_univ (c, k))
  unfold Ctx
  iintro ⟨#H, -⟩
  iapply e
  iexact H

theorem Ctx_slot {e : Dev nD} {ℓ : Bool} {h : ℕ} (h2 : 2 ≤ h) (h15 : h ≤ 15) :
    Ctx X κ ιs ⊢ slotInv ES (ιs (e, ℓ, h)) (e, ℓ, h) (free e ℓ h) := by
  have m : ((e, ℓ, h) : Key) ∈ keys :=
    Finset.mem_product.mpr ⟨Finset.mem_univ _, Finset.mem_product.mpr ⟨Finset.mem_univ _, Finset.mem_Icc.mpr ⟨h2, h15⟩⟩⟩
  have t : (bigSep keys fun k => (slotInv ES (ιs k) k (free k.1 k.2.1 k.2.2) : sProp (MM F)))
      ⊢ slotInv ES (ιs (e, ℓ, h)) (e, ℓ, h) (free e ℓ h) := bigSep_elim m
  unfold Ctx
  iintro ⟨-, #H, -⟩
  iapply t
  iexact H

/-- A wait below everything owed is allowed. -/
theorem Ctx_may (c : Dev nD) (k : Kd) {h : ℕ} (hh : h < 64) {l : List Ob} (ha : above (lvK k h) l) :
    Ctx X κ ιs ⊢ MayWait (c : Thread nD τ) (semOf k) h (tally l) := by
  unfold Ctx
  iintro ⟨-, -, #H⟩
  iapply (mayWait (F := F) c k h hh l ha)
  iexact H

/-- Device `c` owes a list. -/
def Owe (c : Dev nD) (l : List Ob) : sProp (MM F) := iprop(∃ W, owes (c : Thread nD τ) (tally l) W)

theorem above_cons {cut : ℕ} {o : Ob} {l : List Ob} : above cut (o :: l) ↔ (cut < lvK o.2.1 o.2.2 ∧ o.2.2 < 64) ∧ above cut l :=
  List.forall_mem_cons

theorem above.mono {cut cut' : ℕ} {l : List Ob} (h : above cut l) (hc : cut' ≤ cut) : above cut' l :=
  fun o ho => ⟨lt_of_le_of_lt hc (h o ho).1, (h o ho).2⟩

/-- The position at which `c` receives hop `h`. -/
def Rv (c : Dev nD) (ℓ : Bool) (h : ℕ) (j : Fin 4) : sProp (MM F) := atPos ER (cell c (.rcv ℓ (slotOf (h + 1)) j)) (h / 2) ∅ 0

/-- The position at which `c` sends hop `h`. -/
def Sv (c : Dev nD) (ℓ : Bool) (h : ℕ) (j : Fin 4) : sProp (MM F) :=
  iprop(atPos ER (cell c (.snd ℓ (slotOf h) j)) (h / 2) ∅ 0 ∗ reached ER (cell c (.snd ℓ (slotOf h) j)) (h / 2))

/-- What `c` is owed of hop `h`'s landing. -/
def Cr (c : Dev nD) (ℓ : Bool) (h : ℕ) (j : Fin 4) : sProp (MM F) := cred (tallyAt (cell c (.rcv ℓ (slotOf (h + 1)) j)) h N)

/-- What `c` is owed of hop `h`'s send. -/
def Cs (c : Dev nD) (ℓ : Bool) (h : ℕ) (j : Fin 4) : sProp (MM F) := cred (tallyAt (cell c (.snd ℓ (slotOf h) j)) 0 N)

/-- The right to make hop `h`'s copy. -/
def Tk (c : Dev nD) (ℓ : Bool) (h : ℕ) (j : Fin 4) : sProp (MM F) :=
  iprop(dutyTok ER (cell c (.snd ℓ (slotOf h) j)) (h / 2) 0 ∗ dutyTok ER (cell (dn ℓ c) (.rcv ℓ (slotOf (h + 1)) j)) (h / 2) 0)

theorem slotOf_add2 (h : ℕ) : slotOf (h + 2) = slotOf h := Fin.ext (show (h + 2) % 2 = h % 2 by omega)

theorem half_add2 (h : ℕ) : (h + 2) / 2 = h / 2 + 1 := by omega

theorem Rv_add2 (c : Dev nD) (ℓ : Bool) (h : ℕ) (j : Fin 4) :
    (Rv c ℓ (h + 2) j : sProp (MM F)) = atPos ER (cell c (.rcv ℓ (slotOf (h + 1)) j)) (h / 2 + 1) ∅ 0 := by
  unfold Rv
  rw [half_add2, slotOf_add2 (h + 1)]

theorem Sv_add2 (c : Dev nD) (ℓ : Bool) (h : ℕ) (j : Fin 4) :
    (Sv c ℓ (h + 2) j : sProp (MM F)) = iprop(atPos ER (cell c (.snd ℓ (slotOf h) j)) (h / 2 + 1) ∅ 0
      ∗ reached ER (cell c (.snd ℓ (slotOf h) j)) (h / 2 + 1)) := by
  unfold Sv
  rw [half_add2, slotOf_add2 h]

/-- Every piece of a lane's buffer credits the same. -/
theorem credit_piece (ℓ : Bool) (s : Fin 2) (j : Fin 4) : (piece (laneOf ℓ).comm s j).view.dmaCredit = N := by
  cases ℓ <;> rfl

/-- Copies of a piece move whole words. -/
theorem piece_exact (ℓ : Bool) (s : Fin 2) (j : Fin 4) : (piece (laneOf ℓ).comm s j).view.WordExact :=
  (View.wordExact_bits rfl).reshape _ _

/-- Copies of a piece of the local block move whole words. -/
theorem xpiece_exact (j : Fin 4) : (xpiece kA.x j).view.WordExact := View.wordExact_bits rfl

/-- Waiting on a copy into a piece is waiting for the piece's units. -/
theorem wait_eq (c : Dev nD) (q : Kd) (sem : DmaSem sig) (hq : semOf q = .dma sem) {sp : Space} (src : Memref sig .tc sp S32x4096 .f32)
    (ℓ : Bool) (s : Fin 2) (j : Fin 4) (h₁ : src.view.WordExact) (h₂ : (piece (laneOf ℓ).comm s j).view.WordExact)
    (K : PUnit → sProp (MM F)) :
    wpE (defs₀ (F := F)) 𝒱₀ (c : Thread nD τ) none Set.univ (.waitDma2 sem src (piece (laneOf ℓ).comm s j) h₁ h₂) K
      = waitSpec (c : Thread nD τ) Set.univ (semOf q) N K := by
  rw [hq, ← credit_piece ℓ s j]
  exact wpE_waitDma2_eq 𝒱₀ (c : Thread nD τ) none Set.univ K

/-- A piece has elements. -/
theorem piece_nonempty (ℓ : Bool) (s : Fin 2) (j : Fin 4) : (piece (laneOf ℓ).comm s j).view.set.Nonempty :=
  Finset.map_nonempty.mpr ⟨fun a => ⟨0, by fin_cases a <;> decide⟩, Finset.mem_univ _⟩

/-- What hop `h` writes on `e` cannot be there twice. -/
theorem free_free_false (e : Dev nD) (ℓ : Bool) {h : ℕ} (h15 : h ≤ 15) : iprop(free e ℓ h ∗ free e ℓ h) ⊢ (False : sProp (MM F)) := by
  have key (j : Fin 4) (hs : snds ℓ h j) : iprop(freePc e ℓ h j ∗ freePc e ℓ h j) ⊢ (False : sProp (MM F)) := by
    unfold freePc
    rw [if_pos hs]
    iintro ⟨⟨H1, -⟩, ⟨H2, -⟩⟩
    unfold pcAny
    iapply (slot_slot_false (ℓ := (piece (laneOf ℓ).comm (slotOf (h + 1)) j).view.loc (e : Thread nD τ))
      (I := (piece (laneOf ℓ).comm (slotOf (h + 1)) j).view.set) (piece_nonempty ℓ (slotOf (h + 1)) j))
    isplitl [H1] <;> iassumption
  unfold free four
  by_cases hℓ : h = 15 ∧ ℓ = false
  · iintro ⟨⟨-, -, H1, -⟩, ⟨-, -, H2, -⟩⟩
    iapply (key 2 (by obtain ⟨rfl, rfl⟩ := hℓ; decide))
    isplitl [H1] <;> iassumption
  · iintro ⟨⟨H1, -⟩, ⟨H2, -⟩⟩
    iapply (key 0 (by
      rcases Nat.lt_or_eq_of_le h15 with hl | rfl
      · unfold snds; simp [hl]
      · cases ℓ
        · exact absurd ⟨rfl, rfl⟩ hℓ
        · decide))
    isplitl [H1] <;> iassumption

variable {X κ ιs}

/-- Waiting for the landing of hop `h`'s piece `j`: the piece comes, and its next landing's round is open. -/
theorem wp_waitRcv {c : Dev nD} {ℓ : Bool} {h : ℕ} {j : Fin 4} (hs : snds ℓ h j) {l : List Ob} (ha : above (2 * h + 2) l) (hh : h < 64)
    {k : Pg F} {Q : PUnit → sProp (MM F)} :
    iprop(Ctx X κ ιs ∗ Owe c l ∗ Cr c ℓ h j ∗ Rv c ℓ h j)
      ⊢ iprop(((Owe c l ∗ Rv c ℓ (h + 2) j ∗ reached ER (cell c (.rcv ℓ (slotOf (h + 1)) j)) ((h + 2) / 2)
          ∗ pcAt c ℓ (slotOf (h + 1)) j fullShare (X (org ℓ (h + 1) c))) -∗ Run F c k Q)
        -∗ Run F c (waitRcv (laneOf ℓ) (slotOf (h + 1)) j k) Q) := by
  rw [Rv_add2, half_add2]
  unfold Owe Cr Rv waitRcv
  iintro ⟨#HC, ⟨%W, HO⟩, Hc, Hat⟩ Hk
  iapply (Rounds.wp_wait_rest_token 𝒱₀ ER (Rd X) (c : Thread nD τ) none (κ := κ (cell c (.rcv ℓ (slotOf (h + 1)) j)))
      (sm := semOf (.rcv ℓ (slotOf (h + 1)) j)) (k' := N) (wait_eq c (.rcv ℓ (slotOf (h + 1)) j) _ rfl (piece (laneOf ℓ).comm (slotOf (h + 1)) j) ℓ _ j (piece_exact ℓ _ j) (piece_exact ℓ _ j))
      (Set.mem_univ _) h (O := tally l) (W := W) (R := h / 2) (m := 0) (T := ∅)
      ((Nat.zero_add _).trans (expect_rcv X c hs).symm)) $$ [Hc HO Hat]
  · isplitr; · iapply (Ctx_cell X κ ιs c); iexact HC
    isplitl [Hc]; · iexact Hc
    isplitl [HO]; · iexact HO
    isplitr
    · iapply (Ctx_may X κ ιs c (.rcv ℓ (slotOf (h + 1)) j) hh ha); iexact HC
    iexact Hat
  iintro ⟨HO, Hat, #Hr, Hp⟩
  iapply Hk
  isplitl [HO]; · iexists _; iexact HO
  isplitl [Hat]; · iexact Hat
  isplitr; · iexact Hr
  iapply (Entails.of_eq ((rest_rcv X c hs).trans (by unfold rcvPay; rfl))) $$ Hp

/-- Sending piece `j` on at hop `h`: the left half of the slot's piece goes with the copy. -/
theorem wp_send {c : Dev nD} {ℓ : Bool} {h : ℕ} {j : Fin 4} (hs : snds ℓ h j) (h0 : h ≠ 0) {l : List Ob}
    {k : Pg F} {Q : PUnit → sProp (MM F)} :
    iprop(Ctx X κ ιs ∗ Owe c ((dn ℓ c, .rcv ℓ (slotOf (h + 1)) j, h) :: l) ∗ Tk c ℓ h j ∗ freePc (dn ℓ c) ℓ h j
        ∗ reached ER (cell c (.snd ℓ (slotOf h) j)) (h / 2) ∗ pcAt c ℓ (slotOf h) j fullShare.left (X (org ℓ h c)))
      ⊢ iprop(((Owe c l ∗ Cs c ℓ h j) -∗ Run F c k Q)
        -∗ Run F c (send (laneOf ℓ) (dn ℓ c) (slotOf h) (slotOf (h + 1)) j k) Q) := by
  unfold Owe Tk freePc Cs send pcAny slot pcAt
  rw [if_pos hs]
  iintro ⟨#HC, ⟨%W, HO⟩, ⟨Ht1, Ht2⟩, ⟨⟨%fd, Hd⟩, #Hr2⟩, #Hr1, Hp⟩ Hk
  iapply (Rounds.wp_send_pointsTo 𝒱₀ ER (Rd X) (c : Thread nD τ) none (c' := (dn ℓ c : Thread nD τ))
      (src := piece (laneOf ℓ).comm (slotOf h) j) (dst := piece (laneOf ℓ).comm (slotOf (h + 1)) j)
      (hsrc := piece_exact ℓ _ j) (hdst := piece_exact ℓ _ j)
      (sS := semOf (.snd ℓ (slotOf h) j)) (sem := semOf (.rcv ℓ (slotOf (h + 1)) j)) (q := fullShare.left)
      (fs := bufOf c (X (org ℓ h c)) ℓ) (κ₁ := κ (cell c (.snd ℓ (slotOf h) j))) (κ₂ := κ (cell (dn ℓ c) (.rcv ℓ (slotOf (h + 1)) j)))
      (r₁ := h / 2) (r₂ := h / 2) (d₁ := 0) (d₂ := 0) (fd := fd)
      (by rw [duties_snd X c hs]; exact Finset.mem_singleton_self _) (by rw [duties_rcv X (dn ℓ c) hs]; exact Finset.mem_singleton_self _)
      h 0 N (credit_piece ℓ _ j) (amount_cell X c _ _ _) (amount_cell X (dn ℓ c) _ _ _) (tally l) rfl (W := W)
      (by rw [payload_snd]; unfold sndPay pcAt; rw [if_neg h0])
      (by
        rw [payload_rcv]; unfold rcvPay pcAt; rw [org_dn]
        refine Entails.of_eq (pointsTo_congr ?_)
        exact landed (dn ℓ c) c ℓ (slotOf (h + 1)) j (X (org ℓ h c)) fd _ (piece_read c c ℓ (slotOf h) j _))) $$ [HO Ht1 Ht2 Hd Hp]
  · isplitr; · iapply (Ctx_cell X κ ιs c); iexact HC
    isplitr; · iapply (Ctx_cell X κ ιs (dn ℓ c)); iexact HC
    isplitl [Hp]; · iexact Hp
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

/-- Sending piece `j` of the local block. -/
theorem wp_sendX {c : Dev nD} {ℓ : Bool} {j : Fin 4} {l : List Ob} {k : Pg F} {Q : PUnit → sProp (MM F)} :
    iprop(Ctx X κ ιs ∗ Owe c ((dn ℓ c, .rcv ℓ (slotOf (0 + 1)) j, 0) :: l) ∗ Tk c ℓ 0 j ∗ freePc (dn ℓ c) ℓ 0 j
        ∗ reached ER (cell c (.snd ℓ (slotOf 0) j)) 0 ∗ xpAt c j (xq ℓ) (X c))
      ⊢ iprop(((Owe c l ∗ Cs c ℓ 0 j) -∗ Run F c k Q)
        -∗ Run F c (sendX (laneOf ℓ) kA.x (dn ℓ c) j k) Q) := by
  have hs : snds ℓ 0 j := rfl
  unfold Owe Tk freePc Cs sendX pcAny slot xpAt
  rw [if_pos hs]
  iintro ⟨#HC, ⟨%W, HO⟩, ⟨Ht1, Ht2⟩, ⟨⟨%fd, Hd⟩, #Hr2⟩, #Hr1, Hp⟩ Hk
  iapply (Rounds.wp_send_pointsTo 𝒱₀ ER (Rd X) (c : Thread nD τ) none (c' := (dn ℓ c : Thread nD τ))
      (src := xpiece kA.x j) (dst := piece (laneOf ℓ).comm 1 j)
      (hsrc := xpiece_exact j) (hdst := piece_exact ℓ _ j)
      (sS := semOf (.snd ℓ (slotOf 0) j)) (sem := semOf (.rcv ℓ (slotOf (0 + 1)) j)) (q := xq ℓ)
      (fs := xBuf c (X c)) (κ₁ := κ (cell c (.snd ℓ (slotOf 0) j))) (κ₂ := κ (cell (dn ℓ c) (.rcv ℓ (slotOf (0 + 1)) j)))
      (r₁ := 0 / 2) (r₂ := 0 / 2) (d₁ := 0) (d₂ := 0) (fd := fd)
      (by rw [duties_snd X c hs]; exact Finset.mem_singleton_self _) (by rw [duties_rcv X (dn ℓ c) hs]; exact Finset.mem_singleton_self _)
      0 0 N (credit_piece ℓ _ j) (amount_cell X c _ _ _) (amount_cell X (dn ℓ c) _ _ _) (tally l) rfl (W := W)
      (by rw [payload_snd]; unfold sndPay xpAt; rw [if_pos rfl])
      (by
        rw [payload_rcv]; unfold rcvPay pcAt; rw [org_dn]
        refine Entails.of_eq (pointsTo_congr ?_)
        exact landed (dn ℓ c) c ℓ (slotOf (0 + 1)) j (X (org ℓ 0 c)) fd _ (by rw [org_zero]))) $$ [HO Ht1 Ht2 Hd Hp]
  · isplitr; · iapply (Ctx_cell X κ ιs c); iexact HC
    isplitr; · iapply (Ctx_cell X κ ιs (dn ℓ c)); iexact HC
    isplitl [Hp]; · iexact Hp
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

/-- Waiting, on whatever source it names, for hop `h`'s copy of piece `j` to have been read: the share it read comes back. -/
theorem wp_waitSent {c : Dev nD} {ℓ : Bool} {h : ℕ} {j : Fin 4} (hs : snds ℓ h j) {l : List Ob} (ha : above 0 l)
    {sp : Space} (src : Memref sig .tc sp S32x4096 .f32) (h₁ : src.view.WordExact) (r : Fin 2) (h₂)
    {k : PUnit → Pg F} {Q : PUnit → sProp (MM F)} :
    iprop(Ctx X κ ιs ∗ Owe c l ∗ Cs c ℓ h j ∗ Sv c ℓ h j)
      ⊢ iprop(((Owe c l ∗ Sv c ℓ (h + 2) j ∗ sndPay X c ℓ h j) -∗ Run F c (k ⟨⟩) Q)
        -∗ Run F c (.op (.waitDma2 (psem (laneOf ℓ).snd (slotOf h) j) src (piece (laneOf ℓ).comm r j) h₁ h₂) k) Q) := by
  rw [Sv_add2]
  unfold Owe Cs Sv
  iintro ⟨#HC, ⟨%W, HO⟩, Hc, Hat, -⟩ Hk
  iapply (Rounds.wp_wait_rest_token 𝒱₀ ER (Rd X) (c : Thread nD τ) none (κ := κ (cell c (.snd ℓ (slotOf h) j)))
      (sm := semOf (.snd ℓ (slotOf h) j)) (k' := N) (wait_eq c (.snd ℓ (slotOf h) j) _ rfl src ℓ r j h₁ h₂)
      (Set.mem_univ _) 0 (O := tally l) (W := W) (R := h / 2) (m := 0) (T := ∅)
      ((Nat.zero_add _).trans (expect_snd X c hs).symm)) $$ [Hc HO Hat]
  · isplitr; · iapply (Ctx_cell X κ ιs c); iexact HC
    isplitl [Hc]; · iexact Hc
    isplitl [HO]; · iexact HO
    isplitr
    · iapply (Ctx_may X κ ιs c (.snd ℓ (slotOf h) j) (h := 0) (by decide) ha); iexact HC
    iexact Hat
  iintro ⟨HO, Hat, #Hr, Hp⟩
  iapply Hk
  isplitl [HO]; · iexists _; iexact HO
  isplitl [Hat]
  · isplitl [Hat]; · iexact Hat
    iexact Hr
  iapply (Entails.of_eq (rest_snd X c hs)) $$ Hp

/-- Waiting for hop `h`'s copy of piece `j` out of its slot. -/
theorem wp_waitSnd {c : Dev nD} {ℓ : Bool} {h : ℕ} {j : Fin 4} (hs : snds ℓ h j) (h0 : h ≠ 0) {l : List Ob} (ha : above 0 l)
    {r : Fin 2} {k : Pg F} {Q : PUnit → sProp (MM F)} :
    iprop(Ctx X κ ιs ∗ Owe c l ∗ Cs c ℓ h j ∗ Sv c ℓ h j)
      ⊢ iprop(((Owe c l ∗ Sv c ℓ (h + 2) j ∗ pcAt c ℓ (slotOf h) j fullShare.left (X (org ℓ h c))) -∗ Run F c k Q)
        -∗ Run F c (waitSnd (laneOf ℓ) (slotOf h) r j k) Q) := by
  have e := wp_waitSent (X := X) (κ := κ) (ιs := ιs) (c := c) hs ha (piece (laneOf ℓ).comm (slotOf h) j) (piece_exact ℓ _ j) r
    (piece_exact ℓ r j) (k := fun _ => k) (Q := Q)
  unfold sndPay at e
  rw [if_neg h0] at e
  exact e

/-- Waiting for the copy of piece `j` of the local block. -/
theorem wp_waitSndX {c : Dev nD} {ℓ : Bool} {j : Fin 4} {l : List Ob} (ha : above 0 l) {k : Pg F} {Q : PUnit → sProp (MM F)} :
    iprop(Ctx X κ ιs ∗ Owe c l ∗ Cs c ℓ 0 j ∗ Sv c ℓ 0 j)
      ⊢ iprop(((Owe c l ∗ Sv c ℓ 2 j ∗ xpAt c j (xq ℓ) (X c)) -∗ Run F c k Q)
        -∗ Run F c (waitSndX (laneOf ℓ) kA.x j k) Q) := by
  have e := wp_waitSent (X := X) (κ := κ) (ιs := ιs) (c := c) (ℓ := ℓ) (h := 0) (j := j) rfl ha (xpiece kA.x j) (xpiece_exact j) 1
    (piece_exact ℓ 1 j) (k := fun _ => k) (Q := Q)
  unfold sndPay at e
  rw [if_pos rfl] at e
  exact e

end Cert.KernelIdeal.Ring

end
-- ==== Proof.Ideal.Credit.lean ====
/- The credits: a device that has read a slot puts it where the writer will find it and signals; the writer waits and takes it. -/
module

public import proofs.«01_k».proof.Proof.Ideal.Action

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable {X : Dev nD → XBuf F} {κ : GSem nD τ sig → ℕ} {ιs : Key → ℕ}

/-- What the credits of a set told. -/
def told (F : FTy → Type) [FloatOps F] (c : Dev nD) (ℓ : Bool) (S : Finset ℕ) : sProp (MM F) := bigSep S fun d => heardTo (dn ℓ c) ℓ d

/-- The credits of lane `ℓ` taken before hop `h`, with what they told. -/
def CrdSt (c : Dev nD) (ℓ : Bool) (h : ℕ) : sProp (MM F) :=
  iprop(∃ T : Finset ℕ, atPos ER (cell c (.crd ℓ)) 0 T (h - 2) ∗ told F c ℓ T)

/-- The credit owed to `c` for hop `h`. -/
def Cc (c : Dev nD) (ℓ : Bool) (h : ℕ) : sProp (MM F) := cred (tallyAt (cell c (.crd ℓ)) h 1)

theorem heardTo_elim (e : Dev nD) (ℓ : Bool) {h i : ℕ} (h2 : 2 ≤ h) (hi : h ≤ i) : (heardTo e ℓ i : sProp (MM F)) ⊢ released ES (e, ℓ, h) 1 := by
  have t : (bigSep (Finset.Icc 2 i) fun i => (released ES (e, ℓ, i) 1 : sProp (MM F))) ⊢ released ES (e, ℓ, h) 1 :=
    bigSep_elim (Finset.mem_Icc.mpr ⟨h2, hi⟩)
  exact t

theorem heardTo_succ (e : Dev nD) (ℓ : Bool) {h : ℕ} (h1 : 1 ≤ h) :
    (heardTo e ℓ (h + 1) : sProp (MM F)) = iprop(released ES (e, ℓ, h + 1) 1 ∗ heardTo e ℓ h) := by
  unfold heardTo
  have hI : Finset.Icc 2 (h + 1) = insert (h + 1) (Finset.Icc 2 h) := by
    ext a
    rw [Finset.mem_insert, Finset.mem_Icc, Finset.mem_Icc]
    omega
  rw [hI, bigSep_insert (by rw [Finset.mem_Icc]; omega)]
  rfl

theorem heardTo_one (e : Dev nD) (ℓ : Bool) : (heardTo e ℓ 1 : sProp (MM F)) = BI.emp := by
  unfold heardTo
  rw [show Finset.Icc 2 1 = (∅ : Finset ℕ) from by decide, bigSep_empty]

/-- A writer told that the slot is free takes it. -/
theorem take_slot {e : Dev nD} {ℓ : Bool} {h i : ℕ} (h2 : 2 ≤ h) (h15 : h ≤ 15) (hi : h ≤ i) :
    iprop(Ctx X κ ιs ∗ heardTo e ℓ i ∗ writeTok ES (e, ℓ, h) 1) ⊢ (|={Set.univ}=> free e ℓ h : sProp (MM F)) := by
  iintro ⟨#HC, #Hi, Hw⟩
  iapply (slot_take ES (k := (e, ℓ, h)) (ι := ιs (e, ℓ, h)) (S := free e ℓ h) (Set.mem_univ _) 1)
  isplitr; · iapply (Ctx_slot X κ ιs h2 h15); iexact HC
  isplitr; · iapply (heardTo_elim e ℓ h2 hi); iexact Hi
  iexact Hw

/-- Of at least `h - 1` credits one is of hop `h` or a later one. -/
theorem some_late {S : Finset ℕ} {h : ℕ} (h2 : 2 ≤ h) (hS : S ⊆ Finset.Icc 2 15) (hc : h - 2 + 1 + (Finset.Icc 2 15 \ S).card ≤ 14) :
    ∃ i ∈ S, h ≤ i := by
  by_contra hn
  have hlt : ∀ i ∈ S, i < h := fun i hi => by
    by_contra hh
    exact hn ⟨i, hi, Nat.le_of_not_lt hh⟩
  have hsub : S ⊆ Finset.Icc 2 (h - 1) := fun i hi => by
    have a := hlt i hi
    have b := (Finset.mem_Icc.mp (hS hi)).1
    exact Finset.mem_Icc.mpr ⟨b, by omega⟩
  have k1 := Finset.card_le_card hsub
  rw [Nat.card_Icc] at k1
  have k2 := Finset.card_sdiff_add_card_eq_card hS
  have k3 : (Finset.Icc 2 15 : Finset ℕ).card = 14 := by decide
  omega

theorem expect_crd (c : Dev nD) (ℓ : Bool) : (Rd X).expect (cell c (.crd ℓ)) 0 = 14 := by
  rw [expect_cell]
  rfl

theorem duties_crd (c : Dev nD) (ℓ : Bool) : (Rd X).duties (cell c (.crd ℓ)) 0 = Finset.Icc 2 15 := duties_cell X c _ 0

theorem told_sdiff (c : Dev nD) (ℓ : Bool) (T S : Finset ℕ) :
    (bigSep (S \ T) fun d => (Rd X).payload (cell c (.crd ℓ)) 0 d) ⊢ told F c ℓ (S \ T) := by
  refine Entails.of_eq ?_
  unfold told
  exact congrArg _ (funext fun d => payload_cell X c (.crd ℓ) 0 d)

instance told_persistent (c : Dev nD) (ℓ : Bool) (S : Finset ℕ) : Persistent (told F c ℓ S) := by
  unfold told heardTo; infer_instance

theorem told_join (c : Dev nD) (ℓ : Bool) {T S : Finset ℕ} (h : T ⊆ S) :
    iprop(told F c ℓ T ∗ told F c ℓ (S \ T)) ⊢ told F c ℓ S := by
  refine Entails.of_eq ?_
  unfold told
  exact (bigSep_union (Φ := fun d => (heardTo (dn ℓ c) ℓ d : sProp (MM F))) (Finset.disjoint_sdiff (s := T) (t := S))).symm.trans
    (by rw [Finset.union_sdiff_of_subset h])

theorem told_elim (c : Dev nD) (ℓ : Bool) {S : Finset ℕ} {i : ℕ} (h : i ∈ S) : told F c ℓ S ⊢ heardTo (dn ℓ c) ℓ i := by
  have t : (bigSep S fun d => (heardTo (dn ℓ c) ℓ d : sProp (MM F))) ⊢ heardTo (dn ℓ c) ℓ i := bigSep_elim h
  exact t

theorem told_either (c : Dev nD) (ℓ : Bool) {T S : Finset ℕ} {i : ℕ} (h : i ∈ S) :
    iprop(told F c ℓ T ∗ told F c ℓ (S \ T)) ⊢ heardTo (dn ℓ c) ℓ i := by
  by_cases hT : i ∈ T
  · iintro ⟨#H, _⟩
    iapply (told_elim c ℓ hT); iexact H
  · iintro ⟨_, #H⟩
    iapply (told_elim c ℓ (Finset.mem_sdiff.mpr ⟨h, hT⟩)); iexact H

/-- Waiting for the credit of hop `h`, not the last: the neighbour's slot comes. -/
theorem wp_await {c : Dev nD} {ℓ : Bool} {h : ℕ} (h2 : 2 ≤ h) (h14 : h ≤ 14) {l : List Ob} (ha : above (2 * h + 1) l)
    {k : Pg F} {Q : PUnit → sProp (MM F)} :
    iprop(Ctx X κ ιs ∗ Owe c l ∗ Cc c ℓ h ∗ CrdSt c ℓ h ∗ writeTok ES (dn ℓ c, ℓ, h) 1)
      ⊢ iprop(((Owe c l ∗ CrdSt c ℓ (h + 1) ∗ free (dn ℓ c) ℓ h) -∗ Run F c k Q)
        -∗ Run F c (await (laneOf ℓ).crd.sem 1#32 k) Q) := by
  unfold Owe CrdSt Cc await
  iintro ⟨#HC, ⟨%W, HO⟩, Hc, ⟨%T, Hat, #HT⟩, Hw⟩ Hk
  iapply (Rounds.wp_wait 𝒱₀ ER (Rd X) (c : Thread nD τ) none (κ := κ (cell c (.crd ℓ)))
      (sm := semOf (.crd ℓ)) (k' := 1) (wpE_semWait_eq 𝒱₀ (c : Thread nD τ) none Set.univ) (Set.mem_univ _)
      (cr := Finsupp.single h 1) (O := tally l) (W := W) {(semOf (.crd ℓ), h)} (R := 0) (m := h - 2) (T := T)
      (by rw [Util.total_single]) (image_single_subset (semOf (.crd ℓ)) h 1)) $$ [Hc HO Hat]
  · isplitr; · iapply (Ctx_cell X κ ιs c); iexact HC
    isplitl [Hc]; · iexact Hc
    isplitl [HO]; · iexact HO
    isplitr
    · iapply (Ctx_may X κ ιs c (.crd ℓ) (h := h) (by omega) ha); iexact HC
    iexact Hat
  iintro %S ⟨%hS, HO, Hat, Hp⟩
  obtain ⟨hTS, hSD, hcard⟩ := hS
  rw [duties_crd c ℓ] at hSD hcard
  rw [expect_crd] at hcard
  obtain ⟨i, hiS, hi⟩ := some_late h2 hSD hcard
  have hi15 := (Finset.mem_Icc.mp (hSD hiS)).2
  ihave #Hq := (told_sdiff (X := X) c ℓ T S) $$ Hp
  ihave #HS := (told_join c ℓ hTS) $$ [HT Hq]
  · isplitr; · iexact HT
    iexact Hq
  imod (take_slot (X := X) (κ := κ) (ιs := ιs) (i := i) h2 (by omega) hi) $$ [HS Hw] with Hfree
  · isplitr; · iexact HC
    isplitr; · iapply (told_elim c ℓ hiS); iexact HS
    iexact Hw
  iapply Hk
  isplitl [HO]; · iexists _; iexact HO
  isplitr [Hfree]
  · iexists S
    rw [show h + 1 - 2 = h - 2 + 1 from by omega]
    isplitl [Hat]; · iexact Hat
    iexact HS
  iexact Hfree

/-- Waiting for the last credit. -/
theorem wp_awaitLast {c : Dev nD} {ℓ : Bool} {l : List Ob} (ha : above 31 l)
    {k : Pg F} {Q : PUnit → sProp (MM F)} :
    iprop(Ctx X κ ιs ∗ Owe c l ∗ Cc c ℓ 15 ∗ CrdSt c ℓ 15 ∗ writeTok ES (dn ℓ c, ℓ, 15) 1)
      ⊢ iprop(((Owe c l ∗ atPos ER (cell c (.crd ℓ)) 1 ∅ 0 ∗ free (dn ℓ c) ℓ 15) -∗ Run F c k Q)
        -∗ Run F c (await (laneOf ℓ).crd.sem 1#32 k) Q) := by
  unfold Owe CrdSt Cc await
  iintro ⟨#HC, ⟨%W, HO⟩, Hc, ⟨%T, Hat, #HT⟩, Hw⟩ Hk
  iapply (Rounds.wp_wait_rest_token 𝒱₀ ER (Rd X) (c : Thread nD τ) none (κ := κ (cell c (.crd ℓ)))
      (sm := semOf (.crd ℓ)) (k' := 1) (wpE_semWait_eq 𝒱₀ (c : Thread nD τ) none Set.univ) (Set.mem_univ _)
      (ι := 15) (O := tally l) (W := W) (R := 0) (m := 13) (T := T)
      (by rw [expect_crd])) $$ [Hc HO Hat]
  · isplitr; · iapply (Ctx_cell X κ ιs c); iexact HC
    isplitl [Hc]; · iexact Hc
    isplitl [HO]; · iexact HO
    isplitr
    · iapply (Ctx_may X κ ιs c (.crd ℓ) (h := 15) (by omega) ha); iexact HC
    iexact Hat
  iintro ⟨HO, Hat, _, Hp⟩
  rw [duties_crd c ℓ]
  ihave #Hq := (told_sdiff (X := X) c ℓ T (Finset.Icc 2 15)) $$ Hp
  ihave #H15 := (told_either c ℓ (T := T) (S := Finset.Icc 2 15) (i := 15) (by decide)) $$ [HT Hq]
  · isplitr; · iexact HT
    iexact Hq
  imod (take_slot (X := X) (κ := κ) (ιs := ιs) (i := 15) (by omega) (by omega) (Nat.le_refl 15)) $$ [H15 Hw] with Hfree
  · isplitr; · iexact HC
    isplitr; · iexact H15
    iexact Hw
  iapply Hk
  isplitl [HO]; · iexists _; iexact HO
  isplitl [Hat]; · iexact Hat
  iexact Hfree

/-- At the end of hop `h` a device puts the slot it has read where the writer finds it, and signals. -/
theorem wp_credit {c : Dev nD} {ℓ : Bool} {h : ℕ} (h1 : 1 ≤ h) (h14 : h ≤ 14) {l : List Ob}
    {k : Pg F} {Q : PUnit → sProp (MM F)} :
    iprop(Ctx X κ ιs ∗ Owe c ((up ℓ c, .crd ℓ, h + 1) :: l) ∗ dutyTok ER (cell (up ℓ c) (.crd ℓ)) 0 (h + 1)
        ∗ reached ER (cell (up ℓ c) (.crd ℓ)) 0 ∗ readerAt ES (c, ℓ, h + 1) 0 ∗ heardTo c ℓ h ∗ free c ℓ (h + 1))
      ⊢ iprop(((Owe c l ∗ heardTo c ℓ (h + 1)) -∗ Run F c k Q)
        -∗ Run F c (signal (up ℓ c) (laneOf ℓ).crd.sem k) Q) := by
  unfold Owe
  iintro ⟨#HC, ⟨%W, HO⟩, Hd, Hr, Hra, #Hh, Hf⟩ Hk
  imod (slot_release ES (k := (c, ℓ, h + 1)) (ι := ιs (c, ℓ, h + 1)) (S := free c ℓ (h + 1)) (Es := Set.univ) (Set.mem_univ _)
      (free_free_false c ℓ (by omega)) 0) $$ [Hra Hf] with ⟨_, #Hrel⟩
  · isplitr; · iapply (Ctx_slot X κ ιs (by omega) (by omega)); iexact HC
    isplitl [Hra]; · iexact Hra
    iexact Hf
  have hd : h + 1 ∈ (Rd X).duties (cell (up ℓ c) (.crd ℓ)) 0 := by
    rw [duties_crd]; exact Finset.mem_Icc.mpr ⟨by omega, by omega⟩
  have hkk : (Rd X).amount (cell (up ℓ c) (.crd ℓ)) 0 (h + 1) = 1 := by rw [amount_cell]; rfl
  have hpay : (Rd X).payload (cell (up ℓ c) (.crd ℓ)) 0 (h + 1) = heardTo c ℓ (h + 1) := by
    rw [payload_cell]
    show heardTo (dn ℓ (up ℓ c)) ℓ (h + 1) = _
    rw [dn_up]
  have hpay' : iprop(released ES (c, ℓ, h + 1) 1 ∗ heardTo c ℓ h)
      ⊢ (Rd X).payload (((up ℓ c : Dev nD) : Thread nD τ), SemLoc.reg (laneOf ℓ).crd.sem) 0 (h + 1) :=
    Entails.of_eq (hpay.trans (heardTo_succ c ℓ h1)).symm
  iapply (Rounds.wp_signal 𝒱₀ ER (Rd X) (c : Thread nD τ) none (dst := ((up ℓ c : Dev nD) : Thread nD τ)) (sem := (laneOf ℓ).crd.sem) (r := 0) (d := h + 1)
      (κ := κ (cell (up ℓ c) (.crd ℓ))) hd (k' := 1) hkk (h + 1) (tally l) rfl) $$ [HO Hd Hr]
  · isplitr; · iapply (Ctx_cell X κ ιs (up ℓ c)); iexact HC
    isplitl [HO]; · iexact HO
    isplitl [Hd]; · iexact Hd
    isplitr
    · iapply hpay'
      isplitr; · iexact Hrel
      iexact Hh
    iexact Hr
  iintro HO
  iapply Hk
  isplitl [HO]; · iexists _; iexact HO
  rw [heardTo_succ c ℓ h1]
  isplitr; · iexact Hrel
  iexact Hh

end Cert.KernelIdeal.Ring

end
-- ==== Proof.Ideal.Tile.lean ====
/- The tiles: a half of a slot is loaded, multiplied by the weights, and stored as a half block of the result. -/
module

public import proofs.«01_k».proof.Proof.Ideal.Action

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

/-- The forward table on device `c`. -/
def tabF (c : Dev nD) : S17.Idx → BitVec 32 := fun i => wordOf (org true (i 0).val c)
/-- The backward table on device `c`. -/
def tabB (c : Dev nD) : S16.Idx → BitVec 32 := fun i => wordOf (org false (i 0).val c)

/-- What a tile reads besides the rows: the two tables and the weights. -/
def Wt (c : Dev nD) (w : S4096x256.Idx → Elt F .f32) : sProp (MM F) :=
  iprop((kA.orf.view.loc (c : Thread nD τ) ↦[Finset.univ]{fullShare} tabF c)
    ∗ (kA.orb.view.loc (c : Thread nD τ) ↦[Finset.univ]{fullShare} tabB c)
    ∗ (kA.w.view.loc (c : Thread nD τ) ↦[Finset.univ]{fullShare} w))

/-- The output, right on the half blocks of `D`. -/
def Out (c : Dev nD) (X : Dev nD → XBuf F) (w : S4096x256.Idx → Elt F .f32) (D : ℕ → Prop) : sProp (MM F) :=
  iprop(∃ f : S4096x256.Idx → Elt F .f32, (kA.o.view.loc (c : Thread nD τ) ↦[Finset.univ]{fullShare} f) ∗ ⌜Good X w D f⌝)

/-- The result, put in a scoped form. -/
theorem Out_mono (c : Dev nD) (X : Dev nD → XBuf F) (w : S4096x256.Idx → Elt F .f32) {D E : ℕ → Prop} (h : ∀ t, E t → D t) :
    Out c X w D ⊢ Out c X w E := by
  unfold Out
  iintro ⟨%f, Hf, %hg⟩
  iexists f
  isplitl; · iexact Hf
  ipureintro
  exact hg.mono h

variable {X : Dev nD → XBuf F}

/-- The rectangle of all the weights. -/
abbrev wR : Rect S4096x256 := Rect.unit (s := S4096x256) ![0, 0] S4096x256.size inb_S4096x256_S4096x256_0_0

/-- Loading all the weights gives them. -/
theorem w_read (w : S4096x256.Idx → Elt F .f32) : (fun y => w (wR.emb y)) = w := by
  funext y
  refine congrArg w (funext fun a => Fin.ext ?_)
  fin_cases a
  · show 0 + 1 * (y 0).val = (y 0).val
    omega
  · show 0 + 1 * (y 1).val = (y 1).val
    omega

/-- Loading the weights. -/
theorem wp_loadW {c : Dev nD} {w : S4096x256.Idx → Elt F .f32} {k : Vec F S4096x256 .f32 → Pg F} {Q : PUnit → sProp (MM F)} :
    (kA.w.view.loc (c : Thread nD τ) ↦[Finset.univ]{fullShare} w)
      ⊢ iprop(((kA.w.view.loc (c : Thread nD τ) ↦[Finset.univ]{fullShare} w) -∗ Run F c (k w) Q)
        -∗ Run F c (.op (.load kA.w wR.toLoadRect (View.loadsAt_vmem h_S4096x256)) k) Q) := by
  have e : (kA.w.access wR).read (Elt F) w = w := w_read w
  have t : Run F c (k w) Q ⊢ Run F c (k ((kA.w.access wR).read (Elt F) w)) Q := by rw [e]
  iintro Hw Hk
  iapply (wp_load_rect (m := kA.w) (r := wR) (f := w) (q := fullShare) 𝒱₀ (c : Thread nD τ) none Set.univ (Finset.subset_univ _)) $$ [Hw]
  · iexact Hw
  iintro Hw
  iapply t
  iapply Hk
  iexact Hw

/-- Storing the product as half `i` of block `d`. -/
theorem wp_storeT {c d : Dev nD} {w : S4096x256.Idx → Elt F .f32} {D : ℕ → Prop} (i : Fin 2)
    (inb : ∀ a, offH i (wordOf d) a + S64x256.size a ≤ S4096x256.size a) {k' : Pg F} {Q : PUnit → sProp (MM F)} :
    (Out c X w D)
      ⊢ iprop((Out c X w (fun t => t = 2 * d.val + i.val ∨ D t) -∗ Run F c k' Q)
        -∗ Run F c (.op (.load kA.o (Rect.unit (s := S4096x256) (offH i (wordOf d)) S64x256.size inb).toLoadRect (View.loadsAt_vmem h_S64x256)) fun _ =>
            .op (.store kA.o (Rect.unit (s := S4096x256) (offH i (wordOf d)) S64x256.size inb) (siluOf (rowsH (X d) i) w) Finset.univ
              (View.stores_vmem_bits_univ h_S64x256 rfl) (.inl rfl)) fun _ => k') Q) := by
  unfold Out
  iintro ⟨%f, Ho, %hg⟩ Hk
  iapply (wp_load_rect (m := kA.o) (r := Rect.unit (s := S4096x256) (offH i (wordOf d)) S64x256.size inb) (f := f) (q := fullShare)
    𝒱₀ (c : Thread nD τ) none Set.univ (Finset.subset_univ _)) $$ [Ho]
  · iexact Ho
  iintro Ho
  iapply (wp_store (m := kA.o) (r := Rect.unit (s := S4096x256) (offH i (wordOf d)) S64x256.size inb) (f := f)
    𝒱₀ (c : Thread nD τ) none Set.univ (Finset.subset_univ _)) $$ [Ho]
  · iexact Ho
  iintro Ho
  iapply Hk
  iexists _
  isplitl; · iexact Ho
  ipureintro
  exact hg.put d i _

/-- Multiplying half `i` of block `d` and storing it. -/
theorem wp_putTile {c d : Dev nD} {w : S4096x256.Idx → Elt F .f32} {D : ℕ → Prop} (i : Fin 2)
    {k : Pg F} {Q : PUnit → sProp (MM F)} :
    iprop(Wt c w ∗ Out c X w D)
      ⊢ iprop(((Wt c w ∗ Out c X w (fun t => t = 2 * d.val + i.val ∨ D t)) -∗ Run F c k Q)
        -∗ Run F c (putTile kA i (wordOf d) (rowsH (X d) i) k) Q) := by
  unfold Wt putTile
  iintro ⟨⟨Hf, Hb, Hw⟩, Ho⟩ Hk
  iapply (wp_assume 𝒱₀ (c : Thread nD τ) none Set.univ (chkH_word i d))
  iapply (wp_loadW (w := w)) $$ [Hw]; · iexact Hw
  iintro Hw
  iapply (wp_storeT (X := X) (D := D) (w := w) i (offH_inb i (wordOf d) (chkH_word i d))) $$ [Ho]; · iexact Ho
  iintro Ho
  iapply Hk
  isplitl [Hf Hb Hw]
  · isplitl [Hf]; · iexact Hf
    isplitl [Hb]; · iexact Hb
    iexact Hw
  iexact Ho

/-- Reading entry `h` of the forward table. -/
theorem wp_wordF {c : Dev nD} (h : Fin 17) {k : BitVec 32 → Pg F} {Q : PUnit → sProp (MM F)} :
    (kA.orf.view.loc (c : Thread nD τ) ↦[Finset.univ]{fullShare} tabF c)
      ⊢ iprop(((kA.orf.view.loc (c : Thread nD τ) ↦[Finset.univ]{fullShare} tabF c) -∗ Run F c (k (wordOf (org true h.val c))) Q)
        -∗ Run F c (word kA.orf (Rect.unit (s := S17) ![h.val] S1.size (orf_inb h)) numel1_S1 k) Q) := by
  unfold word
  have e : (kA.orf.access (Rect.unit (s := S17) ![h.val] S1.size (orf_inb h))).read (Elt F) (tabF c)
      (Shape.Idx.first (numel1_S1.symm ▸ Nat.one_pos)) = wordOf (org true h.val c) := rfl
  have t : Run F c (k (wordOf (org true h.val c))) Q ⊢ Run F c (k ((kA.orf.access (Rect.unit (s := S17) ![h.val] S1.size (orf_inb h))).read (Elt F) (tabF c)
      (Shape.Idx.first (numel1_S1.symm ▸ Nat.one_pos)))) Q := by rw [e]
  iintro Hw Hk
  iapply (wp_load_rect (m := kA.orf) (r := Rect.unit (s := S17) ![h.val] S1.size (orf_inb h)) (f := tabF c) (q := fullShare) 𝒱₀ (c : Thread nD τ) none
    Set.univ (Finset.subset_univ _)) $$ [Hw]
  · iexact Hw
  iintro Hw
  iapply t
  iapply Hk
  iexact Hw

/-- Reading entry `h` of the backward table. -/
theorem wp_wordB {c : Dev nD} (h : Fin 16) {k : BitVec 32 → Pg F} {Q : PUnit → sProp (MM F)} :
    (kA.orb.view.loc (c : Thread nD τ) ↦[Finset.univ]{fullShare} tabB c)
      ⊢ iprop(((kA.orb.view.loc (c : Thread nD τ) ↦[Finset.univ]{fullShare} tabB c) -∗ Run F c (k (wordOf (org false h.val c))) Q)
        -∗ Run F c (word kA.orb (Rect.unit (s := S16) ![h.val] S1.size (orb_inb h)) numel1_S1 k) Q) := by
  unfold word
  have e : (kA.orb.access (Rect.unit (s := S16) ![h.val] S1.size (orb_inb h))).read (Elt F) (tabB c)
      (Shape.Idx.first (numel1_S1.symm ▸ Nat.one_pos)) = wordOf (org false h.val c) := rfl
  have t : Run F c (k (wordOf (org false h.val c))) Q ⊢ Run F c (k ((kA.orb.access (Rect.unit (s := S16) ![h.val] S1.size (orb_inb h))).read (Elt F) (tabB c)
      (Shape.Idx.first (numel1_S1.symm ▸ Nat.one_pos)))) Q := by rw [e]
  iintro Hw Hk
  iapply (wp_load_rect (m := kA.orb) (r := Rect.unit (s := S16) ![h.val] S1.size (orb_inb h)) (f := tabB c) (q := fullShare) 𝒱₀ (c : Thread nD τ) none
    Set.univ (Finset.subset_univ _)) $$ [Hw]
  · iexact Hw
  iintro Hw
  iapply t
  iapply Hk
  iexact Hw

/-- The two pieces of a half. -/
def hf (c : Dev nD) (ℓ : Bool) (s i : Fin 2) (q : PosShare TreeShare) (v : XBuf F) : sProp (MM F) :=
  iprop(pcAt c ℓ s (lo i) q v ∗ pcAt c ℓ s (hi i) q v)

theorem lo_ne_hi (i : Fin 2) (s : Fin 2) : (s, lo i) ≠ (s, hi i) := by
  intro h
  have := congrArg (fun p : Fin 2 × Fin 4 => p.2.val) h
  change 2 * i.val = 2 * i.val + 1 at this
  omega

/-- The elements of two pieces of a half. -/
def halfS (s i : Fin 2) : Finset S2x128x4096.Idx := pset s (lo i) ∪ pset s (hi i)

/-- Two pieces of a half are one region. -/
theorem hf_t (c : Dev nD) (s i : Fin 2) (q : PosShare TreeShare) (v : XBuf F) :
    hf c true s i q v ⊣⊢ (((laneOf true).comm.access (halfR s i)).loc (c : Thread nD τ) ↦[halfS s i]{q} both v) := by
  unfold hf pcAt
  rw [(piece_set s (lo i)).1, (piece_set s (hi i)).1]
  exact (pointsTo_union (pset_disjoint (lo_ne_hi i s))).symm

/-- A half, as an access, lies in its two pieces. -/
theorem acc_t (s i : Fin 2) : ((laneOf true).comm.access (halfR s i)).set ⊆ halfS s i := by
  have e : ((laneOf true).comm.access (halfR s i)).set = (halfR s i).set := View.set_slice_whole _ _
  rw [e]
  exact half_sub s i

/-- Loading a half of a slot of a lane that holds a block. -/
theorem wp_loadH_t {c : Dev nD} {s i : Fin 2} {q : PosShare TreeShare} {v : XBuf F}
    {k : FVec F S64x4096 .f32 → Pg F} {Q : PUnit → sProp (MM F)} :
    (hf c true s i q v)
      ⊢ iprop((hf c true s i q v -∗ Run F c (k (rowsH v i)) Q)
        -∗ Run F c (.op (.load (laneOf true).comm (halfR s i).toLoadRect (View.loadsAt_vmem h_S1x64x4096)) fun a => k (rowsOf a)) Q) := by
  have e : rowsOf (((laneOf true).comm.access (halfR s i)).read (Elt F) (both v)) = rowsH v i := rowsOf_half v s i
  have t : Run F c (k (rowsH v i)) Q ⊢ Run F c (k (rowsOf (((laneOf true).comm.access (halfR s i)).read (Elt F) (both v)))) Q := by rw [e]
  iintro Hh Hk
  ihave Hh := (hf_t c s i q v).1 $$ Hh
  iapply (wp_load_rect (m := (laneOf true).comm) (r := halfR s i) (f := both v) (q := q) (S := halfS s i)
    𝒱₀ (c : Thread nD τ) none Set.univ (acc_t s i)) $$ [Hh]
  · iexact Hh
  iintro Hh
  iapply t
  iapply Hk
  iapply (hf_t c s i q v).2
  iexact Hh

/-- Two pieces of a half are one region. -/
theorem hf_f (c : Dev nD) (s i : Fin 2) (q : PosShare TreeShare) (v : XBuf F) :
    hf c false s i q v ⊣⊢ (((laneOf false).comm.access (halfR s i)).loc (c : Thread nD τ) ↦[halfS s i]{q} both v) := by
  unfold hf pcAt
  rw [(piece_set s (lo i)).2, (piece_set s (hi i)).2]
  exact (pointsTo_union (pset_disjoint (lo_ne_hi i s))).symm

/-- A half, as an access, lies in its two pieces. -/
theorem acc_f (s i : Fin 2) : ((laneOf false).comm.access (halfR s i)).set ⊆ halfS s i := by
  have e : ((laneOf false).comm.access (halfR s i)).set = (halfR s i).set := View.set_slice_whole _ _
  rw [e]
  exact half_sub s i

/-- Loading a half of a slot of a lane that holds a block. -/
theorem wp_loadH_f {c : Dev nD} {s i : Fin 2} {q : PosShare TreeShare} {v : XBuf F}
    {k : FVec F S64x4096 .f32 → Pg F} {Q : PUnit → sProp (MM F)} :
    (hf c false s i q v)
      ⊢ iprop((hf c false s i q v -∗ Run F c (k (rowsH v i)) Q)
        -∗ Run F c (.op (.load (laneOf false).comm (halfR s i).toLoadRect (View.loadsAt_vmem h_S1x64x4096)) fun a => k (rowsOf a)) Q) := by
  have e : rowsOf (((laneOf false).comm.access (halfR s i)).read (Elt F) (both v)) = rowsH v i := rowsOf_half v s i
  have t : Run F c (k (rowsH v i)) Q ⊢ Run F c (k (rowsOf (((laneOf false).comm.access (halfR s i)).read (Elt F) (both v)))) Q := by rw [e]
  iintro Hh Hk
  ihave Hh := (hf_f c s i q v).1 $$ Hh
  iapply (wp_load_rect (m := (laneOf false).comm) (r := halfR s i) (f := both v) (q := q) (S := halfS s i)
    𝒱₀ (c : Thread nD τ) none Set.univ (acc_f s i)) $$ [Hh]
  · iexact Hh
  iintro Hh
  iapply t
  iapply Hk
  iapply (hf_f c s i q v).2
  iexact Hh

/-- Loading a half of a slot of a lane that holds a block. -/
theorem wp_loadH {c : Dev nD} {ℓ : Bool} {s i : Fin 2} {q : PosShare TreeShare} {v : XBuf F}
    {k : FVec F S64x4096 .f32 → Pg F} {Q : PUnit → sProp (MM F)} :
    (hf c ℓ s i q v)
      ⊢ iprop((hf c ℓ s i q v -∗ Run F c (k (rowsH v i)) Q)
        -∗ Run F c (.op (.load (laneOf ℓ).comm (halfR s i).toLoadRect (View.loadsAt_vmem h_S1x64x4096)) fun a => k (rowsOf a)) Q) :=
  match ℓ with
  | true => wp_loadH_t
  | false => wp_loadH_f

/-- A tile whose place the forward table names. -/
theorem wp_tileF {c : Dev nD} {ℓ : Bool} {s i : Fin 2} {q : PosShare TreeShare} {w : S4096x256.Idx → Elt F .f32} {D : ℕ → Prop} (h : Fin 17)
    {k : Pg F} {Q : PUnit → sProp (MM F)} :
    iprop(hf c ℓ s i q (X (org true h.val c)) ∗ Wt c w ∗ Out c X w D)
      ⊢ iprop(((hf c ℓ s i q (X (org true h.val c)) ∗ Wt c w ∗ Out c X w (fun t => t = 2 * (org true h.val c).val + i.val ∨ D t)) -∗ Run F c k Q)
        -∗ Run F c (tileF kA (laneOf ℓ) s h i k) Q) := by
  unfold tileF
  iintro ⟨Hh, Hw, Ho⟩ Hk
  iapply (wp_loadH (q := q) (v := X (org true h.val c))
    (k := fun v => word kA.orf (Rect.unit (s := S17) ![h.val] S1.size (orf_inb h)) numel1_S1 fun u => putTile kA i u v k)) $$ [Hh]
  · iexact Hh
  iintro Hh
  dsimp only
  unfold Wt
  icases Hw with ⟨Hf, Hb, Hw⟩
  iapply (wp_wordF h) $$ [Hf]; · iexact Hf
  iintro Hf
  iapply (wp_putTile (X := X) (D := D) (w := w) (d := org true h.val c) i) $$ [Hf Hb Hw Ho]
  · unfold Wt
    isplitr [Ho]
    · isplitl [Hf]; · iexact Hf
      isplitl [Hb]; · iexact Hb
      iexact Hw
    iexact Ho
  iintro ⟨Hw, Ho⟩
  unfold Wt
  iapply Hk
  isplitl [Hh]; · iexact Hh
  isplitl [Hw]; · iexact Hw
  iexact Ho

/-- A tile whose place the backward table names. -/
theorem wp_tileB {c : Dev nD} {ℓ : Bool} {s i : Fin 2} {q : PosShare TreeShare} {w : S4096x256.Idx → Elt F .f32} {D : ℕ → Prop} (h : Fin 16)
    {k : Pg F} {Q : PUnit → sProp (MM F)} :
    iprop(hf c ℓ s i q (X (org false h.val c)) ∗ Wt c w ∗ Out c X w D)
      ⊢ iprop(((hf c ℓ s i q (X (org false h.val c)) ∗ Wt c w ∗ Out c X w (fun t => t = 2 * (org false h.val c).val + i.val ∨ D t)) -∗ Run F c k Q)
        -∗ Run F c (tileB kA (laneOf ℓ) s h i k) Q) := by
  unfold tileB
  iintro ⟨Hh, Hw, Ho⟩ Hk
  iapply (wp_loadH (q := q) (v := X (org false h.val c))
    (k := fun v => word kA.orb (Rect.unit (s := S16) ![h.val] S1.size (orb_inb h)) numel1_S1 fun u => putTile kA i u v k)) $$ [Hh]
  · iexact Hh
  iintro Hh
  dsimp only
  unfold Wt
  icases Hw with ⟨Hf, Hb, Hw⟩
  iapply (wp_wordB h) $$ [Hb]; · iexact Hb
  iintro Hb
  iapply (wp_putTile (X := X) (D := D) (w := w) (d := org false h.val c) i) $$ [Hf Hb Hw Ho]
  · unfold Wt
    isplitr [Ho]
    · isplitl [Hf]; · iexact Hf
      isplitl [Hb]; · iexact Hb
      iexact Hw
    iexact Ho
  iintro ⟨Hw, Ho⟩
  unfold Wt
  iapply Hk
  isplitl [Hh]; · iexact Hh
  isplitl [Hw]; · iexact Hw
  iexact Ho

/-- The local block, the share its tiles read. -/
def xAll (c : Dev nD) (v : XBuf F) : sProp (MM F) := kA.x.view.loc (c : Thread nD τ) ↦[Finset.univ]{fullShare.right} xBuf c v

/-- A tile of the local block. -/
theorem wp_tileX {c : Dev nD} {i : Fin 2} {w : S4096x256.Idx → Elt F .f32} {D : ℕ → Prop} {k : Pg F} {Q : PUnit → sProp (MM F)} :
    iprop(xAll c (X c) ∗ Wt c w ∗ Out c X w D)
      ⊢ iprop(((xAll c (X c) ∗ Wt c w ∗ Out c X w (fun t => t = 2 * c.val + i.val ∨ D t)) -∗ Run F c k Q)
        -∗ Run F c (tileX kA i k) Q) := by
  unfold tileX xAll
  have z : org true (0 : Fin 17).val c = c := org_zero true c
  iintro ⟨Hh, Hw, Ho⟩ Hk
  iapply (wp_load_rect (m := kA.x) (r := Rect.unit (s := S128x4096) ![64 * i.val, 0] S64x4096.size (xhalf_inb i)) (f := xBuf c (X c))
    (q := fullShare.right) 𝒱₀ (c : Thread nD τ) none Set.univ (Finset.subset_univ _)) $$ [Hh]
  · iexact Hh
  iintro Hh
  unfold Wt
  icases Hw with ⟨Hf, Hb, Hw⟩
  iapply (wp_wordF 0) $$ [Hf]; · iexact Hf
  iintro Hf
  have t : Run F c (putTile kA i (wordOf c) (rowsH (X c) i) k) Q ⊢ Run F c (putTile kA i (wordOf (org true (0 : Fin 17).val c))
      (shapeCast S64x4096 (rowsH (X c) i) shapeCasts_S64x4096_S64x4096) k) Q := by rw [rows_self, z]
  iapply t
  iapply (wp_putTile (X := X) (D := D) (w := w) (d := c) i) $$ [Hf Hb Hw Ho]
  · unfold Wt
    isplitr [Ho]
    · isplitl [Hf]; · iexact Hf
      isplitl [Hb]; · iexact Hb
      iexact Hw
    iexact Ho
  iintro ⟨Hw, Ho⟩
  unfold Wt
  iapply Hk
  isplitl [Hh]; · iexact Hh
  isplitl [Hw]; · iexact Hw
  iexact Ho

end Cert.KernelIdeal.Ring

end
-- ==== Proof.Ideal.Hop.lean ====
/- One hop between the first and the last, at a symbolic hop. -/
module

public import proofs.«01_k».proof.Proof.Ideal.Credit
public import proofs.«01_k».proof.Proof.Ideal.Tile

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable {X : Dev nD → XBuf F} {κ : GSem nD τ sig → ℕ} {ιs : Key → ℕ}

/-- What passing a piece on at hop `g + 1` starts from. -/
def Hin (c : Dev nD) (ℓ : Bool) (g : ℕ) (j : Fin 4) : sProp (MM F) :=
  iprop(Cr c ℓ g j ∗ Rv c ℓ g j ∗ Sv c ℓ (g + 1) j ∗ Tk c ℓ (g + 1) j ∗ freePc (dn ℓ c) ℓ (g + 1) j)

/-- A piece that has arrived and is being sent on. -/
def Mid (X : Dev nD → XBuf F) (c : Dev nD) (ℓ : Bool) (g : ℕ) (j : Fin 4) : sProp (MM F) :=
  iprop((Rv c ℓ (g + 2) j ∗ reached ER (cell c (.rcv ℓ (slotOf (g + 1)) j)) ((g + 2) / 2) ∗ Cs c ℓ (g + 1) j ∗ Sv c ℓ (g + 1) j)
    ∗ pcAt c ℓ (slotOf (g + 1)) j fullShare.right (X (org ℓ (g + 1) c)))

/-- What is left of a slot where nothing more is sent to it. -/
def rem (c : Dev nD) (ℓ : Bool) (h : ℕ) (j : Fin 4) : sProp (MM F) := if snds ℓ h j then iprop(emp) else pcAny c ℓ (slotOf (h + 1)) j

/-- A piece that has been read and sent on. -/
def Fin' (c : Dev nD) (ℓ : Bool) (g : ℕ) (j : Fin 4) : sProp (MM F) :=
  iprop(Rv c ℓ (g + 2) j ∗ Sv c ℓ (g + 3) j ∗ freePc c ℓ (g + 2) j ∗ rem c ℓ (g + 2) j)

/-- A piece's two shares. -/
theorem pc_halves (c : Dev nD) (ℓ : Bool) (s : Fin 2) (j : Fin 4) (v : XBuf F) :
    pcAt c ℓ s j fullShare v ⊣⊢ iprop(pcAt c ℓ s j fullShare.left v ∗ pcAt c ℓ s j fullShare.right v) := by
  unfold pcAt
  exact pointsTo_share (PosShare.mem_left_op_right fullShare)

/-- Any contents. -/
theorem pc_any (c : Dev nD) (ℓ : Bool) (s : Fin 2) (j : Fin 4) (v : XBuf F) : pcAt c ℓ s j fullShare v ⊢ pcAny c ℓ s j := by
  unfold pcAt pcAny slot
  iintro H
  iexists _
  iexact H

/-- Wait for a piece and send it on. -/
theorem wp_pass {c : Dev nD} {ℓ : Bool} {g : ℕ} {j : Fin 4} (hs : snds ℓ g j) (hs' : snds ℓ (g + 1) j) (hg : g ≤ 14) {l : List Ob}
    (ha : above (2 * g + 2) ((dn ℓ c, .rcv ℓ (slotOf (g + 1 + 1)) j, g + 1) :: l)) {k : Pg F} {Q : PUnit → sProp (MM F)} :
    iprop(Ctx X κ ιs ∗ Owe c ((dn ℓ c, .rcv ℓ (slotOf (g + 1 + 1)) j, g + 1) :: l) ∗ Hin c ℓ g j)
      ⊢ iprop(((Owe c l ∗ Mid X c ℓ g j) -∗ Run F c k Q)
        -∗ Run F c (waitRcv (laneOf ℓ) (slotOf (g + 1)) j (send (laneOf ℓ) (dn ℓ c) (slotOf (g + 1)) (slotOf (g + 1 + 1)) j k)) Q) := by
  unfold Hin Mid
  iintro ⟨#HC, HO, Hcr, Hrv, Hsv, Htk, Hfr⟩ Hk
  iapply (wp_waitRcv (X := X) (κ := κ) (ιs := ιs) hs ha (by omega)) $$ [HO Hcr Hrv]
  · isplitr; · iexact HC
    isplitl [HO]; · iexact HO
    isplitl [Hcr]; · iexact Hcr
    iexact Hrv
  iintro ⟨HO, Hrv, #Hre, Hp⟩
  ihave Hp := (pc_halves c ℓ (slotOf (g + 1)) j (X (org ℓ (g + 1) c))).1 $$ Hp
  icases Hp with ⟨Hp1, Hp2⟩
  unfold Sv
  icases Hsv with ⟨Hsv, #Hsr⟩
  iapply (wp_send (X := X) (κ := κ) (ιs := ιs) hs' (Nat.succ_ne_zero g)) $$ [HO Htk Hfr Hp1]
  · isplitr; · iexact HC
    isplitl [HO]; · iexact HO
    isplitl [Htk]; · iexact Htk
    isplitl [Hfr]; · iexact Hfr
    isplitr; · iexact Hsr
    iexact Hp1
  iintro ⟨HO, Hcs⟩
  iapply Hk
  isplitl [HO]; · iexact HO
  isplitr [Hp2]
  · isplitl [Hrv]; · iexact Hrv
    isplitr; · iexact Hre
    isplitl [Hcs]; · iexact Hcs
    isplitl [Hsv]; · iexact Hsv
    iexact Hsr
  iexact Hp2

/-- Wait for a piece to have been sent; the piece is whole again. -/
theorem wp_drain {c : Dev nD} {ℓ : Bool} {g : ℕ} {j : Fin 4} (hs' : snds ℓ (g + 1) j) {l : List Ob}
    (ha : above 0 l) {r : Fin 2} {k : Pg F} {Q : PUnit → sProp (MM F)} :
    iprop(Ctx X κ ιs ∗ Owe c l ∗ Mid X c ℓ g j)
      ⊢ iprop(((Owe c l ∗ Fin' c ℓ g j) -∗ Run F c k Q)
        -∗ Run F c (waitSnd (laneOf ℓ) (slotOf (g + 1)) r j k) Q) := by
  unfold Fin' Mid
  iintro ⟨#HC, HO, ⟨Hrv, #Hre, Hcs, Hsv⟩, Hp2⟩ Hk
  iapply (wp_waitSnd (X := X) (κ := κ) (ιs := ιs) hs' (Nat.succ_ne_zero g) ha) $$ [HO Hcs Hsv]
  · isplitr; · iexact HC
    isplitl [HO]; · iexact HO
    isplitl [Hcs]; · iexact Hcs
    iexact Hsv
  iintro ⟨HO, Hsv, Hp1⟩
  ihave Hp := (pc_halves c ℓ (slotOf (g + 1)) j (X (org ℓ (g + 1) c))).2 $$ [Hp1 Hp2]
  · isplitl [Hp1]; · iexact Hp1
    iexact Hp2
  ihave Hp := (pc_any c ℓ (slotOf (g + 1)) j (X (org ℓ (g + 1) c))) $$ Hp
  iapply Hk
  isplitl [HO]; · iexact HO
  isplitl [Hrv]; · iexact Hrv
  isplitl [Hsv]; · iexact Hsv
  have e : slotOf (g + 2 + 1) = slotOf (g + 1) := slotOf_add2 (g + 1)
  unfold freePc rem
  rw [e]
  by_cases hn : snds ℓ (g + 2) j
  · rw [if_pos hn, if_pos hn]
    isplitl [Hp]
    · isplitl [Hp]; · iexact Hp
      iexact Hre
    iempintro
  · rw [if_neg hn, if_neg hn]
    isplitr; · iempintro
    iexact Hp

/-- Both tiles of a half. -/
theorem wp_tiles {c : Dev nD} {h : Fin 16} {i : Fin 2} {q q' : PosShare TreeShare} {w : S4096x256.Idx → Elt F .f32} {D : ℕ → Prop}
    {k : Pg F} {Q : PUnit → sProp (MM F)} :
    iprop(hf c true (slotOf h.val) i q (X (org true h.val c)) ∗ hf c false (slotOf h.val) i q' (X (org false h.val c)) ∗ Wt c w ∗ Out c X w D)
      ⊢ iprop(((hf c true (slotOf h.val) i q (X (org true h.val c)) ∗ hf c false (slotOf h.val) i q' (X (org false h.val c)) ∗ Wt c w
          ∗ Out c X w (fun t => t = 2 * (org false h.val c).val + i.val ∨ t = 2 * (org true h.val c).val + i.val ∨ D t)) -∗ Run F c k Q)
        -∗ Run F c (tiles kA h i k) Q) := by
  unfold tiles
  iintro ⟨H1, H2, Hw, Ho⟩ Hk
  iapply (wp_tileF (X := X) (ℓ := true) (q := q) (w := w) (D := D) h.castSucc) $$ [H1 Hw Ho]
  · isplitl [H1]; · iexact H1
    isplitl [Hw]; · iexact Hw
    iexact Ho
  iintro ⟨H1, Hw, Ho⟩
  iapply (wp_tileB (X := X) (ℓ := false) (q := q') (w := w) h) $$ [H2 Hw Ho]
  · isplitl [H2]; · iexact H2
    isplitl [Hw]; · iexact Hw
    iexact Ho
  iintro ⟨H2, Hw, Ho⟩
  iapply Hk
  isplitl [H1]; · iexact H1
  isplitl [H2]; · iexact H2
  isplitl [Hw]; · iexact Hw
  iexact Ho

/-- Both tiles of a half whose pieces are being sent on. -/
theorem wp_tilesMid {c : Dev nD} {g : ℕ} (hg : g + 1 < 16) {i : Fin 2} {w : S4096x256.Idx → Elt F .f32} {D : ℕ → Prop}
    {k : Pg F} {Q : PUnit → sProp (MM F)} :
    iprop((Mid X c true g (lo i) ∗ Mid X c true g (hi i) ∗ Mid X c false g (lo i) ∗ Mid X c false g (hi i)) ∗ Wt c w ∗ Out c X w D)
      ⊢ iprop((((Mid X c true g (lo i) ∗ Mid X c true g (hi i) ∗ Mid X c false g (lo i) ∗ Mid X c false g (hi i)) ∗ Wt c w
          ∗ Out c X w (fun t => t = 2 * (org false (g + 1) c).val + i.val ∨ t = 2 * (org true (g + 1) c).val + i.val ∨ D t)) -∗ Run F c k Q)
        -∗ Run F c (tiles kA ⟨g + 1, hg⟩ i k) Q) := by
  unfold Mid
  iintro ⟨⟨⟨R1, P1⟩, ⟨R2, P2⟩, ⟨R3, P3⟩, ⟨R4, P4⟩⟩, Hw, Ho⟩ Hk
  iapply (wp_tiles (X := X) (h := ⟨g + 1, hg⟩) (i := i) (q := fullShare.right) (q' := fullShare.right) (w := w) (D := D)) $$ [P1 P2 P3 P4 Hw Ho]
  · unfold hf
    isplitl [P1 P2]
    · isplitl [P1]; · iexact P1
      iexact P2
    isplitl [P3 P4]
    · isplitl [P3]; · iexact P3
      iexact P4
    isplitl [Hw]; · iexact Hw
    iexact Ho
  unfold hf
  iintro ⟨⟨P1, P2⟩, ⟨P3, P4⟩, Hw, Ho⟩
  iapply Hk
  isplitr [Hw Ho]
  · isplitl [R1 P1]
    · isplitl [R1]; · iexact R1
      iexact P1
    isplitl [R2 P2]
    · isplitl [R2]; · iexact R2
      iexact P2
    isplitl [R3 P3]
    · isplitl [R3]; · iexact R3
      iexact P3
    isplitl [R4]; · iexact R4
    iexact P4
  isplitl [Hw]; · iexact Hw
  iexact Ho

/-- Pieces are sent at every hop before the last. -/
theorem snds_lt (ℓ : Bool) {h : ℕ} (h15 : h < 15) (j : Fin 4) : snds ℓ h j := by
  unfold snds
  simp [h15]

/-- The send of hop `h`, as owed. -/
abbrev sendOb (c : Dev nD) (ℓ : Bool) (h : ℕ) (j : Fin 4) : Ob := (dn ℓ c, .rcv ℓ (slotOf (h + 1)) j, h)
/-- The credit at the end of hop `h`, as owed. -/
abbrev crdOb (c : Dev nD) (ℓ : Bool) (h : ℕ) : Ob := (up ℓ c, .crd ℓ, h + 1)

/-- The sends of a hop before what follows, as owed. -/
abbrev obsSend (c : Dev nD) (h : ℕ) (l : List Ob) : List Ob :=
  sendOb c true h 0 :: sendOb c false h 0 :: sendOb c true h 1 :: sendOb c false h 1 :: sendOb c true h 2 :: sendOb c false h 2
    :: sendOb c true h 3 :: sendOb c false h 3 :: l

/-- What a hop between the first and the last owes, before what follows. -/
abbrev obsMid (c : Dev nD) (h : ℕ) (l : List Ob) : List Ob := obsSend c h (crdOb c true h :: crdOb c false h :: l)

theorem above_sendOb {c : Dev nD} {ℓ : Bool} {h : ℕ} {j : Fin 4} {cut : ℕ} (hh : h < 60) (hc : cut < 2 * h + 2) {l : List Ob} (ha : above cut l) :
    above cut (sendOb c ℓ h j :: l) := above_cons.mpr ⟨⟨hc, by show h < 64; omega⟩, ha⟩

theorem above_crdOb {c : Dev nD} {ℓ : Bool} {h : ℕ} {cut : ℕ} (hh : h < 60) (hc : cut < 2 * h + 3) {l : List Ob} (ha : above cut l) :
    above cut (crdOb c ℓ h :: l) := above_cons.mpr ⟨⟨by show cut < 2 * (h + 1) + 1; omega, by show h + 1 < 64; omega⟩, ha⟩

theorem above_obsSend {c : Dev nD} {h : ℕ} {cut : ℕ} (hh : h < 60) (hc : cut < 2 * h + 2) {l : List Ob} (ha : above cut l) :
    above cut (obsSend c h l) :=
  above_sendOb hh hc (above_sendOb hh hc (above_sendOb hh hc (above_sendOb hh hc (above_sendOb hh hc (above_sendOb hh hc
    (above_sendOb hh hc (above_sendOb hh hc ha)))))))

theorem above_obsMid {c : Dev nD} {h : ℕ} {cut : ℕ} (hh : h < 60) (hc : cut < 2 * h + 2) {l : List Ob} (ha : above cut l) :
    above cut (obsMid c h l) :=
  above_obsSend hh hc (above_crdOb hh (by omega) (above_crdOb hh (by omega) ha))

/-- Wait for a lane's four pieces to have been sent. -/
theorem wp_drains {c : Dev nD} {ℓ : Bool} {g : ℕ} (hg : g ≤ 13) {l : List Ob} (ha : above 0 l) {r : Fin 2} {k : Pg F} {Q : PUnit → sProp (MM F)} :
    iprop(Ctx X κ ιs ∗ Owe c l ∗ four (Mid X c ℓ g))
      ⊢ iprop(((Owe c l ∗ four (Rv c ℓ (g + 2)) ∗ four (Sv c ℓ (g + 3)) ∗ free c ℓ (g + 2) ∗ four (rem c ℓ (g + 2))) -∗ Run F c k Q)
        -∗ Run F c (drain (laneOf ℓ) (slotOf (g + 1)) r k) Q) := by
  unfold drain four
  iintro ⟨#HC, HO, H0, H1, H2, H3⟩ Hk
  iapply (wp_drain (X := X) (κ := κ) (ιs := ιs) (snds_lt ℓ (by omega) 0) ha) $$ [HO H0]
  · isplitr; · iexact HC
    isplitl [HO]; · iexact HO
    iexact H0
  iintro ⟨HO, H0⟩
  iapply (wp_drain (X := X) (κ := κ) (ιs := ιs) (snds_lt ℓ (by omega) 1) ha) $$ [HO H1]
  · isplitr; · iexact HC
    isplitl [HO]; · iexact HO
    iexact H1
  iintro ⟨HO, H1⟩
  iapply (wp_drain (X := X) (κ := κ) (ιs := ιs) (snds_lt ℓ (by omega) 2) ha) $$ [HO H2]
  · isplitr; · iexact HC
    isplitl [HO]; · iexact HO
    iexact H2
  iintro ⟨HO, H2⟩
  iapply (wp_drain (X := X) (κ := κ) (ιs := ιs) (snds_lt ℓ (by omega) 3) ha) $$ [HO H3]
  · isplitr; · iexact HC
    isplitl [HO]; · iexact HO
    iexact H3
  iintro ⟨HO, H3⟩
  iapply Hk
  unfold Fin' free four
  icases H0 with ⟨R0, S0, F0, M0⟩
  icases H1 with ⟨R1, S1, F1, M1⟩
  icases H2 with ⟨R2, S2, F2, M2⟩
  icases H3 with ⟨R3, S3, F3, M3⟩
  isplitl [HO]; · iexact HO
  isplitl [R0 R1 R2 R3]
  · isplitl [R0]; · iexact R0
    isplitl [R1]; · iexact R1
    isplitl [R2]; · iexact R2
    iexact R3
  isplitl [S0 S1 S2 S3]
  · isplitl [S0]; · iexact S0
    isplitl [S1]; · iexact S1
    isplitl [S2]; · iexact S2
    iexact S3
  isplitl [F0 F1 F2 F3]
  · isplitl [F0]; · iexact F0
    isplitl [F1]; · iexact F1
    isplitl [F2]; · iexact F2
    iexact F3
  isplitl [M0]; · iexact M0
  isplitl [M1]; · iexact M1
  isplitl [M2]; · iexact M2
  iexact M3

/-- The forward credit, to the device behind. -/
theorem wp_credit_t {c : Dev nD} {h : ℕ} (h1 : 1 ≤ h) (h14 : h ≤ 14) {l : List Ob} {k : Pg F} {Q : PUnit → sProp (MM F)} :
    iprop(Ctx X κ ιs ∗ Owe c (crdOb c true h :: l) ∗ dutyTok ER (cell (up true c) (.crd true)) 0 (h + 1)
        ∗ reached ER (cell (up true c) (.crd true)) 0 ∗ readerAt ES (c, true, h + 1) 0 ∗ heardTo c true h ∗ free c true (h + 1))
      ⊢ iprop(((Owe c l ∗ heardTo c true (h + 1)) -∗ Run F c k Q)
        -∗ Run F c (signal (dn false c) (laneOf true).crd.sem k) Q) := wp_credit h1 h14

/-- The backward credit, to the device ahead. -/
theorem wp_credit_f {c : Dev nD} {h : ℕ} (h1 : 1 ≤ h) (h14 : h ≤ 14) {l : List Ob} {k : Pg F} {Q : PUnit → sProp (MM F)} :
    iprop(Ctx X κ ιs ∗ Owe c (crdOb c false h :: l) ∗ dutyTok ER (cell (up false c) (.crd false)) 0 (h + 1)
        ∗ reached ER (cell (up false c) (.crd false)) 0 ∗ readerAt ES (c, false, h + 1) 0 ∗ heardTo c false h ∗ free c false (h + 1))
      ⊢ iprop(((Owe c l ∗ heardTo c false (h + 1)) -∗ Run F c k Q)
        -∗ Run F c (signal (dn true c) (laneOf false).crd.sem k) Q) := wp_credit h1 h14

/-- What a hop's credit takes. -/
def Kin (c : Dev nD) (ℓ : Bool) (h : ℕ) : sProp (MM F) :=
  iprop(dutyTok ER (cell (up ℓ c) (.crd ℓ)) 0 (h + 1) ∗ reached ER (cell (up ℓ c) (.crd ℓ)) 0 ∗ readerAt ES (c, ℓ, h + 1) 0 ∗ heardTo c ℓ h)

/-- What a lane has after a hop. -/
def Hout (c : Dev nD) (ℓ : Bool) (g : ℕ) : sProp (MM F) :=
  iprop(four (Rv c ℓ (g + 2)) ∗ four (Sv c ℓ (g + 3)) ∗ four (rem c ℓ (g + 2)) ∗ heardTo c ℓ (g + 2))

/-- Half blocks done before hop `h`. -/
def doneTo (c : Dev nD) (h : ℕ) (t : ℕ) : Prop := ∃ h', h' < h ∧ (t / 2 = (org true h' c).val ∨ t / 2 = (org false h' c).val)

theorem doneTo_succ {c : Dev nD} {h t : ℕ} (ht : doneTo c (h + 1) t) :
    t = 2 * (org false h c).val + (1 : Fin 2).val ∨ t = 2 * (org true h c).val + (1 : Fin 2).val
      ∨ t = 2 * (org false h c).val + (0 : Fin 2).val ∨ t = 2 * (org true h c).val + (0 : Fin 2).val ∨ doneTo c h t := by
  obtain ⟨h', hlt, hh⟩ := ht
  by_cases e : h' = h
  · subst e
    show t = 2 * _ + 1 ∨ t = 2 * _ + 1 ∨ t = 2 * _ + 0 ∨ t = 2 * _ + 0 ∨ _
    omega
  · exact .inr (.inr (.inr (.inr ⟨h', by omega, hh⟩)))

/-- A hop between the first and the last, its credits taken. -/
theorem wp_hopMid {c : Dev nD} {g : ℕ} (h13 : g ≤ 13) (hg : g + 1 < 16) {l : List Ob} (ha : above (2 * g + 4) l)
    {w : S4096x256.Idx → Elt F .f32} {k : Pg F} {Q : PUnit → sProp (MM F)} :
    iprop(Ctx X κ ιs ∗ Owe c (obsMid c (g + 1) l) ∗ four (Hin c true g) ∗ four (Hin c false g) ∗ Kin c true (g + 1) ∗ Kin c false (g + 1)
        ∗ Wt c w ∗ Out c X w (doneTo c (g + 1)))
      ⊢ iprop(((Owe c l ∗ Hout c true g ∗ Hout c false g ∗ Wt c w ∗ Out c X w (doneTo c (g + 2))) -∗ Run F c k Q)
        -∗ Run F c (hopMid kA (dn true c) (dn false c) ⟨g + 1, hg⟩ k) Q) := by
  have hs (ℓ : Bool) (j : Fin 4) : snds ℓ g j := snds_lt ℓ (by omega) j
  have hs' (ℓ : Bool) (j : Fin 4) : snds ℓ (g + 1) j := snds_lt ℓ (by omega) j
  have hA : above (2 * g + 2) (obsMid c (g + 1) l) := above_obsMid (by omega) (by omega) (ha.mono (by omega))
  unfold hopMid pass four Kin
  dsimp only
  iintro ⟨#HC, HO, ⟨F0, F1, F2, F3⟩, ⟨B0, B1, B2, B3⟩, Kt, Kf, Hw, Ho⟩ Hk
  iapply (wp_pass (X := X) (κ := κ) (ιs := ιs) (hs true 0) (hs' true 0) (by omega) hA) $$ [HO F0]
  · isplitr; · iexact HC
    isplitl [HO]; · iexact HO
    iexact F0
  iintro ⟨HO, F0⟩
  replace hA := (above_cons.mp hA).2
  iapply (wp_pass (X := X) (κ := κ) (ιs := ιs) (hs false 0) (hs' false 0) (by omega) hA) $$ [HO B0]
  · isplitr; · iexact HC
    isplitl [HO]; · iexact HO
    iexact B0
  iintro ⟨HO, B0⟩
  replace hA := (above_cons.mp hA).2
  iapply (wp_pass (X := X) (κ := κ) (ιs := ιs) (hs true 1) (hs' true 1) (by omega) hA) $$ [HO F1]
  · isplitr; · iexact HC
    isplitl [HO]; · iexact HO
    iexact F1
  iintro ⟨HO, F1⟩
  replace hA := (above_cons.mp hA).2
  iapply (wp_pass (X := X) (κ := κ) (ιs := ιs) (hs false 1) (hs' false 1) (by omega) hA) $$ [HO B1]
  · isplitr; · iexact HC
    isplitl [HO]; · iexact HO
    iexact B1
  iintro ⟨HO, B1⟩
  replace hA := (above_cons.mp hA).2
  iapply (wp_tilesMid (X := X) (g := g) (i := 0) hg (w := w)) $$ [F0 F1 B0 B1 Hw Ho]
  · isplitr [Hw Ho]
    · isplitl [F0]; · iexact F0
      isplitl [F1]; · iexact F1
      isplitl [B0]; · iexact B0
      iexact B1
    isplitl [Hw]; · iexact Hw
    iexact Ho
  iintro ⟨⟨F0, F1, B0, B1⟩, Hw, Ho⟩
  iapply (wp_pass (X := X) (κ := κ) (ιs := ιs) (hs true 2) (hs' true 2) (by omega) hA) $$ [HO F2]
  · isplitr; · iexact HC
    isplitl [HO]; · iexact HO
    iexact F2
  iintro ⟨HO, F2⟩
  replace hA := (above_cons.mp hA).2
  iapply (wp_pass (X := X) (κ := κ) (ιs := ιs) (hs false 2) (hs' false 2) (by omega) hA) $$ [HO B2]
  · isplitr; · iexact HC
    isplitl [HO]; · iexact HO
    iexact B2
  iintro ⟨HO, B2⟩
  replace hA := (above_cons.mp hA).2
  iapply (wp_pass (X := X) (κ := κ) (ιs := ιs) (hs true 3) (hs' true 3) (by omega) hA) $$ [HO F3]
  · isplitr; · iexact HC
    isplitl [HO]; · iexact HO
    iexact F3
  iintro ⟨HO, F3⟩
  replace hA := (above_cons.mp hA).2
  iapply (wp_pass (X := X) (κ := κ) (ιs := ιs) (hs false 3) (hs' false 3) (by omega) hA) $$ [HO B3]
  · isplitr; · iexact HC
    isplitl [HO]; · iexact HO
    iexact B3
  iintro ⟨HO, B3⟩
  replace hA := (above_cons.mp hA).2
  iapply (wp_tilesMid (X := X) (g := g) (i := 1) hg (w := w)) $$ [F2 F3 B2 B3 Hw Ho]
  · isplitr [Hw Ho]
    · isplitl [F2]; · iexact F2
      isplitl [F3]; · iexact F3
      isplitl [B2]; · iexact B2
      iexact B3
    isplitl [Hw]; · iexact Hw
    iexact Ho
  iintro ⟨⟨F2, F3, B2, B3⟩, Hw, Ho⟩
  iapply (wp_drains (X := X) (κ := κ) (ιs := ιs) (ℓ := true) h13 (hA.mono (Nat.zero_le _))) $$ [HO F0 F1 F2 F3]
  · isplitr; · iexact HC
    isplitl [HO]; · iexact HO
    unfold four
    isplitl [F0]; · iexact F0
    isplitl [F1]; · iexact F1
    isplitl [F2]; · iexact F2
    iexact F3
  iintro ⟨HO, Rvt, Svt, Frt, Rmt⟩
  iapply (wp_credit_t (X := X) (κ := κ) (ιs := ιs) (h := g + 1) (Nat.succ_le_succ (Nat.zero_le g)) (by omega)) $$ [HO Kt Frt]
  · icases Kt with ⟨Kd, #Kr, Ka, #Kh⟩
    isplitr; · iexact HC
    isplitl [HO]; · iexact HO
    isplitl [Kd]; · iexact Kd
    isplitr; · iexact Kr
    isplitl [Ka]; · iexact Ka
    isplitr; · iexact Kh
    iexact Frt
  iintro ⟨HO, #Kht⟩
  replace hA := (above_cons.mp hA).2
  iapply (wp_drains (X := X) (κ := κ) (ιs := ιs) (ℓ := false) h13 (hA.mono (Nat.zero_le _))) $$ [HO B0 B1 B2 B3]
  · isplitr; · iexact HC
    isplitl [HO]; · iexact HO
    unfold four
    isplitl [B0]; · iexact B0
    isplitl [B1]; · iexact B1
    isplitl [B2]; · iexact B2
    iexact B3
  iintro ⟨HO, Rvf, Svf, Frf, Rmf⟩
  iapply (wp_credit_f (X := X) (κ := κ) (ιs := ιs) (h := g + 1) (Nat.succ_le_succ (Nat.zero_le g)) (by omega)) $$ [HO Kf Frf]
  · icases Kf with ⟨Kd, #Kr, Ka, #Kh⟩
    isplitr; · iexact HC
    isplitl [HO]; · iexact HO
    isplitl [Kd]; · iexact Kd
    isplitr; · iexact Kr
    isplitl [Ka]; · iexact Ka
    isplitr; · iexact Kh
    iexact Frf
  iintro ⟨HO, #Khf⟩
  replace hA := (above_cons.mp hA).2
  iapply Hk
  unfold Hout
  isplitl [HO]; · iexact HO
  isplitl [Rvt Svt Rmt]
  · isplitl [Rvt]; · iexact Rvt
    isplitl [Svt]; · iexact Svt
    isplitl [Rmt]; · iexact Rmt
    iexact Kht
  isplitl [Rvf Svf Rmf]
  · isplitl [Rvf]; · iexact Rvf
    isplitl [Svf]; · iexact Svf
    isplitl [Rmf]; · iexact Rmf
    iexact Khf
  isplitl [Hw]; · iexact Hw
  iapply (Out_mono c X w (fun t ht => doneTo_succ ht))
  iexact Ho

end Cert.KernelIdeal.Ring

end
-- ==== Proof.Ideal.Hops.lean ====
/- The hops between the first and the last, one after another. -/
module

public import proofs.«01_k».proof.Proof.Ideal.Hop

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable {X : Dev nD → XBuf F} {κ : GSem nD τ sig → ℕ} {ιs : Key → ℕ}

/-- Bundling a lane's four pieces for a hop. -/
theorem hin_mk (c : Dev nD) (ℓ : Bool) (g : ℕ) :
    iprop(four (Cr c ℓ g) ∗ four (Rv c ℓ g) ∗ four (Sv c ℓ (g + 1)) ∗ four (Tk c ℓ (g + 1)) ∗ free (dn ℓ c) ℓ (g + 1))
      ⊢ (four (Hin c ℓ g) : sProp (MM F)) := by
  unfold free four Hin
  iintro ⟨⟨C0, C1, C2, C3⟩, ⟨R0, R1, R2, R3⟩, ⟨S0, S1, S2, S3⟩, ⟨T0, T1, T2, T3⟩, ⟨E0, E1, E2, E3⟩⟩
  isplitl [C0 R0 S0 T0 E0]
  · isplitl [C0]; · iexact C0
    isplitl [R0]; · iexact R0
    isplitl [S0]; · iexact S0
    isplitl [T0]; · iexact T0
    iexact E0
  isplitl [C1 R1 S1 T1 E1]
  · isplitl [C1]; · iexact C1
    isplitl [R1]; · iexact R1
    isplitl [S1]; · iexact S1
    isplitl [T1]; · iexact T1
    iexact E1
  isplitl [C2 R2 S2 T2 E2]
  · isplitl [C2]; · iexact C2
    isplitl [R2]; · iexact R2
    isplitl [S2]; · iexact S2
    isplitl [T2]; · iexact T2
    iexact E2
  isplitl [C3]; · iexact C3
  isplitl [R3]; · iexact R3
  isplitl [S3]; · iexact S3
  isplitl [T3]; · iexact T3
  iexact E3

/-- A lane's state before hop `g + 1`, its credits apart. -/
def StL (c : Dev nD) (ℓ : Bool) (g : ℕ) : sProp (MM F) :=
  iprop(four (Rv c ℓ g) ∗ four (Rv c ℓ (g + 1)) ∗ four (Sv c ℓ (g + 1)) ∗ four (Sv c ℓ (g + 2)) ∗ four (rem c ℓ (g + 1)) ∗ heardTo c ℓ (g + 1)
    ∗ reached ER (cell (up ℓ c) (.crd ℓ)) 0)

/-- What hop `g + 1` takes from the launch on a lane, its credit apart. -/
def PackA (c : Dev nD) (ℓ : Bool) (g : ℕ) : sProp (MM F) :=
  iprop(four (Tk c ℓ (g + 1)) ∗ four (Cr c ℓ g) ∗ dutyTok ER (cell (up ℓ c) (.crd ℓ)) 0 (g + 2) ∗ readerAt ES (c, ℓ, g + 2) 0)

/-- What a hop's wait for its credit takes from the launch on a lane. -/
def PackC (c : Dev nD) (ℓ : Bool) (h : ℕ) : sProp (MM F) := iprop(writeTok ES (dn ℓ c, ℓ, h) 1 ∗ Cc c ℓ h)

/-- Both lanes. -/
def two (Φ : Bool → sProp (MM F)) : sProp (MM F) := iprop(Φ true ∗ Φ false)

/-- A hop between the first and the last as a step of the state. -/
theorem wp_hopSt {c : Dev nD} {g : ℕ} (h13 : g ≤ 13) (hg : g + 1 < 16) {l : List Ob} (ha : above (2 * g + 4) l)
    {w : S4096x256.Idx → Elt F .f32} {k : Pg F} {Q : PUnit → sProp (MM F)} :
    iprop(Ctx X κ ιs ∗ Owe c (obsMid c (g + 1) l) ∗ two (fun ℓ => StL c ℓ g) ∗ two (fun ℓ => PackA c ℓ g) ∗ two (fun ℓ => free (dn ℓ c) ℓ (g + 1))
        ∗ Wt c w ∗ Out c X w (doneTo c (g + 1)))
      ⊢ iprop(((Owe c l ∗ two (fun ℓ => StL c ℓ (g + 1)) ∗ Wt c w ∗ Out c X w (doneTo c (g + 2))) -∗ Run F c k Q)
        -∗ Run F c (hopMid kA (dn true c) (dn false c) ⟨g + 1, hg⟩ k) Q) := by
  unfold two StL PackA
  iintro ⟨#HC, HO, ⟨⟨Rt, Rt', St, St', -, #Ht, #Kt⟩, ⟨Rf, Rf', Sf, Sf', -, #Hf, #Kf⟩⟩, ⟨⟨Tt, Ct, Dt, At⟩, ⟨Tf, Cf, Df, Af⟩⟩, ⟨Et, Ef⟩, Hw, Ho⟩ Hk
  ihave It := (hin_mk c true g) $$ [Ct Rt St Tt Et]
  · isplitl [Ct]; · iexact Ct
    isplitl [Rt]; · iexact Rt
    isplitl [St]; · iexact St
    isplitl [Tt]; · iexact Tt
    iexact Et
  ihave If := (hin_mk c false g) $$ [Cf Rf Sf Tf Ef]
  · isplitl [Cf]; · iexact Cf
    isplitl [Rf]; · iexact Rf
    isplitl [Sf]; · iexact Sf
    isplitl [Tf]; · iexact Tf
    iexact Ef
  iapply (wp_hopMid (X := X) (κ := κ) (ιs := ιs) h13 hg ha (w := w)) $$ [HO It If Dt At Df Af Hw Ho]
  · isplitr; · iexact HC
    isplitl [HO]; · iexact HO
    isplitl [It]; · iexact It
    isplitl [If]; · iexact If
    unfold Kin
    isplitl [Dt At]
    · isplitl [Dt]; · iexact Dt
      isplitr; · iexact Kt
      isplitl [At]; · iexact At
      iexact Ht
    isplitl [Df Af]
    · isplitl [Df]; · iexact Df
      isplitr; · iexact Kf
      isplitl [Af]; · iexact Af
      iexact Hf
    isplitl [Hw]; · iexact Hw
    iexact Ho
  unfold Hout
  iintro ⟨HO, ⟨Rt, St, Mt, #Ht⟩, ⟨Rf, Sf, Mf, #Hf⟩, Hw, Ho⟩
  iapply Hk
  isplitl [HO]; · iexact HO
  isplitr [Hw Ho]
  · isplitl [Rt' Rt St' St Mt]
    · isplitl [Rt']; · iexact Rt'
      isplitl [Rt]; · iexact Rt
      isplitl [St']; · iexact St'
      isplitl [St]; · iexact St
      isplitl [Mt]; · iexact Mt
      isplitr; · iexact Ht
      iexact Kt
    isplitl [Rf']; · iexact Rf'
    isplitl [Rf]; · iexact Rf
    isplitl [Sf']; · iexact Sf'
    isplitl [Sf]; · iexact Sf
    isplitl [Mf]; · iexact Mf
    isplitr; · iexact Hf
    iexact Kf
  isplitl [Hw]; · iexact Hw
  iexact Ho

/-- A hop after the first two, with its credits. -/
theorem wp_hopCr {c : Dev nD} {g : ℕ} (h1 : 1 ≤ g) (h13 : g ≤ 13) (hg : g + 1 < 16) {l : List Ob} (ha : above (2 * g + 4) l)
    {w : S4096x256.Idx → Elt F .f32} {k : Pg F} {Q : PUnit → sProp (MM F)} :
    iprop(Ctx X κ ιs ∗ Owe c (obsMid c (g + 1) l) ∗ two (fun ℓ => StL c ℓ g) ∗ two (fun ℓ => CrdSt c ℓ (g + 1)) ∗ two (fun ℓ => PackA c ℓ g)
        ∗ two (fun ℓ => PackC c ℓ (g + 1)) ∗ Wt c w ∗ Out c X w (doneTo c (g + 1)))
      ⊢ iprop(((Owe c l ∗ two (fun ℓ => StL c ℓ (g + 1)) ∗ two (fun ℓ => CrdSt c ℓ (g + 2)) ∗ Wt c w ∗ Out c X w (doneTo c (g + 2))) -∗ Run F c k Q)
        -∗ Run F c (credits kA (hopMid kA (dn true c) (dn false c) ⟨g + 1, hg⟩ k)) Q) := by
  have hA : above (2 * (g + 1) + 1) (obsMid c (g + 1) l) := above_obsMid (by omega) (by omega) (ha.mono (by omega))
  iintro ⟨#HC, HO, HS, Hc, HA, HP, Hw, Ho⟩ Hk
  unfold two PackC credits
  icases Hc with ⟨Ct, Cf⟩
  icases HP with ⟨⟨Wt', Pt⟩, ⟨Wf, Pf⟩⟩
  iapply (wp_await (X := X) (κ := κ) (ιs := ιs) (ℓ := true) (h := g + 1) (by omega) (by omega) hA) $$ [HO Ct Wt' Pt]
  · isplitr; · iexact HC
    isplitl [HO]; · iexact HO
    isplitl [Pt]; · iexact Pt
    isplitl [Ct]; · iexact Ct
    iexact Wt'
  iintro ⟨HO, Ct, Et⟩
  iapply (wp_await (X := X) (κ := κ) (ιs := ιs) (ℓ := false) (h := g + 1) (by omega) (by omega) hA) $$ [HO Cf Wf Pf]
  · isplitr; · iexact HC
    isplitl [HO]; · iexact HO
    isplitl [Pf]; · iexact Pf
    isplitl [Cf]; · iexact Cf
    iexact Wf
  iintro ⟨HO, Cf, Ef⟩
  iapply (wp_hopSt (X := X) (κ := κ) (ιs := ιs) h13 hg ha (w := w)) $$ [HO HS HA Et Ef Hw Ho]
  · isplitr; · iexact HC
    isplitl [HO]; · iexact HO
    isplitl [HS]
    · unfold two; iexact HS
    isplitl [HA]
    · unfold two; iexact HA
    isplitl [Et Ef]
    · unfold two
      isplitl [Et]; · iexact Et
      iexact Ef
    isplitl [Hw]; · iexact Hw
    iexact Ho
  iintro ⟨HO, HS, Hw, Ho⟩
  iapply Hk
  isplitl [HO]; · iexact HO
  isplitl [HS]
  · unfold two; iexact HS
  isplitl [Ct Cf]
  · isplitl [Ct]; · iexact Ct
    iexact Cf
  isplitl [Hw]; · iexact Hw
  iexact Ho

/-- The `n` hops after hop `g`. -/
def hopList : (n g : ℕ) → g + n < 16 → List (Fin 16)
  | 0, _, _ => []
  | n + 1, g, h => ⟨g + 1, by omega⟩ :: hopList n (g + 1) (by omega)

/-- What they take from the launch. -/
def packs (c : Dev nD) : (n g : ℕ) → sProp (MM F)
  | 0, _ => iprop(emp)
  | n + 1, g => iprop((two (fun ℓ => PackA c ℓ g) ∗ two (fun ℓ => PackC c ℓ (g + 1))) ∗ packs c n (g + 1))

/-- What they owe, before what follows. -/
def obsHops (c : Dev nD) : (n g : ℕ) → List Ob → List Ob
  | 0, _, l => l
  | n + 1, g, l => obsMid c (g + 1) (obsHops c n (g + 1) l)

theorem above_obsHops {c : Dev nD} (n : ℕ) : ∀ {g cut : ℕ}, g + n < 50 → cut < 2 * g + 4 → ∀ {l : List Ob}, above cut l → above cut (obsHops c n g l) := by
  induction n with
  | zero => exact fun _ _ _ ha => ha
  | succ n ih => exact fun h1 h2 _ ha => above_obsMid (by omega) (by omega) (ih (by omega) (by omega) ha)

/-- The hops between the second and the last. -/
theorem wp_hops {c : Dev nD} {l : List Ob} {w : S4096x256.Idx → Elt F .f32} {k : Pg F} {Q : PUnit → sProp (MM F)} (n : ℕ) :
    ∀ {g : ℕ} (h1 : 1 ≤ g) (h13 : g + n ≤ 14) (hg : g + n < 16) (ha : above (2 * (g + n) + 2) l),
    iprop(Ctx X κ ιs ∗ Owe c (obsHops c n g l) ∗ two (fun ℓ => StL c ℓ g) ∗ two (fun ℓ => CrdSt c ℓ (g + 1)) ∗ packs c n g
        ∗ Wt c w ∗ Out c X w (doneTo c (g + 1)))
      ⊢ iprop(((Owe c l ∗ two (fun ℓ => StL c ℓ (g + n)) ∗ two (fun ℓ => CrdSt c ℓ (g + n + 1)) ∗ Wt c w ∗ Out c X w (doneTo c (g + n + 1))) -∗ Run F c k Q)
        -∗ Run F c (hopsOf kA (dn true c) (dn false c) (hopList n g hg) k) Q) := by
  induction n with
  | zero =>
    intro g h1 h13 hg ha
    unfold obsHops hopList hopsOf packs
    iintro ⟨#HC, HO, HS, Hc, -, Hw, Ho⟩ Hk
    iapply Hk
    isplitl [HO]; · iexact HO
    isplitl [HS]; · iexact HS
    isplitl [Hc]; · iexact Hc
    isplitl [Hw]; · iexact Hw
    iexact Ho
  | succ n ih =>
    intro g h1 h13 hg ha
    have e : g + (n + 1) = g + 1 + n := by omega
    unfold obsHops hopList hopsOf packs
    rw [e]
    rw [e] at ha
    have hR : above (2 * g + 4) (obsHops c n (g + 1) l) := above_obsHops n (by omega) (by omega) (ha.mono (by omega))
    iintro ⟨#HC, HO, HS, Hc, ⟨⟨HA, HP⟩, Hr⟩, Hw, Ho⟩ Hk
    iapply (wp_hopCr (X := X) (κ := κ) (ιs := ιs) h1 (by omega) _ hR (w := w)) $$ [HO HS Hc HA HP Hw Ho]
    · isplitr; · iexact HC
      isplitl [HO]; · iexact HO
      isplitl [HS]; · iexact HS
      isplitl [Hc]; · iexact Hc
      isplitl [HA]; · iexact HA
      isplitl [HP]; · iexact HP
      isplitl [Hw]; · iexact Hw
      iexact Ho
    iintro ⟨HO, HS, Hc, Hw, Ho⟩
    iapply (ih (g := g + 1) (by omega) (by omega) _ ha) $$ [HO HS Hc Hr Hw Ho]
    · isplitr; · iexact HC
      isplitl [HO]; · iexact HO
      isplitl [HS]; · iexact HS
      isplitl [Hc]; · iexact Hc
      isplitl [Hr]; · iexact Hr
      isplitl [Hw]; · iexact Hw
      iexact Ho
    iexact Hk

theorem midHops_eq : midHops = hopList 13 1 (by omega) := rfl

end Cert.KernelIdeal.Ring

end
-- ==== Proof.Ideal.Ends.lean ====
/- The first hop, and the actions of the last. -/
module

public import proofs.«01_k».proof.Proof.Ideal.Hops

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable {X : Dev nD → XBuf F} {κ : GSem nD τ sig → ℕ} {ιs : Key → ℕ}

/-! ## The first hop -/

/-- What sending a piece of the local block starts from. -/
def Hin0 (X : Dev nD → XBuf F) (c : Dev nD) (ℓ : Bool) (j : Fin 4) : sProp (MM F) :=
  iprop(Sv c ℓ 0 j ∗ Tk c ℓ 0 j ∗ freePc (dn ℓ c) ℓ 0 j ∗ xpAt c j (xq ℓ) (X c))

/-- A piece of the local block being sent. -/
def Mid0 (c : Dev nD) (ℓ : Bool) (j : Fin 4) : sProp (MM F) := iprop(Sv c ℓ 0 j ∗ Cs c ℓ 0 j)

/-- A piece of the local block sent. -/
def Out0 (X : Dev nD → XBuf F) (c : Dev nD) (ℓ : Bool) (j : Fin 4) : sProp (MM F) := iprop(Sv c ℓ 2 j ∗ xpAt c j (xq ℓ) (X c))

theorem wp_sendX' {c : Dev nD} {ℓ : Bool} {j : Fin 4} {l : List Ob} {k : Pg F} {Q : PUnit → sProp (MM F)} :
    iprop(Ctx X κ ιs ∗ Owe c (sendOb c ℓ 0 j :: l) ∗ Hin0 X c ℓ j)
      ⊢ iprop(((Owe c l ∗ Mid0 c ℓ j) -∗ Run F c k Q) -∗ Run F c (sendX (laneOf ℓ) kA.x (dn ℓ c) j k) Q) := by
  unfold Hin0 Mid0
  iintro ⟨#HC, HO, Hsv, Htk, Hfr, Hx⟩ Hk
  unfold Sv
  icases Hsv with ⟨Hsv, #Hsr⟩
  iapply (wp_sendX (X := X) (κ := κ) (ιs := ιs)) $$ [HO Htk Hfr Hx]
  · isplitr; · iexact HC
    isplitl [HO]; · iexact HO
    isplitl [Htk]; · iexact Htk
    isplitl [Hfr]; · iexact Hfr
    isplitr; · iexact Hsr
    iexact Hx
  iintro ⟨HO, Hcs⟩
  iapply Hk
  isplitl [HO]; · iexact HO
  isplitl [Hsv]
  · isplitl [Hsv]; · iexact Hsv
    iexact Hsr
  iexact Hcs

theorem wp_waitX' {c : Dev nD} {ℓ : Bool} {j : Fin 4} {l : List Ob} (ha : above 0 l) {k : Pg F} {Q : PUnit → sProp (MM F)} :
    iprop(Ctx X κ ιs ∗ Owe c l ∗ Mid0 c ℓ j)
      ⊢ iprop(((Owe c l ∗ Out0 X c ℓ j) -∗ Run F c k Q) -∗ Run F c (waitSndX (laneOf ℓ) kA.x j k) Q) := by
  unfold Out0 Mid0
  iintro ⟨#HC, HO, Hsv, Hcs⟩ Hk
  iapply (wp_waitSndX (X := X) (κ := κ) (ιs := ιs) ha) $$ [HO Hsv Hcs]
  · isplitr; · iexact HC
    isplitl [HO]; · iexact HO
    isplitl [Hcs]; · iexact Hcs
    iexact Hsv
  iexact Hk

theorem doneTo_one {c : Dev nD} {t : ℕ} (ht : doneTo c 1 t) :
    t = 2 * c.val + (1 : Fin 2).val ∨ t = 2 * c.val + (0 : Fin 2).val ∨ doneTo c 0 t := by
  obtain ⟨h', hlt, hh⟩ := ht
  have e : h' = 0 := by omega
  subst e
  rw [org_zero, org_zero] at hh
  show t = 2 * _ + 1 ∨ t = 2 * _ + 0 ∨ _
  omega

/-- The first hop. -/
theorem wp_hop0 {c : Dev nD} {l : List Ob} (ha : above 0 l) {w : S4096x256.Idx → Elt F .f32} {k : Pg F} {Q : PUnit → sProp (MM F)} :
    iprop(Ctx X κ ιs ∗ Owe c (obsSend c 0 l) ∗ two (fun ℓ => four (Hin0 X c ℓ)) ∗ xAll c (X c) ∗ Wt c w ∗ Out c X w (doneTo c 0))
      ⊢ iprop(((Owe c l ∗ two (fun ℓ => four (Out0 X c ℓ)) ∗ xAll c (X c) ∗ Wt c w ∗ Out c X w (doneTo c 1)) -∗ Run F c k Q)
        -∗ Run F c (hop0 kA (dn true c) (dn false c) k) Q) := by
  unfold hop0 two four
  iintro ⟨#HC, HO, ⟨⟨F0, F1, F2, F3⟩, ⟨B0, B1, B2, B3⟩⟩, Hx, Hw, Ho⟩ Hk
  iapply (wp_sendX' (X := X) (κ := κ) (ιs := ιs) (ℓ := true) (j := 0)) $$ [HO F0]
  · isplitr; · iexact HC
    isplitl [HO]; · iexact HO
    iexact F0
  iintro ⟨HO, F0⟩
  iapply (wp_sendX' (X := X) (κ := κ) (ιs := ιs) (ℓ := false) (j := 0)) $$ [HO B0]
  · isplitr; · iexact HC
    isplitl [HO]; · iexact HO
    iexact B0
  iintro ⟨HO, B0⟩
  iapply (wp_sendX' (X := X) (κ := κ) (ιs := ιs) (ℓ := true) (j := 1)) $$ [HO F1]
  · isplitr; · iexact HC
    isplitl [HO]; · iexact HO
    iexact F1
  iintro ⟨HO, F1⟩
  iapply (wp_sendX' (X := X) (κ := κ) (ιs := ιs) (ℓ := false) (j := 1)) $$ [HO B1]
  · isplitr; · iexact HC
    isplitl [HO]; · iexact HO
    iexact B1
  iintro ⟨HO, B1⟩
  iapply (wp_tileX (X := X) (i := 0) (w := w)) $$ [Hx Hw Ho]
  · isplitl [Hx]; · iexact Hx
    isplitl [Hw]; · iexact Hw
    iexact Ho
  iintro ⟨Hx, Hw, Ho⟩
  iapply (wp_sendX' (X := X) (κ := κ) (ιs := ιs) (ℓ := true) (j := 2)) $$ [HO F2]
  · isplitr; · iexact HC
    isplitl [HO]; · iexact HO
    iexact F2
  iintro ⟨HO, F2⟩
  iapply (wp_sendX' (X := X) (κ := κ) (ιs := ιs) (ℓ := false) (j := 2)) $$ [HO B2]
  · isplitr; · iexact HC
    isplitl [HO]; · iexact HO
    iexact B2
  iintro ⟨HO, B2⟩
  iapply (wp_sendX' (X := X) (κ := κ) (ιs := ιs) (ℓ := true) (j := 3)) $$ [HO F3]
  · isplitr; · iexact HC
    isplitl [HO]; · iexact HO
    iexact F3
  iintro ⟨HO, F3⟩
  iapply (wp_sendX' (X := X) (κ := κ) (ιs := ιs) (ℓ := false) (j := 3)) $$ [HO B3]
  · isplitr; · iexact HC
    isplitl [HO]; · iexact HO
    iexact B3
  iintro ⟨HO, B3⟩
  iapply (wp_tileX (X := X) (i := 1) (w := w)) $$ [Hx Hw Ho]
  · isplitl [Hx]; · iexact Hx
    isplitl [Hw]; · iexact Hw
    iexact Ho
  iintro ⟨Hx, Hw, Ho⟩
  iapply (wp_waitX' (X := X) (κ := κ) (ιs := ιs) (ℓ := true) (j := 0) ha) $$ [HO F0]
  · isplitr; · iexact HC
    isplitl [HO]; · iexact HO
    iexact F0
  iintro ⟨HO, F0⟩
  iapply (wp_waitX' (X := X) (κ := κ) (ιs := ιs) (ℓ := true) (j := 1) ha) $$ [HO F1]
  · isplitr; · iexact HC
    isplitl [HO]; · iexact HO
    iexact F1
  iintro ⟨HO, F1⟩
  iapply (wp_waitX' (X := X) (κ := κ) (ιs := ιs) (ℓ := true) (j := 2) ha) $$ [HO F2]
  · isplitr; · iexact HC
    isplitl [HO]; · iexact HO
    iexact F2
  iintro ⟨HO, F2⟩
  iapply (wp_waitX' (X := X) (κ := κ) (ιs := ιs) (ℓ := true) (j := 3) ha) $$ [HO F3]
  · isplitr; · iexact HC
    isplitl [HO]; · iexact HO
    iexact F3
  iintro ⟨HO, F3⟩
  iapply (wp_waitX' (X := X) (κ := κ) (ιs := ιs) (ℓ := false) (j := 0) ha) $$ [HO B0]
  · isplitr; · iexact HC
    isplitl [HO]; · iexact HO
    iexact B0
  iintro ⟨HO, B0⟩
  iapply (wp_waitX' (X := X) (κ := κ) (ιs := ιs) (ℓ := false) (j := 1) ha) $$ [HO B1]
  · isplitr; · iexact HC
    isplitl [HO]; · iexact HO
    iexact B1
  iintro ⟨HO, B1⟩
  iapply (wp_waitX' (X := X) (κ := κ) (ιs := ιs) (ℓ := false) (j := 2) ha) $$ [HO B2]
  · isplitr; · iexact HC
    isplitl [HO]; · iexact HO
    iexact B2
  iintro ⟨HO, B2⟩
  iapply (wp_waitX' (X := X) (κ := κ) (ιs := ιs) (ℓ := false) (j := 3) ha) $$ [HO B3]
  · isplitr; · iexact HC
    isplitl [HO]; · iexact HO
    iexact B3
  iintro ⟨HO, B3⟩
  iapply Hk
  isplitl [HO]; · iexact HO
  isplitl [F0 F1 F2 F3 B0 B1 B2 B3]
  · isplitl [F0 F1 F2 F3]
    · isplitl [F0]; · iexact F0
      isplitl [F1]; · iexact F1
      isplitl [F2]; · iexact F2
      iexact F3
    isplitl [B0]; · iexact B0
    isplitl [B1]; · iexact B1
    isplitl [B2]; · iexact B2
    iexact B3
  isplitl [Hx]; · iexact Hx
  isplitl [Hw]; · iexact Hw
  iapply (Out_mono c X w (fun t ht => doneTo_one ht))
  iexact Ho

/-! ## The last hop -/

/-- A piece that has arrived and is not sent on. -/
def MidR (X : Dev nD → XBuf F) (c : Dev nD) (ℓ : Bool) (g : ℕ) (j : Fin 4) : sProp (MM F) :=
  iprop((Rv c ℓ (g + 2) j ∗ pcAt c ℓ (slotOf (g + 1)) j fullShare.left (X (org ℓ (g + 1) c)))
    ∗ pcAt c ℓ (slotOf (g + 1)) j fullShare.right (X (org ℓ (g + 1) c)))

/-- Wait for a piece that is not sent on. -/
theorem wp_recv {c : Dev nD} {ℓ : Bool} {g : ℕ} {j : Fin 4} (hs : snds ℓ g j) (hg : g ≤ 15) {l : List Ob}
    (ha : above (2 * g + 2) l) {s : Fin 2} (es : s = slotOf (g + 1)) {k : Pg F} {Q : PUnit → sProp (MM F)} :
    iprop(Ctx X κ ιs ∗ Owe c l ∗ Cr c ℓ g j ∗ Rv c ℓ g j)
      ⊢ iprop(((Owe c l ∗ MidR X c ℓ g j) -∗ Run F c k Q) -∗ Run F c (waitRcv (laneOf ℓ) s j k) Q) := by
  subst es
  unfold MidR
  iintro ⟨#HC, HO, Hcr, Hrv⟩ Hk
  iapply (wp_waitRcv (X := X) (κ := κ) (ιs := ιs) hs ha (by omega)) $$ [HO Hcr Hrv]
  · isplitr; · iexact HC
    isplitl [HO]; · iexact HO
    isplitl [Hcr]; · iexact Hcr
    iexact Hrv
  iintro ⟨HO, Hrv, -, Hp⟩
  ihave Hp := (pc_halves c ℓ (slotOf (g + 1)) j (X (org ℓ (g + 1) c))).1 $$ Hp
  icases Hp with ⟨Hp1, Hp2⟩
  iapply Hk
  isplitl [HO]; · iexact HO
  isplitr [Hp2]
  · isplitl [Hrv]; · iexact Hrv
    iexact Hp1
  iexact Hp2

/-- Wait for a piece and send it on, the slots named otherwise. -/
theorem wp_passS {c : Dev nD} {ℓ : Bool} {g : ℕ} {j : Fin 4} (hs : snds ℓ g j) (hs' : snds ℓ (g + 1) j) (hg : g ≤ 14) {l : List Ob}
    (ha : above (2 * g + 2) (sendOb c ℓ (g + 1) j :: l)) {s r : Fin 2} (es : s = slotOf (g + 1)) (er : r = slotOf (g + 1 + 1))
    {k : Pg F} {Q : PUnit → sProp (MM F)} :
    iprop(Ctx X κ ιs ∗ Owe c (sendOb c ℓ (g + 1) j :: l) ∗ Hin c ℓ g j)
      ⊢ iprop(((Owe c l ∗ Mid X c ℓ g j) -∗ Run F c k Q)
        -∗ Run F c (waitRcv (laneOf ℓ) s j (send (laneOf ℓ) (dn ℓ c) s r j k)) Q) := by
  subst es er
  exact wp_pass hs hs' hg ha

/-- Wait for a piece to have been sent, the slot named otherwise. -/
theorem wp_drainS {c : Dev nD} {ℓ : Bool} {g : ℕ} {j : Fin 4} (hs' : snds ℓ (g + 1) j) {l : List Ob}
    (ha : above 0 l) {s r : Fin 2} (es : s = slotOf (g + 1)) {k : Pg F} {Q : PUnit → sProp (MM F)} :
    iprop(Ctx X κ ιs ∗ Owe c l ∗ Mid X c ℓ g j)
      ⊢ iprop(((Owe c l ∗ Fin' c ℓ g j) -∗ Run F c k Q) -∗ Run F c (waitSnd (laneOf ℓ) s r j k) Q) := by
  subst es
  exact wp_drain hs' ha

/-- Both tiles of a half, whatever rides along with its pieces. -/
theorem wp_tilesR {c : Dev nD} {g : ℕ} (hg : g + 1 < 16) {i : Fin 2} {w : S4096x256.Idx → Elt F .f32} {D : ℕ → Prop}
    {R₁ R₂ R₃ R₄ : sProp (MM F)} {k : Pg F} {Q : PUnit → sProp (MM F)} :
    iprop(((R₁ ∗ pcAt c true (slotOf (g + 1)) (lo i) fullShare.right (X (org true (g + 1) c)))
        ∗ (R₂ ∗ pcAt c true (slotOf (g + 1)) (hi i) fullShare.right (X (org true (g + 1) c)))
        ∗ (R₃ ∗ pcAt c false (slotOf (g + 1)) (lo i) fullShare.right (X (org false (g + 1) c)))
        ∗ (R₄ ∗ pcAt c false (slotOf (g + 1)) (hi i) fullShare.right (X (org false (g + 1) c)))) ∗ Wt c w ∗ Out c X w D)
      ⊢ iprop(((((R₁ ∗ pcAt c true (slotOf (g + 1)) (lo i) fullShare.right (X (org true (g + 1) c)))
        ∗ (R₂ ∗ pcAt c true (slotOf (g + 1)) (hi i) fullShare.right (X (org true (g + 1) c)))
        ∗ (R₃ ∗ pcAt c false (slotOf (g + 1)) (lo i) fullShare.right (X (org false (g + 1) c)))
        ∗ (R₄ ∗ pcAt c false (slotOf (g + 1)) (hi i) fullShare.right (X (org false (g + 1) c)))) ∗ Wt c w
          ∗ Out c X w (fun t => t = 2 * (org false (g + 1) c).val + i.val ∨ t = 2 * (org true (g + 1) c).val + i.val ∨ D t)) -∗ Run F c k Q)
        -∗ Run F c (tiles kA ⟨g + 1, hg⟩ i k) Q) := by
  iintro ⟨⟨⟨R1, P1⟩, ⟨R2, P2⟩, ⟨R3, P3⟩, ⟨R4, P4⟩⟩, Hw, Ho⟩ Hk
  iapply (wp_tiles (X := X) (h := ⟨g + 1, hg⟩) (i := i) (q := fullShare.right) (q' := fullShare.right) (w := w) (D := D)) $$ [P1 P2 P3 P4 Hw Ho]
  · unfold hf
    isplitl [P1 P2]
    · isplitl [P1]; · iexact P1
      iexact P2
    isplitl [P3 P4]
    · isplitl [P3]; · iexact P3
      iexact P4
    isplitl [Hw]; · iexact Hw
    iexact Ho
  unfold hf
  iintro ⟨⟨P1, P2⟩, ⟨P3, P4⟩, Hw, Ho⟩
  iapply Hk
  isplitr [Hw Ho]
  · isplitl [R1 P1]
    · isplitl [R1]; · iexact R1
      iexact P1
    isplitl [R2 P2]
    · isplitl [R2]; · iexact R2
      iexact P2
    isplitl [R3 P3]
    · isplitl [R3]; · iexact R3
      iexact P3
    isplitl [R4]; · iexact R4
    iexact P4
  isplitl [Hw]; · iexact Hw
  iexact Ho

end Cert.KernelIdeal.Ring

end
-- ==== Proof.Ideal.Last.lean ====
/- The last hop and the block half way round the ring. -/
module

public import proofs.«01_k».proof.Proof.Ideal.Ends

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable {X : Dev nD → XBuf F} {κ : GSem nD τ sig → ℕ} {ιs : Key → ℕ}

theorem s14 (ℓ : Bool) (j : Fin 4) : snds ℓ 14 j := snds_lt ℓ (by decide) j

/-- The tiles of half 0 at the last hop. -/
theorem wp_tilesLast0 {c : Dev nD} {w : S4096x256.Idx → Elt F .f32} {D : ℕ → Prop} {k : Pg F} {Q : PUnit → sProp (MM F)} :
    iprop((Mid X c true 14 0 ∗ Mid X c true 14 1 ∗ MidR X c false 14 0 ∗ MidR X c false 14 1) ∗ Wt c w ∗ Out c X w D)
      ⊢ iprop((((Mid X c true 14 0 ∗ Mid X c true 14 1 ∗ MidR X c false 14 0 ∗ MidR X c false 14 1) ∗ Wt c w
          ∗ Out c X w (fun t => t = 2 * (org false 15 c).val + (0 : Fin 2).val ∨ t = 2 * (org true 15 c).val + (0 : Fin 2).val ∨ D t)) -∗ Run F c k Q)
        -∗ Run F c (tiles kA 15 0 k) Q) := by
  unfold Mid MidR
  exact wp_tilesR (g := 14) (i := 0) (by omega)

/-- The tiles of half 1 at the last hop. -/
theorem wp_tilesLast1 {c : Dev nD} {w : S4096x256.Idx → Elt F .f32} {D : ℕ → Prop} {k : Pg F} {Q : PUnit → sProp (MM F)} :
    iprop((MidR X c true 14 2 ∗ MidR X c true 14 3 ∗ Mid X c false 14 2 ∗ Mid X c false 14 3) ∗ Wt c w ∗ Out c X w D)
      ⊢ iprop((((MidR X c true 14 2 ∗ MidR X c true 14 3 ∗ Mid X c false 14 2 ∗ Mid X c false 14 3) ∗ Wt c w
          ∗ Out c X w (fun t => t = 2 * (org false 15 c).val + (1 : Fin 2).val ∨ t = 2 * (org true 15 c).val + (1 : Fin 2).val ∨ D t)) -∗ Run F c k Q)
        -∗ Run F c (tiles kA 15 1 k) Q) := by
  unfold Mid MidR
  exact wp_tilesR (g := 14) (i := 1) (by omega)

/-- What the last hop owes. -/
abbrev obsLast (c : Dev nD) : List Ob := [sendOb c true 15 0, sendOb c true 15 1, sendOb c false 15 2, sendOb c false 15 3]

theorem above_obsLast (c : Dev nD) : above 31 (obsLast c) :=
  above_sendOb (by decide) (by decide) (above_sendOb (by decide) (by decide) (above_sendOb (by decide) (by decide)
    (above_sendOb (by decide) (by decide) fun _ h => absurd h (List.not_mem_nil))))

/-- What a lane's last hop starts from where the piece is not sent on. -/
def HinR (c : Dev nD) (ℓ : Bool) (j : Fin 4) : sProp (MM F) := iprop(Cr c ℓ 14 j ∗ Rv c ℓ 14 j)

/-- The last hop, its credits taken. -/
theorem wp_hop15 {c : Dev nD} {w : S4096x256.Idx → Elt F .f32} {k : Pg F} {Q : PUnit → sProp (MM F)} :
    iprop(Ctx X κ ιs ∗ Owe c (obsLast c)
        ∗ (Hin c true 14 0 ∗ Hin c true 14 1 ∗ HinR c true 2 ∗ HinR c true 3)
        ∗ (HinR c false 0 ∗ HinR c false 1 ∗ Hin c false 14 2 ∗ Hin c false 14 3)
        ∗ Wt c w ∗ Out c X w (doneTo c 15))
      ⊢ iprop(((Owe c []
        ∗ (Fin' c true 14 0 ∗ Fin' c true 14 1 ∗ MidR X c true 14 2 ∗ MidR X c true 14 3)
        ∗ (MidR X c false 14 0 ∗ MidR X c false 14 1 ∗ Fin' c false 14 2 ∗ Fin' c false 14 3)
        ∗ Wt c w ∗ Out c X w (doneTo c 16)) -∗ Run F c k Q)
        -∗ Run F c (waitRcv kA.f 1 0 <| send kA.f (dn true c) 1 0 0 <| waitRcv kA.b 1 0 <|
  waitRcv kA.f 1 1 <| send kA.f (dn true c) 1 0 1 <| waitRcv kA.b 1 1 <|
  tiles kA 15 0 <|
  waitRcv kA.f 1 2 <| waitRcv kA.b 1 2 <| send kA.b (dn false c) 1 0 2 <|
  waitRcv kA.f 1 3 <| waitRcv kA.b 1 3 <| send kA.b (dn false c) 1 0 3 <|
  tiles kA 15 1 <|
  waitSnd kA.f 1 0 0 <| waitSnd kA.f 1 0 1 <| waitSnd kA.b 1 0 2 <| waitSnd kA.b 1 0 3 k) Q) := by
  have hA : above (2 * 14 + 2) (obsLast c) := (above_obsLast c).mono (by omega)
  have h0 : above 0 ([] : List Ob) := fun _ h => absurd h (List.not_mem_nil)
  unfold HinR
  iintro ⟨#HC, HO, ⟨F0, F1, F2, F3⟩, ⟨B0, B1, B2, B3⟩, Hw, Ho⟩ Hk
  iapply (wp_passS (X := X) (κ := κ) (ιs := ιs) (ℓ := true) (g := 14) (j := 0) (s14 _ _) (by decide) (by omega) hA rfl rfl) $$ [HO F0]
  · isplitr; · iexact HC
    isplitl [HO]; · iexact HO
    iexact F0
  iintro ⟨HO, F0⟩
  replace hA := (above_cons.mp hA).2
  iapply (wp_recv (X := X) (κ := κ) (ιs := ιs) (ℓ := false) (g := 14) (j := 0) (s14 _ _) (by omega) hA rfl) $$ [HO B0]
  · isplitr; · iexact HC
    isplitl [HO]; · iexact HO
    iexact B0
  iintro ⟨HO, B0⟩
  iapply (wp_passS (X := X) (κ := κ) (ιs := ιs) (ℓ := true) (g := 14) (j := 1) (s14 _ _) (by decide) (by omega) hA rfl rfl) $$ [HO F1]
  · isplitr; · iexact HC
    isplitl [HO]; · iexact HO
    iexact F1
  iintro ⟨HO, F1⟩
  replace hA := (above_cons.mp hA).2
  iapply (wp_recv (X := X) (κ := κ) (ιs := ιs) (ℓ := false) (g := 14) (j := 1) (s14 _ _) (by omega) hA rfl) $$ [HO B1]
  · isplitr; · iexact HC
    isplitl [HO]; · iexact HO
    iexact B1
  iintro ⟨HO, B1⟩
  iapply (wp_tilesLast0 (X := X) (w := w)) $$ [F0 F1 B0 B1 Hw Ho]
  · isplitr [Hw Ho]
    · isplitl [F0]; · iexact F0
      isplitl [F1]; · iexact F1
      isplitl [B0]; · iexact B0
      iexact B1
    isplitl [Hw]; · iexact Hw
    iexact Ho
  iintro ⟨⟨F0, F1, B0, B1⟩, Hw, Ho⟩
  iapply (wp_recv (X := X) (κ := κ) (ιs := ιs) (ℓ := true) (g := 14) (j := 2) (s14 _ _) (by omega) hA rfl) $$ [HO F2]
  · isplitr; · iexact HC
    isplitl [HO]; · iexact HO
    iexact F2
  iintro ⟨HO, F2⟩
  iapply (wp_passS (X := X) (κ := κ) (ιs := ιs) (ℓ := false) (g := 14) (j := 2) (s14 _ _) (by decide) (by omega) hA rfl rfl) $$ [HO B2]
  · isplitr; · iexact HC
    isplitl [HO]; · iexact HO
    iexact B2
  iintro ⟨HO, B2⟩
  replace hA := (above_cons.mp hA).2
  iapply (wp_recv (X := X) (κ := κ) (ιs := ιs) (ℓ := true) (g := 14) (j := 3) (s14 _ _) (by omega) hA rfl) $$ [HO F3]
  · isplitr; · iexact HC
    isplitl [HO]; · iexact HO
    iexact F3
  iintro ⟨HO, F3⟩
  iapply (wp_passS (X := X) (κ := κ) (ιs := ιs) (ℓ := false) (g := 14) (j := 3) (s14 _ _) (by decide) (by omega) hA rfl rfl) $$ [HO B3]
  · isplitr; · iexact HC
    isplitl [HO]; · iexact HO
    iexact B3
  iintro ⟨HO, B3⟩
  replace hA := (above_cons.mp hA).2
  iapply (wp_tilesLast1 (X := X) (w := w)) $$ [F2 F3 B2 B3 Hw Ho]
  · isplitr [Hw Ho]
    · isplitl [F2]; · iexact F2
      isplitl [F3]; · iexact F3
      isplitl [B2]; · iexact B2
      iexact B3
    isplitl [Hw]; · iexact Hw
    iexact Ho
  iintro ⟨⟨F2, F3, B2, B3⟩, Hw, Ho⟩
  iapply (wp_drainS (X := X) (κ := κ) (ιs := ιs) (ℓ := true) (g := 14) (j := 0) (by decide) h0 rfl) $$ [HO F0]
  · isplitr; · iexact HC
    isplitl [HO]; · iexact HO
    iexact F0
  iintro ⟨HO, F0⟩
  iapply (wp_drainS (X := X) (κ := κ) (ιs := ιs) (ℓ := true) (g := 14) (j := 1) (by decide) h0 rfl) $$ [HO F1]
  · isplitr; · iexact HC
    isplitl [HO]; · iexact HO
    iexact F1
  iintro ⟨HO, F1⟩
  iapply (wp_drainS (X := X) (κ := κ) (ιs := ιs) (ℓ := false) (g := 14) (j := 2) (by decide) h0 rfl) $$ [HO B2]
  · isplitr; · iexact HC
    isplitl [HO]; · iexact HO
    iexact B2
  iintro ⟨HO, B2⟩
  iapply (wp_drainS (X := X) (κ := κ) (ιs := ιs) (ℓ := false) (g := 14) (j := 3) (by decide) h0 rfl) $$ [HO B3]
  · isplitr; · iexact HC
    isplitl [HO]; · iexact HO
    iexact B3
  iintro ⟨HO, B3⟩
  iapply Hk
  isplitl [HO]; · iexact HO
  isplitl [F0 F1 F2 F3]
  · isplitl [F0]; · iexact F0
    isplitl [F1]; · iexact F1
    isplitl [F2]; · iexact F2
    iexact F3
  isplitl [B0 B1 B2 B3]
  · isplitl [B0]; · iexact B0
    isplitl [B1]; · iexact B1
    isplitl [B2]; · iexact B2
    iexact B3
  isplitl [Hw]; · iexact Hw
  iapply (Out_mono c X w (fun t ht => doneTo_succ ht))
  iexact Ho

/-- A piece of the last landing. -/
def Got (X : Dev nD → XBuf F) (c : Dev nD) (ℓ : Bool) (j : Fin 4) : sProp (MM F) :=
  iprop(Rv c ℓ 17 j ∗ pcAt c ℓ 0 j fullShare (X (org ℓ 16 c)))

/-- Wait for a piece of the last landing. -/
theorem wp_recv16 {c : Dev nD} {ℓ : Bool} {j : Fin 4} (hs : snds ℓ 15 j) {k : Pg F} {Q : PUnit → sProp (MM F)} :
    iprop(Ctx X κ ιs ∗ Owe c [] ∗ Cr c ℓ 15 j ∗ Rv c ℓ 15 j)
      ⊢ iprop(((Owe c [] ∗ Got X c ℓ j) -∗ Run F c k Q) -∗ Run F c (waitRcv (laneOf ℓ) 0 j k) Q) := by
  have h0 : above (2 * 15 + 2) ([] : List Ob) := fun _ h => absurd h (List.not_mem_nil)
  unfold Got
  iintro ⟨#HC, HO, Hcr, Hrv⟩ Hk
  iapply (wp_waitRcv (X := X) (κ := κ) (ιs := ιs) (ℓ := ℓ) (h := 15) (j := j) hs h0 (by omega)) $$ [HO Hcr Hrv]
  · isplitr; · iexact HC
    isplitl [HO]; · iexact HO
    isplitl [Hcr]; · iexact Hcr
    iexact Hrv
  iintro ⟨HO, Hrv, -, Hp⟩
  iapply Hk
  isplitl [HO]; · iexact HO
  isplitl [Hrv]; · iexact Hrv
  iexact Hp

theorem all_done {c : Dev nD} {t : ℕ} (ht : t < 64) :
    t = 2 * (org true 16 c).val + (1 : Fin 2).val ∨ t = 2 * (org true 16 c).val + (0 : Fin 2).val ∨ doneTo c 16 t := by
  have hb : t / 2 < 32 := by omega
  rcases covered c ⟨t / 2, hb⟩ with ⟨h, hlt, hh⟩ | hh
  · right; right
    refine ⟨h, hlt, ?_⟩
    rcases hh with hh | hh
    · left; exact congrArg Fin.val hh
    · right; exact congrArg Fin.val hh
  · have e : t / 2 = (org true 16 c).val := congrArg Fin.val hh
    show t = 2 * _ + 1 ∨ t = 2 * _ + 0 ∨ _
    omega

/-- The epilogue. -/
theorem wp_epilogue {c : Dev nD} {w : S4096x256.Idx → Elt F .f32} {k : Pg F} {Q : PUnit → sProp (MM F)} :
    iprop(Ctx X κ ιs ∗ Owe c [] ∗ ((Cr c true 15 0 ∗ Rv c true 15 0) ∗ (Cr c true 15 1 ∗ Rv c true 15 1)
        ∗ (Cr c false 15 2 ∗ Rv c false 15 2) ∗ (Cr c false 15 3 ∗ Rv c false 15 3)) ∗ Wt c w ∗ Out c X w (doneTo c 16))
      ⊢ iprop(((Owe c [] ∗ (Got X c true 0 ∗ Got X c true 1 ∗ Got X c false 2 ∗ Got X c false 3) ∗ Wt c w ∗ Out c X w (fun t => t < 64)) -∗ Run F c k Q)
        -∗ Run F c (epilogue kA k) Q) := by
  unfold epilogue
  iintro ⟨#HC, HO, ⟨F0, F1, B2, B3⟩, Hw, Ho⟩ Hk
  iapply (wp_recv16 (X := X) (κ := κ) (ιs := ιs) (ℓ := true) (j := 0) (by decide)) $$ [HO F0]
  · isplitr; · iexact HC
    isplitl [HO]; · iexact HO
    iexact F0
  iintro ⟨HO, F0⟩
  iapply (wp_recv16 (X := X) (κ := κ) (ιs := ιs) (ℓ := true) (j := 1) (by decide)) $$ [HO F1]
  · isplitr; · iexact HC
    isplitl [HO]; · iexact HO
    iexact F1
  iintro ⟨HO, F1⟩
  unfold Got
  icases F0 with ⟨RF0, F0⟩
  icases F1 with ⟨RF1, F1⟩
  iapply (wp_tileF (X := X) (ℓ := true) (s := 0) (i := 0) (q := fullShare) (w := w) 16) $$ [F0 F1 Hw Ho]
  · unfold hf
    isplitl [F0 F1]
    · isplitl [F0]; · iexact F0
      iexact F1
    isplitl [Hw]; · iexact Hw
    iexact Ho
  unfold hf
  iintro ⟨⟨F0, F1⟩, Hw, Ho⟩
  iapply (wp_recv16 (X := X) (κ := κ) (ιs := ιs) (ℓ := false) (j := 2) (by decide)) $$ [HO B2]
  · isplitr; · iexact HC
    isplitl [HO]; · iexact HO
    iexact B2
  iintro ⟨HO, B2⟩
  iapply (wp_recv16 (X := X) (κ := κ) (ιs := ιs) (ℓ := false) (j := 3) (by decide)) $$ [HO B3]
  · isplitr; · iexact HC
    isplitl [HO]; · iexact HO
    iexact B3
  iintro ⟨HO, B3⟩
  unfold Got
  have e : X (org false 16 c) = X (org true 16 c) := congrArg X (org_half c)
  rw [e]
  icases B2 with ⟨RB2, B2⟩
  icases B3 with ⟨RB3, B3⟩
  iapply (wp_tileF (X := X) (ℓ := false) (s := 0) (i := 1) (q := fullShare) (w := w) 16) $$ [B2 B3 Hw Ho]
  · unfold hf
    isplitl [B2 B3]
    · isplitl [B2]; · iexact B2
      iexact B3
    isplitl [Hw]; · iexact Hw
    iexact Ho
  unfold hf
  iintro ⟨⟨B2, B3⟩, Hw, Ho⟩
  iapply Hk
  isplitl [HO]; · iexact HO
  isplitr [Hw Ho]
  · isplitl [RF0 F0]
    · isplitl [RF0]; · iexact RF0
      iexact F0
    isplitl [RF1 F1]
    · isplitl [RF1]; · iexact RF1
      iexact F1
    isplitl [RB2 B2]
    · isplitl [RB2]; · iexact RB2
      iexact B2
    isplitl [RB3]; · iexact RB3
    iexact B3
  isplitl [Hw]; · iexact Hw
  iapply (Out_mono c X w (fun t ht => all_done ht))
  iexact Ho

end Cert.KernelIdeal.Ring

end
-- ==== Proof.Ideal.Cells.lean ====
/- All of a device's cells: opening the scoped ones and closing every one. -/
module

public import proofs.«01_k».proof.Proof.Ideal.Last
public import Idealize.ShloMosaic.Lib.SparseCore.Stream

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable {X : Dev nD → XBuf F} {κ : GSem nD τ sig → ℕ} {ιs : Key → ℕ}

/-- The kinds, sorted. -/
def kdE : (Unit ⊕ Bool × (Unit ⊕ Fin 4 × (Bool × Fin 2))) ≃ Kd where
  toFun
    | .inl _ => .bar
    | .inr (ℓ, .inl _) => .crd ℓ
    | .inr (ℓ, .inr (j, true, s)) => .rcv ℓ s j
    | .inr (ℓ, .inr (j, false, s)) => .snd ℓ s j
  invFun
    | .bar => .inl ()
    | .crd ℓ => .inr (ℓ, .inl ())
    | .rcv ℓ s j => .inr (ℓ, .inr (j, true, s))
    | .snd ℓ s j => .inr (ℓ, .inr (j, false, s))
  left_inv x := by
    rcases x with _ | ⟨ℓ, _ | ⟨j, _ | _, s⟩⟩ <;> rfl
  right_inv k := by cases k <;> rfl

/-- Something of a lane's cells of one piece. -/
def cells4 (Φ : Kd → sProp (MM F)) (ℓ : Bool) (j : Fin 4) : sProp (MM F) :=
  iprop((Φ (.rcv ℓ 0 j) ∗ Φ (.rcv ℓ 1 j)) ∗ (Φ (.snd ℓ 0 j) ∗ Φ (.snd ℓ 1 j)))

/-- Something of every cell. -/
def allK (Φ : Kd → sProp (MM F)) : sProp (MM F) :=
  iprop(Φ .bar ∗ two fun ℓ => iprop(Φ (.crd ℓ) ∗ four (cells4 Φ ℓ)))

theorem bigSep_bool' (Φ : Bool → sProp (MM F)) : bigSep Finset.univ Φ = iprop(Φ true ∗ Φ false) := by
  rw [show (Finset.univ : Finset Bool) = insert true {false} from by decide, bigSep_insert (by decide), bigSep_singleton]
  rfl

theorem bigSep_four (Φ : Fin 4 → sProp (MM F)) : bigSep Finset.univ Φ = four Φ := by
  rw [show (Finset.univ : Finset (Fin 4)) = insert 0 (insert 1 (insert 2 {3})) from by decide, bigSep_insert (by decide), bigSep_insert (by decide),
    bigSep_insert (by decide), bigSep_singleton]
  rfl

theorem allK_eq (Φ : Kd → sProp (MM F)) : bigSep Finset.univ Φ = allK Φ := by
  rw [bigSep_univ_equiv kdE, bigSep_univ_sum, bigSep_univ_of_subsingleton (), bigSep_univ_prod, bigSep_bool']
  have h (ℓ : Bool) : (bigSep Finset.univ fun b => Φ (kdE (.inr (ℓ, b)))) = iprop(Φ (.crd ℓ) ∗ four (cells4 Φ ℓ)) := by
    rw [bigSep_univ_sum, bigSep_univ_of_subsingleton (), bigSep_univ_prod, bigSep_four]
    have h' (j : Fin 4) : (bigSep Finset.univ fun b => Φ (kdE (.inr (ℓ, .inr (j, b))))) = cells4 Φ ℓ j := by
      rw [bigSep_univ_prod, bigSep_bool', bigSep_fin_two, bigSep_fin_two]
      rfl
    rw [show (fun a => bigSep Finset.univ fun b => Φ (kdE (.inr (ℓ, .inr (a, b))))) = cells4 Φ ℓ from funext h']
    rfl
  rw [h true, h false]
  rfl

/-- A cell nothing more comes to. -/
def Done (X : Dev nD → XBuf F) (c : Dev nD) (k : Kd) : sProp (MM F) :=
  iprop(∃ R, atPos ER (cell c k) R ∅ 0 ∗ ⌜∀ r, R ≤ r → (Rd X).duties (cell c k) r = ∅⌝)

/-- Closing every cell. -/
theorem close_all (c : Dev nD) : iprop(Ctx X κ ιs ∗ allK (Done X c)) ⊢ (|={Set.univ}=> bigSep Finset.univ fun k => semVal (cell c k) 0 : sProp (MM F)) := by
  rw [← allK_eq]
  have step (k : Kd) : iprop(Ctx X κ ιs ∗ Done X c k) ⊢ (|={Set.univ}=> semVal (cell c k) 0 : sProp (MM F)) := by
    unfold Done
    iintro ⟨#HC, ⟨%R, Hat, %hR⟩⟩
    iapply (cell_close ER (Rd X) (κ := κ (cell c k)) (Set.mem_univ _) id hR)
    isplitr; · iapply (Ctx_cell X κ ιs c k); iexact HC
    iexact Hat
  refine BIBase.Entails.trans ?_ (bigSep_fupd (Fr := frame) (E := Set.univ) Finset.univ fun k => (semVal (cell c k) 0 : sProp (MM F)))
  exact Transfers.bigSep_mono_pers Finset.univ (Ctx X κ ιs) (Done X c) _ fun k _ => step k

/-- A device's own semaphores: all but the barrier's. -/
abbrev KO : Type := {k : Kd // k ≠ .bar}
/-- Where they lie. -/
abbrev osem : KO → SemLoc sig := fun k => semOf k.1

/-- Opening the scoped cells. -/
theorem open_all (c : Dev nD) :
    iprop(Ctx X κ ιs ∗ (bigSep Finset.univ fun k : KO => openTok ER (cell c k.1)) ∗ bigSep Finset.univ fun k : KO => semVal (cell c k.1) 0)
      ⊢ (|={Set.univ}=> bigSep Finset.univ fun k : KO => iprop(atPos ER (cell c k.1) 0 ∅ 0 ∗ reached ER (cell c k.1) 0) : sProp (MM F)) := by
  have step (k : KO) : iprop(Ctx X κ ιs ∗ openTok ER (cell c k.1) ∗ semVal (cell c k.1) 0)
      ⊢ (|={Set.univ}=> iprop(atPos ER (cell c k.1) 0 ∅ 0 ∗ reached ER (cell c k.1) 0) : sProp (MM F)) := by
    iintro ⟨#HC, Ho, Hs⟩
    iapply (cell_open ER (Rd X) (κ := κ (cell c k.1)) (Set.mem_univ _))
    isplitr; · iapply (Ctx_cell X κ ιs c k.1); iexact HC
    isplitl [Ho]; · iexact Ho
    iexact Hs
  refine BIBase.Entails.trans ?_ (bigSep_fupd (Fr := frame) (E := Set.univ) Finset.univ fun k : KO => iprop(atPos ER (cell c k.1) 0 ∅ 0 ∗ reached ER (cell c k.1) 0))
  refine BIBase.Entails.trans ?_ (Transfers.bigSep_mono_pers Finset.univ (Ctx X κ ιs) (fun k : KO => iprop(openTok ER (cell c k.1) ∗ semVal (cell c k.1) 0)) _
    fun k _ => step k)
  iintro ⟨#HC, Ho, Hs⟩
  isplitr; · iexact HC
  iapply (Transfers.bigSep_sep_in Finset.univ (fun k : KO => (openTok ER (cell c k.1) : sProp (MM F))) fun k : KO => semVal (cell c k.1) 0)
  isplitl [Ho]; · iexact Ho
  iexact Hs

end Cert.KernelIdeal.Ring

end
-- ==== Proof.Ideal.Barrier.lean ====
/- The barrier: what a device gives its neighbours and what it gets of them. -/
module

public import proofs.«01_k».proof.Proof.Ideal.Cells

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable {X : Dev nD → XBuf F} {κ : GSem nD τ sig → ℕ} {ιs : Key → ℕ}

/-- What a device signals the barrier of its neighbour on lane `ℓ` with. -/
def BarTok (F : FTy → Type) [FloatOps F] (c : Dev nD) (ℓ : Bool) : sProp (MM F) :=
  iprop(dutyTok ER (cell (dn ℓ c) .bar) 0 (if ℓ then 0 else 1) ∗ reached ER (cell (dn ℓ c) .bar) 0)

/-- What a device gives away on lane `ℓ`: its own two slots of that lane, and that its credit of the lane is open. -/
def Give (c : Dev nD) (ℓ : Bool) : sProp (MM F) := iprop(free c ℓ 0 ∗ free c ℓ 1 ∗ reached ER (cell c (.crd (!ℓ))) 0)

theorem barPay_dn (c : Dev nD) (ℓ : Bool) : (barPay (dn ℓ c) (!ℓ) : sProp (MM F)) = Give c (!ℓ) := by
  unfold barPay Give
  rw [dn_not, up_dn]

/-- Signalling the barrier of the neighbour on lane `ℓ`. -/
theorem wp_sigBar {c : Dev nD} (ℓ : Bool) {l : List Ob} {k : Pg F} {Q : PUnit → sProp (MM F)} :
    iprop(Ctx X κ ιs ∗ Owe c ((dn ℓ c, .bar, 0) :: l) ∗ BarTok F c ℓ ∗ Give c (!ℓ))
      ⊢ iprop((Owe c l -∗ Run F c k Q) -∗ Run F c (signal (dn ℓ c) barS k) Q) := by
  unfold Owe BarTok
  iintro ⟨#HC, ⟨%W, HO⟩, ⟨Hd, Hr⟩, Hg⟩ Hk
  have hd : (if ℓ then 0 else 1) ∈ (Rd X).duties (cell (dn ℓ c) .bar) 0 := by
    rw [duties_cell]
    cases ℓ <;> decide
  have hkk : (Rd X).amount (cell (dn ℓ c) .bar) 0 (if ℓ then 0 else 1) = 1 := by rw [amount_cell]; rfl
  have hpay : (Rd X).payload (cell (dn ℓ c) .bar) 0 (if ℓ then 0 else 1) = Give c (!ℓ) := by
    rw [payload_cell, ← barPay_dn]
    cases ℓ <;> rfl
  have hpay' : Give c (!ℓ) ⊢ (Rd X).payload (((dn ℓ c : Dev nD) : Thread nD τ), SemLoc.reg barS) 0 (if ℓ then 0 else 1) :=
    Entails.of_eq hpay.symm
  iapply (Rounds.wp_signal 𝒱₀ ER (Rd X) (c : Thread nD τ) none (dst := ((dn ℓ c : Dev nD) : Thread nD τ)) (sem := barS) (r := 0)
      (d := if ℓ then 0 else 1) (κ := κ (cell (dn ℓ c) .bar)) hd (k' := 1) hkk 0 (tally l) rfl) $$ [HO Hd Hr Hg]
  · isplitr; · iapply (Ctx_cell X κ ιs (dn ℓ c)); iexact HC
    isplitl [HO]; · iexact HO
    isplitl [Hd]; · iexact Hd
    isplitl [Hg]; · iapply hpay'; iexact Hg
    iexact Hr
  iintro HO
  iapply Hk
  iexists _
  iexact HO

/-- What a device has of its neighbour on lane `ℓ` once the barrier is passed. -/
def Take (c : Dev nD) (ℓ : Bool) : sProp (MM F) :=
  iprop(free (dn ℓ c) ℓ 0 ∗ free (dn ℓ c) ℓ 1 ∗ reached ER (cell (up (!ℓ) c) (.crd (!ℓ))) 0)

theorem barPay_take (c : Dev nD) (ℓ : Bool) : (barPay c ℓ : sProp (MM F)) = Take c ℓ := by
  unfold barPay Take
  rw [← dn_not, Bool.not_not]

/-- The barrier. -/
theorem wp_barrier {c : Dev nD} {l : List Ob} (ha : above 1 l) {k : Pg F} {Q : PUnit → sProp (MM F)} :
    iprop(Ctx X κ ιs ∗ Owe c ((dn true c, .bar, 0) :: (dn false c, .bar, 0) :: l) ∗ two (BarTok F c) ∗ two (fun ℓ => Give c ℓ)
        ∗ atPos ER (cell c .bar) 0 ∅ 0 ∗ cred (tallyAt (cell c .bar) 0 2))
      ⊢ iprop(((Owe c l ∗ atPos ER (cell c .bar) 1 ∅ 0 ∗ two (fun ℓ => Take c ℓ)) -∗ Run F c k Q)
        -∗ Run F c (barrier (dn true c) (dn false c) k) Q) := by
  unfold two barrier
  iintro ⟨#HC, HO, ⟨Tt, Tf⟩, ⟨Gt, Gf⟩, Hat, Hc⟩ Hk
  iapply (wp_sigBar (X := X) (κ := κ) (ιs := ιs) true) $$ [HO Tt Gf]
  · isplitr; · iexact HC
    isplitl [HO]; · iexact HO
    isplitl [Tt]; · iexact Tt
    iexact Gf
  iintro HO
  iapply (wp_sigBar (X := X) (κ := κ) (ιs := ιs) false) $$ [HO Tf Gt]
  · isplitr; · iexact HC
    isplitl [HO]; · iexact HO
    isplitl [Tf]; · iexact Tf
    iexact Gt
  iintro HO
  unfold Owe await
  icases HO with ⟨%W, HO⟩
  have he : (Rd X).expect (cell c .bar) 0 = 2 := by rw [expect_cell]; rfl
  iapply (Rounds.wp_wait_rest_token 𝒱₀ ER (Rd X) (c : Thread nD τ) none (κ := κ (cell c .bar))
      (sm := semOf .bar) (k' := 2) (wpE_semWait_eq 𝒱₀ (c : Thread nD τ) none Set.univ) (Set.mem_univ _)
      (ι := 0) (O := tally l) (W := W) (R := 0) (m := 0) (T := ∅)
      (by rw [he])) $$ [Hc HO Hat]
  · isplitr; · iapply (Ctx_cell X κ ιs c); iexact HC
    isplitl [Hc]; · iexact Hc
    isplitl [HO]; · iexact HO
    isplitr
    · iapply (Ctx_may X κ ιs c .bar (h := 0) (by omega) ha); iexact HC
    iexact Hat
  rw [rest_bar, barPay_take, barPay_take]
  iintro ⟨HO, Hat, _, ⟨Hf, Ht⟩⟩
  iapply Hk
  isplitl [HO]; · iexists _; iexact HO
  isplitl [Hat]; · iexact Hat
  isplitl [Ht]; · iexact Ht
  iexact Hf

end Cert.KernelIdeal.Ring

end
-- ==== Proof.Ideal.Finish.lean ====
/- How each piece's cells and buffers stand at the end. -/
module

public import proofs.«01_k».proof.Proof.Ideal.Barrier

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable {X : Dev nD → XBuf F} {κ : GSem nD τ sig → ℕ} {ιs : Key → ℕ}

/-- No landing comes to a slot from hop `h` on. -/
theorem done_rcv (c : Dev nD) (ℓ : Bool) (h : ℕ) (j : Fin 4) (hn : ∀ g, h ≤ g → snds ℓ g j = false) :
    (Rv c ℓ h j : sProp (MM F)) ⊢ Done X c (.rcv ℓ (slotOf (h + 1)) j) := by
  unfold Rv Done
  iintro H
  iexists (h / 2)
  isplitl [H]; · iexact H
  ipureintro
  intro r hr
  rw [duties_cell]
  show (if snds ℓ (rHop (slotOf (h + 1)) r) j then ({0} : Finset ℕ) else ∅) = ∅
  rw [hn _ (by unfold rHop slotOf; show h ≤ 2 * r + 1 - (h + 1) % 2; omega)]
  rfl

/-- No send leaves a slot from hop `h` on. -/
theorem done_snd (c : Dev nD) (ℓ : Bool) (h : ℕ) (j : Fin 4) (hn : ∀ g, h ≤ g → snds ℓ g j = false) :
    (Sv c ℓ h j : sProp (MM F)) ⊢ Done X c (.snd ℓ (slotOf h) j) := by
  unfold Sv Done
  iintro ⟨H, -⟩
  iexists (h / 2)
  isplitl [H]; · iexact H
  ipureintro
  intro r hr
  rw [duties_cell]
  show (if snds ℓ (sHop (slotOf h) r) j then ({0} : Finset ℕ) else ∅) = ∅
  rw [hn _ (by unfold sHop slotOf; show h ≤ 2 * r + h % 2; omega)]
  rfl

/-- Nothing more comes to a credit after its only round. -/
theorem done_crd (c : Dev nD) (ℓ : Bool) : (atPos ER (cell c (.crd ℓ)) 1 ∅ 0 : sProp (MM F)) ⊢ Done X c (.crd ℓ) := by
  unfold Done
  iintro H
  iexists 1
  isplitl [H]; · iexact H
  ipureintro
  intro r hr
  rw [duties_cell]
  exact if_neg (by omega)

/-- Nothing more comes to the barrier after its only round. -/
theorem done_bar (c : Dev nD) : (atPos ER (cell c .bar) 1 ∅ 0 : sProp (MM F)) ⊢ Done X c .bar := by
  unfold Done
  iintro H
  iexists 1
  isplitl [H]; · iexact H
  ipureintro
  intro r hr
  rw [duties_cell]
  exact if_neg (by omega)

theorem snds_16 (ℓ : Bool) (j : Fin 4) {g : ℕ} (h : 16 ≤ g) : snds ℓ g j = false := by
  unfold snds
  rw [decide_eq_false (by omega : ¬ g < 15), show (g == 15) = false from beq_false_of_ne (by omega)]
  rfl

theorem snds_15 {ℓ : Bool} {j : Fin 4} (hs : snds ℓ 15 j = false) {g : ℕ} (h : 15 ≤ g) : snds ℓ g j = false := by
  rcases Nat.lt_or_eq_of_le h with h | rfl
  · exact snds_16 ℓ j h
  · exact hs

/-- A piece at the end: its cells done, both its places there. -/
def EndPc (X : Dev nD → XBuf F) (c : Dev nD) (ℓ : Bool) (j : Fin 4) : sProp (MM F) :=
  iprop(cells4 (Done X c) ℓ j ∗ (pcAny c ℓ 0 j ∗ pcAny c ℓ 1 j))

theorem rem_false {c : Dev nD} {ℓ : Bool} {h : ℕ} {j : Fin 4} (hs : snds ℓ h j = false) : (rem c ℓ h j : sProp (MM F)) = pcAny c ℓ (slotOf (h + 1)) j := by
  unfold rem
  rw [hs]
  exact if_neg (by decide)

/-- A piece whose last send is of hop 15. -/
theorem end_sent (c : Dev nD) (ℓ : Bool) (j : Fin 4) :
    iprop(Fin' c ℓ 14 j ∗ Sv c ℓ 16 j ∗ Got X c ℓ j) ⊢ EndPc X c ℓ j := by
  have r1 := done_rcv (X := X) c ℓ 16 j fun g hg => snds_16 ℓ j hg
  have r0 := done_rcv (X := X) c ℓ 17 j fun g hg => snds_16 ℓ j (by omega)
  have s0 := done_snd (X := X) c ℓ 16 j fun g hg => snds_16 ℓ j hg
  have s1 := done_snd (X := X) c ℓ 17 j fun g hg => snds_16 ℓ j (by omega)
  have m : (rem c ℓ (14 + 2) j : sProp (MM F)) = pcAny c ℓ 1 j := rem_false (snds_16 ℓ j (by omega))
  unfold Fin' Got EndPc cells4
  rw [m]
  iintro ⟨⟨R1, S1, -, P1⟩, S0, R0, P0⟩
  isplitr [P1 P0]
  · isplitl [R0 R1]
    · isplitl [R0]; · iapply r0; iexact R0
      iapply r1; iexact R1
    isplitl [S0]; · iapply s0; iexact S0
    iapply s1; iexact S1
  isplitl [P0]; · iapply (pc_any c ℓ 0 j _); iexact P0
  iexact P1

/-- A piece whose last send is of hop 14. -/
theorem end_unsent (c : Dev nD) (ℓ : Bool) (j : Fin 4) (hs : snds ℓ 15 j = false) :
    iprop(MidR X c ℓ 14 j ∗ Rv c ℓ 15 j ∗ Sv c ℓ 15 j ∗ Sv c ℓ 16 j ∗ rem c ℓ 15 j) ⊢ EndPc X c ℓ j := by
  have r1 := done_rcv (X := X) c ℓ 16 j fun g hg => snds_16 ℓ j hg
  have r0 := done_rcv (X := X) c ℓ 15 j fun g hg => snds_15 hs hg
  have s0 := done_snd (X := X) c ℓ 16 j fun g hg => snds_16 ℓ j hg
  have s1 := done_snd (X := X) c ℓ 15 j fun g hg => snds_15 hs hg
  have m : (rem c ℓ 15 j : sProp (MM F)) = pcAny c ℓ 0 j := rem_false hs
  unfold MidR EndPc cells4
  rw [m]
  iintro ⟨⟨⟨R1, Pl⟩, Pr⟩, R0, S1, S0, P0⟩
  isplitr [Pl Pr P0]
  · isplitl [R0 R1]
    · isplitl [R0]; · iapply r0; iexact R0
      iapply r1; iexact R1
    isplitl [S0]; · iapply s0; iexact S0
    iapply s1; iexact S1
  isplitl [P0]; · iexact P0
  iapply (pc_any c ℓ 1 j (X (org ℓ 15 c)))
  iapply (pc_halves c ℓ 1 j (X (org ℓ 15 c))).2
  isplitl [Pl]; · iexact Pl
  iexact Pr

end Cert.KernelIdeal.Ring

end
-- ==== Proof.Ideal.Start.lean ====
/- What the body starts from, lane by lane. -/
module

public import proofs.«01_k».proof.Proof.Ideal.Finish

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable {X : Dev nD → XBuf F} {κ : GSem nD τ sig → ℕ} {ιs : Key → ℕ}

theorem four_sep (A B : Fin 4 → sProp (MM F)) : four (fun j => iprop(A j ∗ B j)) = iprop(four A ∗ four B) := by
  rw [← bigSep_four, ← bigSep_four, ← bigSep_four]
  exact BI.bigSep_sep Finset.univ A B

theorem four_mono {A B : Fin 4 → sProp (MM F)} (h : ∀ j, A j ⊢ B j) : four A ⊢ four B := by
  rw [← bigSep_four, ← bigSep_four]
  exact BI.bigSep_mono fun j _ => h j

/-- A cell at its start. -/
def CellIn (F : FTy → Type) [FloatOps F] (c : Dev nD) (k : Kd) : sProp (MM F) := iprop(atPos ER (cell c k) 0 ∅ 0 ∗ reached ER (cell c k) 0)

/-- A piece at the start. -/
def InPc (F : FTy → Type) [FloatOps F] (c : Dev nD) (ℓ : Bool) (j : Fin 4) : sProp (MM F) :=
  iprop(cells4 (CellIn F c) ℓ j ∗ (pcAny c ℓ 0 j ∗ pcAny c ℓ 1 j))

theorem freePc_mk (c : Dev nD) (ℓ : Bool) {h : ℕ} (h1 : h < 15) (j : Fin 4) :
    iprop(pcAny c ℓ (slotOf (h + 1)) j ∗ reached ER (cell c (.rcv ℓ (slotOf (h + 1)) j)) (h / 2)) ⊢ (freePc c ℓ h j : sProp (MM F)) := by
  unfold freePc
  rw [if_pos (by unfold snds; simp [h1])]

/-- What a piece's start is for. -/
theorem start_pc (c : Dev nD) (ℓ : Bool) (j : Fin 4) :
    InPc F c ℓ j ⊢ iprop((Rv c ℓ 0 j ∗ Rv c ℓ 1 j) ∗ (Sv c ℓ 0 j ∗ Sv c ℓ 1 j) ∗ (freePc c ℓ 0 j ∗ freePc c ℓ 1 j)) := by
  have f0 := freePc_mk (F := F) c ℓ (h := 0) (by decide) j
  have f1 := freePc_mk (F := F) c ℓ (h := 1) (by decide) j
  have r0 : (Rv c ℓ 0 j : sProp (MM F)) = atPos ER (cell c (.rcv ℓ 1 j)) 0 ∅ 0 := rfl
  have r1 : (Rv c ℓ 1 j : sProp (MM F)) = atPos ER (cell c (.rcv ℓ 0 j)) 0 ∅ 0 := rfl
  have s0 : (Sv c ℓ 0 j : sProp (MM F)) = iprop(atPos ER (cell c (.snd ℓ 0 j)) 0 ∅ 0 ∗ reached ER (cell c (.snd ℓ 0 j)) 0) := rfl
  have s1 : (Sv c ℓ 1 j : sProp (MM F)) = iprop(atPos ER (cell c (.snd ℓ 1 j)) 0 ∅ 0 ∗ reached ER (cell c (.snd ℓ 1 j)) 0) := rfl
  unfold InPc cells4 CellIn
  rw [r0, r1, s0, s1]
  iintro ⟨⟨⟨⟨R0, Q0⟩, ⟨R1, Q1⟩⟩, ⟨S0, S1⟩⟩, ⟨P0, P1⟩⟩
  isplitl [R0 R1]
  · isplitl [R1]; · iexact R1
    iexact R0
  isplitl [S0 S1]
  · isplitl [S0]; · iexact S0
    iexact S1
  isplitl [P1 Q1]
  · iapply f0
    isplitl [P1]; · iexact P1
    iexact Q1
  iapply f1
  isplitl [P0]; · iexact P0
  iexact Q0

/-- A lane at the start. -/
def InL (F : FTy → Type) [FloatOps F] (c : Dev nD) (ℓ : Bool) : sProp (MM F) := iprop(CellIn F c (.crd ℓ) ∗ four (InPc F c ℓ))

theorem start_lane (c : Dev nD) (ℓ : Bool) :
    InL F c ℓ ⊢ iprop(CrdSt c ℓ 1 ∗ reached ER (cell c (.crd ℓ)) 0 ∗ (four (Rv c ℓ 0) ∗ four (Rv c ℓ 1)) ∗ (four (Sv c ℓ 0) ∗ four (Sv c ℓ 1))
      ∗ (free c ℓ 0 ∗ free c ℓ 1)) := by
  have e := four_mono (F := F) (start_pc c ℓ)
  rw [four_sep, four_sep, four_sep, four_sep, four_sep] at e
  unfold InL CellIn CrdSt told
  iintro ⟨⟨Ha, Hr⟩, H⟩
  isplitl [Ha]
  · iexists (∅ : Finset ℕ)
    rw [bigSep_empty]
    isplitl [Ha]; · iexact Ha
    iempintro
  isplitl [Hr]; · iexact Hr
  iapply e
  iexact H

/-- What hop 0 starts from on a lane. -/
theorem hin0_mk (c : Dev nD) (ℓ : Bool) :
    iprop(four (Sv c ℓ 0) ∗ four (Tk c ℓ 0) ∗ free (dn ℓ c) ℓ 0 ∗ four (fun j => xpAt c j (xq ℓ) (X c))) ⊢ four (Hin0 X c ℓ) := by
  unfold Hin0 free
  rw [four_sep, four_sep, four_sep]

theorem out0_elim (c : Dev nD) (ℓ : Bool) :
    four (Out0 X c ℓ) ⊢ iprop(four (Sv c ℓ 2) ∗ four (fun j => xpAt c j (xq ℓ) (X c))) := by
  unfold Out0
  rw [four_sep]

/-- A lane's state before hop 1. -/
theorem stL_mk (c : Dev nD) (ℓ : Bool) :
    iprop(four (Rv c ℓ 0) ∗ four (Rv c ℓ 1) ∗ four (Sv c ℓ 1) ∗ four (Sv c ℓ 2) ∗ reached ER (cell (up ℓ c) (.crd ℓ)) 0) ⊢ (StL c ℓ 0 : sProp (MM F)) := by
  unfold StL
  rw [show (heardTo c ℓ (0 + 1) : sProp (MM F)) = BI.emp from heardTo_one c ℓ]
  have hr (j : Fin 4) : (rem c ℓ (0 + 1) j : sProp (MM F)) = iprop(emp) := if_pos rfl
  unfold four
  rw [hr, hr, hr, hr]
  iintro ⟨R0, R1, S1, S2, K⟩
  isplitl [R0]; · iexact R0
  isplitl [R1]; · iexact R1
  isplitl [S1]; · iexact S1
  isplitl [S2]; · iexact S2
  isplitr
  · isplitr; · iempintro
    isplitr; · iempintro
    isplitr; · iempintro
    iempintro
  isplitr; · iempintro
  iexact K

end Cert.KernelIdeal.Ring

end
-- ==== Proof.Ideal.Rest.lean ====
/- The whole of the body once the neighbours are known. -/
module

public import proofs.«01_k».proof.Proof.Ideal.Start

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable {X : Dev nD → XBuf F} {κ : GSem nD τ sig → ℕ} {ιs : Key → ℕ}

/-- What the last hop's sends take from the launch, and what is owed of its landings. -/
def Tk15 (F : FTy → Type) [FloatOps F] (c : Dev nD) : sProp (MM F) :=
  iprop((Tk c true 15 0 ∗ Tk c true 15 1) ∗ (Tk c false 15 2 ∗ Tk c false 15 3))

/-- What is owed of the last hop's landings. -/
def Cr15 (F : FTy → Type) [FloatOps F] (c : Dev nD) : sProp (MM F) :=
  iprop((Cr c true 15 0 ∗ Cr c true 15 1) ∗ (Cr c false 15 2 ∗ Cr c false 15 3))

/-- A lane at the end. -/
def EndL (X : Dev nD → XBuf F) (c : Dev nD) (ℓ : Bool) : sProp (MM F) := iprop(Done X c (.crd ℓ) ∗ four (EndPc X c ℓ))

/-- The credits of the last hop. -/
theorem wp_credits15 {c : Dev nD} {l : List Ob} (ha : above 31 l) {k : Pg F} {Q : PUnit → sProp (MM F)} :
    iprop(Ctx X κ ιs ∗ Owe c l ∗ two (fun ℓ => CrdSt c ℓ 15) ∗ two (fun ℓ => PackC c ℓ 15))
      ⊢ iprop(((Owe c l ∗ two (fun ℓ => iprop(Done X c (.crd ℓ) ∗ free (dn ℓ c) ℓ 15))) -∗ Run F c k Q) -∗ Run F c (credits kA k) Q) := by
  unfold two PackC credits
  iintro ⟨#HC, HO, ⟨Ct, Cf⟩, ⟨⟨Wt', Dt⟩, ⟨Wf, Df⟩⟩⟩ Hk
  iapply (wp_awaitLast (X := X) (κ := κ) (ιs := ιs) (ℓ := true) ha) $$ [HO Ct Wt' Dt]
  · isplitr; · iexact HC
    isplitl [HO]; · iexact HO
    isplitl [Dt]; · iexact Dt
    isplitl [Ct]; · iexact Ct
    iexact Wt'
  iintro ⟨HO, At, Ft⟩
  iapply (wp_awaitLast (X := X) (κ := κ) (ιs := ιs) (ℓ := false) ha) $$ [HO Cf Wf Df]
  · isplitr; · iexact HC
    isplitl [HO]; · iexact HO
    isplitl [Df]; · iexact Df
    isplitl [Cf]; · iexact Cf
    iexact Wf
  iintro ⟨HO, Af, Ff⟩
  iapply Hk
  isplitl [HO]; · iexact HO
  isplitl [At Ft]
  · isplitl [At]; · iapply (done_crd (X := X) c true); iexact At
    iexact Ft
  isplitl [Af]; · iapply (done_crd (X := X) c false); iexact Af
  iexact Ff

theorem free15_t (e : Dev nD) : (free e true 15 : sProp (MM F)) ⊢ iprop(freePc e true 15 0 ∗ freePc e true 15 1) := by
  unfold free four
  iintro ⟨H0, H1, -⟩
  isplitl [H0]; · iexact H0
  iexact H1

theorem free15_f (e : Dev nD) : (free e false 15 : sProp (MM F)) ⊢ iprop(freePc e false 15 2 ∗ freePc e false 15 3) := by
  unfold free four
  iintro ⟨-, -, H2, H3⟩
  isplitl [H2]; · iexact H2
  iexact H3

/-- The last hop and what follows it. -/
theorem wp_last {c : Dev nD} {w : S4096x256.Idx → Elt F .f32} {k : Pg F} {Q : PUnit → sProp (MM F)} :
    iprop(Ctx X κ ιs ∗ Owe c (obsLast c) ∗ two (fun ℓ => StL c ℓ 14) ∗ two (fun ℓ => CrdSt c ℓ 15) ∗ two (fun ℓ => PackC c ℓ 15)
        ∗ two (fun ℓ => four (Cr c ℓ 14)) ∗ Tk15 F c ∗ Cr15 F c ∗ Wt c w ∗ Out c X w (doneTo c 15))
      ⊢ iprop(((Owe c [] ∗ two (EndL X c) ∗ Wt c w ∗ Out c X w (fun t => t < 64)) -∗ Run F c k Q)
        -∗ Run F c (hopLast kA (dn true c) (dn false c) <| epilogue kA k) Q) := by
  iintro ⟨#HC, HO, HS, Hc, HP, HC14, HT, HC15, Hw, Ho⟩ Hk
  unfold hopLast
  iapply (wp_credits15 (X := X) (κ := κ) (ιs := ιs) (above_obsLast c)) $$ [HO Hc HP]
  · isplitr; · iexact HC
    isplitl [HO]; · iexact HO
    isplitl [Hc]; · iexact Hc
    iexact HP
  unfold two StL Tk15 Cr15
  icases HC14 with ⟨Ct, Cf⟩
  icases HT with ⟨⟨T0, T1⟩, ⟨T2, T3⟩⟩
  icases HC15 with ⟨⟨C0, C1⟩, ⟨C2, C3⟩⟩
  icases HS with ⟨⟨Rt, Qt, St, Ut, Mt, -⟩, ⟨Rf, Qf, Sf, Uf, Mf, -⟩⟩
  iintro ⟨HO, ⟨Dt, Ft⟩, ⟨Df, Ff⟩⟩
  ihave Ft := (free15_t (F := F) (dn true c)) $$ Ft
  ihave Ff := (free15_f (F := F) (dn false c)) $$ Ff
  icases Ft with ⟨Ft0, Ft1⟩
  icases Ff with ⟨Ff2, Ff3⟩
  unfold four
  icases Ct with ⟨Ct0, Ct1, Ct2, Ct3⟩
  icases Cf with ⟨Cf0, Cf1, Cf2, Cf3⟩
  icases Rt with ⟨Rt0, Rt1, Rt2, Rt3⟩
  icases Rf with ⟨Rf0, Rf1, Rf2, Rf3⟩
  icases Qt with ⟨Qt0, Qt1, Qt2, Qt3⟩
  icases Qf with ⟨Qf0, Qf1, Qf2, Qf3⟩
  icases St with ⟨St0, St1, St2, St3⟩
  icases Sf with ⟨Sf0, Sf1, Sf2, Sf3⟩
  icases Ut with ⟨Ut0, Ut1, Ut2, Ut3⟩
  icases Uf with ⟨Uf0, Uf1, Uf2, Uf3⟩
  icases Mt with ⟨-, -, Mt2, Mt3⟩
  icases Mf with ⟨Mf0, Mf1, -, -⟩
  iapply (wp_hop15 (X := X) (κ := κ) (ιs := ιs) (c := c) (w := w)) $$ [HO Ct0 Ct1 Ct2 Ct3 Cf0 Cf1 Cf2 Cf3 Rt0 Rt1 Rt2 Rt3 Rf0 Rf1 Rf2 Rf3 St0 St1 Sf2 Sf3 T0 T1 T2 T3 Ft0 Ft1 Ff2 Ff3 Hw Ho]
  · unfold Hin HinR
    isplitr; · iexact HC
    isplitl [HO]; · iexact HO
    isplitl [Ct0 Ct1 Ct2 Ct3 Rt0 Rt1 Rt2 Rt3 St0 St1 T0 T1 Ft0 Ft1]
    · isplitl [Ct0 Rt0 St0 T0 Ft0]
      · isplitl [Ct0]; · iexact Ct0
        isplitl [Rt0]; · iexact Rt0
        isplitl [St0]; · iexact St0
        isplitl [T0]; · iexact T0
        iexact Ft0
      isplitl [Ct1 Rt1 St1 T1 Ft1]
      · isplitl [Ct1]; · iexact Ct1
        isplitl [Rt1]; · iexact Rt1
        isplitl [St1]; · iexact St1
        isplitl [T1]; · iexact T1
        iexact Ft1
      isplitl [Ct2 Rt2]
      · isplitl [Ct2]; · iexact Ct2
        iexact Rt2
      isplitl [Ct3]; · iexact Ct3
      iexact Rt3
    isplitl [Cf0 Cf1 Cf2 Cf3 Rf0 Rf1 Rf2 Rf3 Sf2 Sf3 T2 T3 Ff2 Ff3]
    · isplitl [Cf0 Rf0]
      · isplitl [Cf0]; · iexact Cf0
        iexact Rf0
      isplitl [Cf1 Rf1]
      · isplitl [Cf1]; · iexact Cf1
        iexact Rf1
      isplitl [Cf2 Rf2 Sf2 T2 Ff2]
      · isplitl [Cf2]; · iexact Cf2
        isplitl [Rf2]; · iexact Rf2
        isplitl [Sf2]; · iexact Sf2
        isplitl [T2]; · iexact T2
        iexact Ff2
      isplitl [Cf3]; · iexact Cf3
      isplitl [Rf3]; · iexact Rf3
      isplitl [Sf3]; · iexact Sf3
      isplitl [T3]; · iexact T3
      iexact Ff3
    isplitl [Hw]; · iexact Hw
    iexact Ho
  iintro ⟨HO, ⟨Et0, Et1, Et2, Et3⟩, ⟨Ef0, Ef1, Ef2, Ef3⟩, Hw, Ho⟩
  iapply (wp_epilogue (X := X) (κ := κ) (ιs := ιs) (c := c) (w := w)) $$ [HO C0 C1 C2 C3 Qt0 Qt1 Qf2 Qf3 Hw Ho]
  · isplitr; · iexact HC
    isplitl [HO]; · iexact HO
    isplitl [C0 C1 C2 C3 Qt0 Qt1 Qf2 Qf3]
    · isplitl [C0 Qt0]
      · isplitl [C0]; · iexact C0
        iexact Qt0
      isplitl [C1 Qt1]
      · isplitl [C1]; · iexact C1
        iexact Qt1
      isplitl [C2 Qf2]
      · isplitl [C2]; · iexact C2
        iexact Qf2
      isplitl [C3]; · iexact C3
      iexact Qf3
    isplitl [Hw]; · iexact Hw
    iexact Ho
  iintro ⟨HO, ⟨Gt0, Gt1, Gf2, Gf3⟩, Hw, Ho⟩
  iapply Hk
  isplitl [HO]; · iexact HO
  isplitr [Hw Ho]
  · unfold EndL four
    isplitl [Dt Et0 Et1 Et2 Et3 Ut0 Ut1 Ut2 Ut3 Gt0 Gt1 Qt2 Qt3 St2 St3 Mt2 Mt3]
    · isplitl [Dt]; · iexact Dt
      isplitl [Et0 Ut0 Gt0]
      · iapply (end_sent (X := X) c true 0)
        isplitl [Et0]; · iexact Et0
        isplitl [Ut0]; · iexact Ut0
        iexact Gt0
      isplitl [Et1 Ut1 Gt1]
      · iapply (end_sent (X := X) c true 1)
        isplitl [Et1]; · iexact Et1
        isplitl [Ut1]; · iexact Ut1
        iexact Gt1
      isplitl [Et2 Ut2 Qt2 St2 Mt2]
      · iapply (end_unsent (X := X) c true 2 (by decide))
        isplitl [Et2]; · iexact Et2
        isplitl [Qt2]; · iexact Qt2
        isplitl [St2]; · iexact St2
        isplitl [Ut2]; · iexact Ut2
        iexact Mt2
      iapply (end_unsent (X := X) c true 3 (by decide))
      isplitl [Et3]; · iexact Et3
      isplitl [Qt3]; · iexact Qt3
      isplitl [St3]; · iexact St3
      isplitl [Ut3]; · iexact Ut3
      iexact Mt3
    isplitl [Df]; · iexact Df
    isplitl [Ef0 Uf0 Qf0 Sf0 Mf0]
    · iapply (end_unsent (X := X) c false 0 (by decide))
      isplitl [Ef0]; · iexact Ef0
      isplitl [Qf0]; · iexact Qf0
      isplitl [Sf0]; · iexact Sf0
      isplitl [Uf0]; · iexact Uf0
      iexact Mf0
    isplitl [Ef1 Uf1 Qf1 Sf1 Mf1]
    · iapply (end_unsent (X := X) c false 1 (by decide))
      isplitl [Ef1]; · iexact Ef1
      isplitl [Qf1]; · iexact Qf1
      isplitl [Sf1]; · iexact Sf1
      isplitl [Uf1]; · iexact Uf1
      iexact Mf1
    isplitl [Ef2 Uf2 Gf2]
    · iapply (end_sent (X := X) c false 2)
      isplitl [Ef2]; · iexact Ef2
      isplitl [Uf2]; · iexact Uf2
      iexact Gf2
    iapply (end_sent (X := X) c false 3)
    isplitl [Ef3]; · iexact Ef3
    isplitl [Uf3]; · iexact Uf3
    iexact Gf3
  isplitl [Hw]; · iexact Hw
  iexact Ho

/-- What the launch gives a device of the ring's ghost state. -/
def Toks (F : FTy → Type) [FloatOps F] (c : Dev nD) : sProp (MM F) :=
  iprop(two (BarTok F c) ∗ cred (tallyAt (cell c .bar) 0 2) ∗ two (fun ℓ => four (Tk c ℓ 0)) ∗ two (fun ℓ => PackA c ℓ 0) ∗ packs c 13 1
    ∗ two (fun ℓ => PackC c ℓ 15) ∗ two (fun ℓ => four (Cr c ℓ 14)) ∗ Tk15 F c ∗ Cr15 F c)

/-- All a device owes. -/
def obsAll (c : Dev nD) : List Ob :=
  (dn true c, .bar, 0) :: (dn false c, .bar, 0) :: obsSend c 0 (obsMid c 1 (obsHops c 13 1 (obsLast c)))

/-- A device's share of the local block. -/
def Xs (X : Dev nD → XBuf F) (c : Dev nD) : sProp (MM F) := iprop(two (fun ℓ => four fun j => xpAt c j (xq ℓ) (X c)) ∗ xAll c (X c))

/-- The body once the neighbours are known. -/
theorem wp_rest {c : Dev nD} {w : S4096x256.Idx → Elt F .f32} {Q : PUnit → sProp (MM F)} :
    iprop(Ctx X κ ιs ∗ Owe c (obsAll c) ∗ atPos ER (cell c .bar) 0 ∅ 0 ∗ two (InL F c) ∗ Toks F c ∗ Xs X c ∗ Wt c w ∗ Out c X w (fun _ => False))
      ⊢ iprop(((Owe c [] ∗ Done X c .bar ∗ two (EndL X c) ∗ Xs X c ∗ Wt c w ∗ Out c X w (fun t => t < 64)) -∗ |={Set.univ}=> Q ⟨⟩)
        -∗ Run F c (rest kA (dn true c) (dn false c)) Q) := by
  have hL : above 30 (obsLast c) := (above_obsLast c).mono (by decide)
  have hH : above 4 (obsHops c 13 1 (obsLast c)) := above_obsHops 13 (by decide) (by decide) (hL.mono (by decide))
  have hM : above 2 (obsMid c 1 (obsHops c 13 1 (obsLast c))) := above_obsMid (by decide) (by decide) (hH.mono (by decide))
  have hS : above 1 (obsSend c 0 (obsMid c 1 (obsHops c 13 1 (obsLast c)))) := above_obsSend (by decide) (by decide) (hM.mono (by decide))
  have d0 (t : ℕ) : doneTo c 0 t → False := fun ⟨h', hh, _⟩ => absurd hh (Nat.not_lt_zero _)
  unfold obsAll Toks rest Xs
  rw [midHops_eq]
  iintro ⟨#HC, HO, Hb, HI, ⟨HB, Hcb, HT0, HA0, HP, HP15, HC14, HT15, HC15⟩, ⟨Hxs, Hx⟩, Hw, Ho⟩ Hk
  ihave Ho := (Out_mono (X := X) (w := w) (c := c) d0) $$ Ho
  have sl : two (InL F c) ⊢ iprop(two (fun ℓ => CrdSt c ℓ 1) ∗ two (fun ℓ => Give c ℓ) ∗ two (fun ℓ => iprop(four (Rv c ℓ 0) ∗ four (Rv c ℓ 1)))
      ∗ two (fun ℓ => iprop(four (Sv c ℓ 0) ∗ four (Sv c ℓ 1)))) := by
    unfold two Give
    iintro ⟨It, If⟩
    ihave It := (start_lane (F := F) c true) $$ It
    ihave If := (start_lane (F := F) c false) $$ If
    icases It with ⟨Ct, Kt, Rt, St, ⟨E0, E1⟩⟩
    icases If with ⟨Cf, Kf, Rf, Sf, ⟨G0, G1⟩⟩
    isplitl [Ct Cf]
    · isplitl [Ct]; · iexact Ct
      iexact Cf
    isplitl [Kt Kf E0 E1 G0 G1]
    · isplitl [E0 E1 Kf]
      · isplitl [E0]; · iexact E0
        isplitl [E1]; · iexact E1
        iexact Kf
      isplitl [G0]; · iexact G0
      isplitl [G1]; · iexact G1
      iexact Kt
    isplitl [Rt Rf]
    · isplitl [Rt]; · iexact Rt
      iexact Rf
    isplitl [St]; · iexact St
    iexact Sf
  ihave HI := sl $$ HI
  icases HI with ⟨Hcr, HG, HR, HS⟩
  iapply (wp_barrier (X := X) (κ := κ) (ιs := ιs) hS) $$ [HO HB HG Hb Hcb]
  · isplitr; · iexact HC
    isplitl [HO]; · iexact HO
    isplitl [HB]; · iexact HB
    isplitl [HG]; · iexact HG
    isplitl [Hb]; · iexact Hb
    iexact Hcb
  iintro ⟨HO, Hb, HK⟩
  unfold two Take
  icases HK with ⟨⟨Et0, Et1, Kf⟩, ⟨Ef0, Ef1, Kt⟩⟩
  icases HS with ⟨⟨St0, St1⟩, ⟨Sf0, Sf1⟩⟩
  icases HR with ⟨⟨Rt0, Rt1⟩, ⟨Rf0, Rf1⟩⟩
  icases HT0 with ⟨Tt, Tf⟩
  icases Hxs with ⟨Xt, Xf⟩
  iapply (wp_hop0 (X := X) (κ := κ) (ιs := ιs) (hM.mono (by decide)) (w := w)) $$ [HO St0 Sf0 Tt Tf Et0 Ef0 Xt Xf Hx Hw Ho]
  · isplitr; · iexact HC
    isplitl [HO]; · iexact HO
    isplitl [St0 Sf0 Tt Tf Et0 Ef0 Xt Xf]
    · unfold two
      isplitl [St0 Tt Et0 Xt]
      · iapply (hin0_mk (X := X) c true)
        isplitl [St0]; · iexact St0
        isplitl [Tt]; · iexact Tt
        isplitl [Et0]; · iexact Et0
        iexact Xt
      iapply (hin0_mk (X := X) c false)
      isplitl [Sf0]; · iexact Sf0
      isplitl [Tf]; · iexact Tf
      isplitl [Ef0]; · iexact Ef0
      iexact Xf
    isplitl [Hx]; · iexact Hx
    isplitl [Hw]; · iexact Hw
    iexact Ho
  unfold two
  iintro ⟨HO, ⟨Ot, Of⟩, Hx, Hw, Ho⟩
  ihave Ot := (out0_elim (X := X) c true) $$ Ot
  ihave Of := (out0_elim (X := X) c false) $$ Of
  icases Ot with ⟨St2, Xt⟩
  icases Of with ⟨Sf2, Xf⟩
  iapply (wp_hopSt (X := X) (κ := κ) (ιs := ιs) (c := c) (g := 0) (by decide) (by decide) hH (w := w)) $$ [HO Rt0 Rt1 Rf0 Rf1 St1 St2 Sf1 Sf2 Kt Kf HA0 Et1 Ef1 Hw Ho]
  · isplitr; · iexact HC
    isplitl [HO]; · iexact HO
    isplitl [Rt0 Rt1 Rf0 Rf1 St1 St2 Sf1 Sf2 Kt Kf]
    · unfold two
      isplitl [Rt0 Rt1 St1 St2 Kt]
      · iapply (stL_mk (F := F) c true)
        isplitl [Rt0]; · iexact Rt0
        isplitl [Rt1]; · iexact Rt1
        isplitl [St1]; · iexact St1
        isplitl [St2]; · iexact St2
        iexact Kt
      iapply (stL_mk (F := F) c false)
      isplitl [Rf0]; · iexact Rf0
      isplitl [Rf1]; · iexact Rf1
      isplitl [Sf1]; · iexact Sf1
      isplitl [Sf2]; · iexact Sf2
      iexact Kf
    isplitl [HA0]; · unfold two; iexact HA0
    isplitl [Et1 Ef1]
    · unfold two
      isplitl [Et1]; · iexact Et1
      iexact Ef1
    isplitl [Hw]; · iexact Hw
    iexact Ho
  iintro ⟨HO, HS, Hw, Ho⟩
  iapply (wp_hops (X := X) (κ := κ) (ιs := ιs) (c := c) (w := w) (l := obsLast c) 13 (g := 1) (by decide) (by decide) _ hL) $$ [HO HS Hcr HP Hw Ho]
  · isplitr; · iexact HC
    isplitl [HO]; · iexact HO
    isplitl [HS]; · iexact HS
    isplitl [Hcr]; · unfold two; iexact Hcr
    isplitl [HP]; · iexact HP
    isplitl [Hw]; · iexact Hw
    iexact Ho
  iintro ⟨HO, HS, Hcr, Hw, Ho⟩
  iapply (wp_last (X := X) (κ := κ) (ιs := ιs) (c := c) (w := w)) $$ [HO HS Hcr HP15 HC14 HT15 HC15 Hw Ho]
  · isplitr; · iexact HC
    isplitl [HO]; · iexact HO
    isplitl [HS]; · iexact HS
    isplitl [Hcr]; · iexact Hcr
    isplitl [HP15]; · unfold two; iexact HP15
    isplitl [HC14]; · unfold two; iexact HC14
    isplitl [HT15]; · iexact HT15
    isplitl [HC15]; · iexact HC15
    isplitl [Hw]; · iexact Hw
    iexact Ho
  iintro ⟨HO, HE, Hw, Ho⟩
  have t : iprop(|={Set.univ}=> Q ⟨⟩) ⊢ Run F c (.ret ⟨⟩) Q := Entails.of_eq rfl
  iapply t
  iapply Hk
  isplitl [HO]; · iexact HO
  isplitl [Hb]; · iapply (done_bar (X := X) c); iexact Hb
  isplitl [HE]; · unfold two; iexact HE
  isplitl [Xt Xf Hx]
  · isplitl [Xt Xf]
    · isplitl [Xt]; · iexact Xt
      iexact Xf
    iexact Hx
  isplitl [Hw]; · iexact Hw
  iexact Ho

end Cert.KernelIdeal.Ring

end
-- ==== Proof.Ideal.Body.lean ====
/- The body from the reading of the neighbours to the closing of the semaphores. -/
module

public import proofs.«01_k».proof.Proof.Ideal.Rest

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable {X : Dev nD → XBuf F} {κ : GSem nD τ sig → ℕ} {ιs : Key → ℕ}

/-- The table of neighbours on device `c`. -/
def tabN (c : Dev nD) : S2.Idx → BitVec 32 := fun i => if (i 0).val = 0 then wordOf (dn true c) else wordOf (dn false c)

/-- The neighbours' table, staged. -/
def Nt (F : FTy → Type) [FloatOps F] (c : Dev nD) : sProp (MM F) := kA.nbr.view.loc (c : Thread nD τ) ↦[Finset.univ]{fullShare} tabN c

/-- The device a word addresses. -/
theorem dev_word (d : Dev nD) : k0_dev1 (wordOf d) = d.val := by
  revert d
  decide

/-- A device's word passes the successor's check. -/
theorem chk1_word (d : Dev nD) : k0_chk1 (wordOf d) := by
  have h : k0_dev1 (wordOf d) < nD := by
    rw [dev_word]
    exact d.isLt
  unfold k0_chk1 k0_chk1_0 k0_chk1_1 k0_chk1_2
  refine ⟨?_, ?_, ?_⟩ <;> repeat' apply And.intro
  all_goals exact h

/-- A device's word passes the predecessor's check. -/
theorem chk2_word (d : Dev nD) : k0_chk2 (wordOf d) := by
  have h : k0_dev1 (wordOf d) < nD := by
    rw [dev_word]
    exact d.isLt
  unfold k0_chk2 k0_chk2_0 k0_chk2_1 k0_chk2_2
  refine ⟨?_, ?_, ?_⟩ <;> repeat' apply And.intro
  all_goals exact h

/-- Reading the successor. -/
theorem wp_succ {c : Dev nD} {k : BitVec 32 → Pg F} {Q : PUnit → sProp (MM F)} :
    Nt F c ⊢ iprop((Nt F c -∗ Run F c (k (wordOf (dn true c))) Q)
        -∗ Run F c (word kA.nbr (Rect.unit (s := S2) ![0] S1.size inb_S2_S1_0) numel1_S1 k) Q) := by
  unfold word Nt
  have e : (kA.nbr.access (Rect.unit (s := S2) ![0] S1.size inb_S2_S1_0)).read (Elt F) (tabN c)
      (Shape.Idx.first (numel1_S1.symm ▸ Nat.one_pos)) = wordOf (dn true c) := rfl
  have t : Run F c (k (wordOf (dn true c))) Q ⊢ Run F c (k ((kA.nbr.access (Rect.unit (s := S2) ![0] S1.size inb_S2_S1_0)).read (Elt F) (tabN c)
      (Shape.Idx.first (numel1_S1.symm ▸ Nat.one_pos)))) Q := by rw [e]
  iintro Hw Hk
  iapply (wp_load_rect (m := kA.nbr) (r := Rect.unit (s := S2) ![0] S1.size inb_S2_S1_0) (f := tabN c) (q := fullShare) 𝒱₀ (c : Thread nD τ) none
    Set.univ (Finset.subset_univ _)) $$ [Hw]
  · iexact Hw
  iintro Hw
  iapply t
  iapply Hk
  iexact Hw

/-- Reading the predecessor. -/
theorem wp_pred {c : Dev nD} {k : BitVec 32 → Pg F} {Q : PUnit → sProp (MM F)} :
    Nt F c ⊢ iprop((Nt F c -∗ Run F c (k (wordOf (dn false c))) Q)
        -∗ Run F c (word kA.nbr (Rect.unit (s := S2) ![1] S1.size inb_S2_S1_1) numel1_S1 k) Q) := by
  unfold word Nt
  have e : (kA.nbr.access (Rect.unit (s := S2) ![1] S1.size inb_S2_S1_1)).read (Elt F) (tabN c)
      (Shape.Idx.first (numel1_S1.symm ▸ Nat.one_pos)) = wordOf (dn false c) := rfl
  have t : Run F c (k (wordOf (dn false c))) Q ⊢ Run F c (k ((kA.nbr.access (Rect.unit (s := S2) ![1] S1.size inb_S2_S1_1)).read (Elt F) (tabN c)
      (Shape.Idx.first (numel1_S1.symm ▸ Nat.one_pos)))) Q := by rw [e]
  iintro Hw Hk
  iapply (wp_load_rect (m := kA.nbr) (r := Rect.unit (s := S2) ![1] S1.size inb_S2_S1_1) (f := tabN c) (q := fullShare) 𝒱₀ (c : Thread nD τ) none
    Set.univ (Finset.subset_univ _)) $$ [Hw]
  · iexact Hw
  iintro Hw
  iapply t
  iapply Hk
  iexact Hw

/-- The body runs what follows once both neighbours are read. -/
theorem wp_neighbours {c : Dev nD} {Q : PUnit → sProp (MM F)} :
    Nt F c ⊢ iprop((Nt F c -∗ Run F c (rest kA (dn true c) (dn false c)) Q) -∗ Run F c (body kA) Q) := by
  have e1 : (⟨k0_dev1 (wordOf (dn true c)), k0_dev1_lt _ (chk1_word _)⟩ : Dev nD) = dn true c := Fin.ext (dev_word _)
  have e2 : (⟨k0_dev2 (wordOf (dn false c)), k0_dev2_lt _ (chk2_word _)⟩ : Dev nD) = dn false c := Fin.ext (dev_word _)
  have t : Run F c (rest kA (dn true c) (dn false c)) Q
      ⊢ Run F c (rest kA (⟨k0_dev1 (wordOf (dn true c)), k0_dev1_lt _ (chk1_word _)⟩ : Dev nD)
        (⟨k0_dev2 (wordOf (dn false c)), k0_dev2_lt _ (chk2_word _)⟩ : Dev nD)) Q := by rw [e1, e2]
  unfold body
  iintro Hn Hk
  iapply (wp_succ (F := F) (c := c)) $$ [Hn]; · iexact Hn
  iintro Hn
  unfold bodyAt
  iapply (wp_assume 𝒱₀ (c : Thread nD τ) none Set.univ (chk1_word (dn true c)))
  iapply (wp_pred (F := F) (c := c)) $$ [Hn]; · iexact Hn
  iintro Hn
  iapply (wp_assume 𝒱₀ (c : Thread nD τ) none Set.univ (chk2_word (dn false c)))
  iapply t
  iapply Hk
  iexact Hn

/-- A lane's pieces at any contents. -/
def pcs (F : FTy → Type) [FloatOps F] (c : Dev nD) (ℓ : Bool) : sProp (MM F) := four fun j => iprop(pcAny c ℓ 0 j ∗ pcAny c ℓ 1 j)

/-- All cells and pieces at the end. -/
theorem ends_elim (c : Dev nD) :
    iprop(Done X c .bar ∗ two (EndL X c)) ⊢ iprop(allK (Done X c) ∗ two (pcs F c)) := by
  have e (ℓ : Bool) : (four (EndPc X c ℓ) : sProp (MM F)) = iprop(four (cells4 (Done X c) ℓ) ∗ pcs F c ℓ) := by
    unfold EndPc pcs
    rw [four_sep (cells4 (Done X c) ℓ)]
  unfold allK two EndL
  rw [e, e]
  iintro ⟨Hb, ⟨Ht, ⟨Ct, Pt⟩⟩, ⟨Hf, ⟨Cf, Pf⟩⟩⟩
  isplitl [Hb Ht Ct Hf Cf]
  · isplitl [Hb]; · iexact Hb
    isplitl [Ht Ct]
    · isplitl [Ht]; · iexact Ht
      iexact Ct
    isplitl [Hf]; · iexact Hf
    iexact Cf
  isplitl [Pt]; · iexact Pt
  iexact Pf

/-- The right result is the whole output. -/
theorem Out_all (c : Dev nD) (w : S4096x256.Idx → Elt F .f32) :
    Out c X w (fun t => t < 64) ⊢ (kA.o.view.loc (c : Thread nD τ) ↦[Finset.univ]{fullShare} result X w : sProp (MM F)) := by
  unfold Out
  iintro ⟨%f, Ho, %hf⟩
  rw [hf.all fun t ht => ht]
  iexact Ho

/-- The body: from the launch's state to closed semaphores and the result. -/
theorem wp_body {c : Dev nD} {w : S4096x256.Idx → Elt F .f32} {Q : PUnit → sProp (MM F)} :
    iprop(Nt F c ∗ Ctx X κ ιs ∗ Owe c (obsAll c) ∗ atPos ER (cell c .bar) 0 ∅ 0 ∗ two (InL F c) ∗ Toks F c ∗ Xs X c ∗ Wt c w
        ∗ Out c X w (fun _ => False))
      ⊢ iprop(((Nt F c ∗ Owe c [] ∗ (bigSep Finset.univ fun k => semVal (cell c k) 0) ∗ two (pcs F c) ∗ Xs X c ∗ Wt c w
          ∗ (kA.o.view.loc (c : Thread nD τ) ↦[Finset.univ]{fullShare} result X w)) -∗ Q ⟨⟩)
        -∗ Run F c (body kA) Q) := by
  iintro ⟨Hn, #HC, HO, Hb, HI, HT, Hx, Hw, Ho⟩ Hk
  iapply (wp_neighbours (F := F) (c := c)) $$ [Hn]; · iexact Hn
  iintro Hn
  iapply (wp_rest (X := X) (κ := κ) (ιs := ιs) (c := c) (w := w)) $$ [HO Hb HI HT Hx Hw Ho]
  · isplitr; · iexact HC
    isplitl [HO]; · iexact HO
    isplitl [Hb]; · iexact Hb
    isplitl [HI]; · iexact HI
    isplitl [HT]; · iexact HT
    isplitl [Hx]; · iexact Hx
    isplitl [Hw]; · iexact Hw
    iexact Ho
  iintro ⟨HO, Hd, HE, Hx, Hw, Ho⟩
  ihave H := (ends_elim (X := X) c) $$ [Hd HE]
  · isplitl [Hd]; · iexact Hd
    iexact HE
  icases H with ⟨HK, HP⟩
  ihave Hs := (close_all (X := X) (κ := κ) (ιs := ιs) c) $$ [HK]
  · isplitr; · iexact HC
    iexact HK
  imod Hs with Hs
  ihave Ho := (Out_all (X := X) c w) $$ Ho
  imodintro
  iapply Hk
  isplitl [Hn]; · iexact Hn
  isplitl [HO]; · iexact HO
  isplitl [Hs]; · iexact Hs
  isplitl [HP]; · iexact HP
  isplitl [Hx]; · iexact Hx
  isplitl [Hw]; · iexact Hw
  iexact Ho

end Cert.KernelIdeal.Ring

end
-- ==== Proof.Ideal.Memory.lean ====
/- The kernel's buffers piece by piece. -/
module

public import proofs.«01_k».proof.Proof.Ideal.Body
public import Idealize.ShloMosaic.Lib.Ring

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable {X : Dev nD → XBuf F}

/-- The pieces of a lane, listed by their numbers. -/
theorem pcs_eq (c : Dev nD) (ℓ : Bool) :
    (bigSep (Finset.univ : Finset (Fin 4 × Fin 2)) fun p => (pcAny c ℓ p.2 p.1 : sProp (MM F))) = pcs F c ℓ := by
  rw [bigSep_univ_prod, bigSep_four]
  unfold pcs
  refine congrArg four (funext fun j => ?_)
  rw [bigSep_fin_two]
  rfl

theorem pset_swap (b b' : Fin 4 × Fin 2) (h : b ≠ b') : Disjoint (pset b.2 b.1) (pset b'.2 b'.1) :=
  pset_disjoint (p := (b.2, b.1)) (q := (b'.2, b'.1)) fun e => h (Prod.ext (congrArg Prod.snd e) (congrArg Prod.fst e))

theorem pset_all : (Finset.univ : Finset (Fin 4 × Fin 2)).biUnion (fun p => pset p.2 p.1) = Finset.univ := by
  refine Finset.eq_univ_of_forall fun i => ?_
  have h : i ∈ (Finset.univ : Finset (Fin 2 × Fin 4)).biUnion (fun p => pset p.1 p.2) := by rw [pset_cover]; exact Finset.mem_univ i
  obtain ⟨p, -, hp⟩ := Finset.mem_biUnion.mp h
  exact Finset.mem_biUnion.mpr ⟨(p.2, p.1), Finset.mem_univ _, hp⟩

/-- The elements of the pieces of a lane. -/
def lset : (ℓ : Bool) → Fin 4 × Fin 2 → Finset (Idx ((laneOf ℓ).comm.view.loc ((0 : Dev nD) : Thread nD τ)))
  | true, p => pset p.2 p.1
  | false, p => pset p.2 p.1

theorem lset_eq (ℓ : Bool) (p : Fin 4 × Fin 2) : (piece (laneOf ℓ).comm p.2 p.1).view.set = lset ℓ p := by
  cases ℓ
  · exact (piece_set p.2 p.1).2
  · exact (piece_set p.2 p.1).1

theorem lset_disj (ℓ : Bool) (b b' : Fin 4 × Fin 2) (h : b ≠ b') : Disjoint (lset ℓ b) (lset ℓ b') := by
  cases ℓ
  · exact pset_swap b b' h
  · exact pset_swap b b' h

theorem lset_all (ℓ : Bool) : (Finset.univ : Finset (Fin 4 × Fin 2)).biUnion (lset ℓ) = Finset.univ := by
  cases ℓ
  · exact pset_all
  · exact pset_all

/-- A lane's buffer whole, any contents. -/
def comm (F : FTy → Type) [FloatOps F] (c : Dev nD) (ℓ : Bool) : sProp (MM F) :=
  iprop(∃ f : Buf (Elt F) ((laneOf ℓ).comm.view.loc (c : Thread nD τ)), ((laneOf ℓ).comm.view.loc (c : Thread nD τ)) ↦{fullShare} f)

/-- A lane's buffer is its pieces. -/
theorem pcs_split (c : Dev nD) (ℓ : Bool) : comm F c ℓ ⊢ pcs F c ℓ := by
  rw [← pcs_eq]
  unfold comm
  iintro ⟨%f, H⟩
  have e := Ring.pointsTo_blocks (Ix := ℕ) (Name := ℕ) (U := UU) (Lvl := ℕ) (ℓ := (laneOf ℓ).comm.view.loc (c : Thread nD τ))
    (lset ℓ) (lset_disj ℓ) (lset_all ℓ) (q := fullShare) f
  ihave H := (Entails.of_eq e) $$ H
  have s (p : Fin 4 × Fin 2) : ((laneOf ℓ).comm.view.loc (c : Thread nD τ) ↦[lset ℓ p]{fullShare} f : sProp (MM F)) ⊢ pcAny c ℓ p.2 p.1 := by
    unfold pcAny slot
    rw [lset_eq ℓ p]
    iintro H
    iexists f
    iexact H
  have t : (bigSep Finset.univ fun p => ((laneOf ℓ).comm.view.loc (c : Thread nD τ) ↦[lset ℓ p]{fullShare} f : sProp (MM F)))
      ⊢ bigSep Finset.univ fun p : Fin 4 × Fin 2 => (pcAny c ℓ p.2 p.1 : sProp (MM F)) := BI.bigSep_mono fun p _ => s p
  iapply t
  iexact H

/-- The pieces are the lane's buffer. -/
theorem pcs_join (c : Dev nD) (ℓ : Bool) : pcs F c ℓ ⊢ comm F c ℓ := by
  rw [← pcs_eq]
  unfold pcAny slot
  rw [show (fun p : Fin 4 × Fin 2 => (iprop(∃ f, ((piece (laneOf ℓ).comm p.2 p.1).view.loc (c : Thread nD τ)) ↦[(piece (laneOf ℓ).comm p.2 p.1).view.set]{fullShare} f) : sProp (MM F)))
      = fun p => iprop(∃ f : Buf (Elt F) ((laneOf ℓ).comm.view.loc (c : Thread nD τ)), ((laneOf ℓ).comm.view.loc (c : Thread nD τ)) ↦[lset ℓ p]{fullShare} f)
    from funext fun p => by rw [lset_eq ℓ p]; rfl]
  exact Ring.pointsTo_blocks_join_exists (Ix := ℕ) (Name := ℕ) (U := UU) (Lvl := ℕ) (ℓ := (laneOf ℓ).comm.view.loc (c : Thread nD τ))
    (lset ℓ) (lset_disj ℓ) (lset_all ℓ) (q := fullShare) (bufOf c (fun _ => FloatOps.ofBits .f32 0) ℓ)

/-- The staged block is the pieces both lanes read and the half the tiles read. -/
theorem xs_eq (c : Dev nD) :
    (kA.x.view.loc (c : Thread nD τ) ↦[Finset.univ]{fullShare} xBuf c (X c) : sProp (MM F)) ⊣⊢ Xs X c := by
  have pc (q : PosShare TreeShare) : (kA.x.view.loc (c : Thread nD τ) ↦[Finset.univ]{q} xBuf c (X c) : sProp (MM F))
      = four fun j => xpAt c j q (X c) := by
    rw [← bigSep_four]
    refine (Ring.pointsTo_blocks (Ix := ℕ) (Name := ℕ) (U := UU) (Lvl := ℕ) (ℓ := kA.x.view.loc (c : Thread nD τ)) xset
      (fun _ _ h => xset_disjoint h) xset_cover (q := q) (xBuf c (X c))).trans (bigSep_congr fun j _ => ?_)
    unfold xpAt
    rw [xpiece_set]
    rfl
  have h1 := pointsTo_share (Ix := ℕ) (Name := ℕ) (U := UU) (Lvl := ℕ) (ℓ := kA.x.view.loc (c : Thread nD τ)) (I := Finset.univ)
    (f := xBuf c (X c)) (PosShare.mem_left_op_right fullShare)
  have h2 := pointsTo_share (Ix := ℕ) (Name := ℕ) (U := UU) (Lvl := ℕ) (ℓ := kA.x.view.loc (c : Thread nD τ)) (I := Finset.univ)
    (f := xBuf c (X c)) (PosShare.mem_left_op_right fullShare.left)
  have a : iprop((kA.x.view.loc (c : Thread nD τ) ↦[Finset.univ]{xq true} xBuf c (X c)) ∗ (kA.x.view.loc (c : Thread nD τ) ↦[Finset.univ]{xq false} xBuf c (X c)))
      = two fun ℓ => (four fun j => xpAt c j (xq ℓ) (X c) : sProp (MM F)) := congrArg₂ BI.sep (pc (xq true)) (pc (xq false))
  unfold Xs xAll
  rw [← a]
  constructor
  · iintro H
    ihave H := h1.1 $$ H
    icases H with ⟨Hl, Hr⟩
    isplitl [Hl]
    · iapply h2.1
      iexact Hl
    · iexact Hr
  · iintro ⟨Hl, Hr⟩
    iapply h1.2
    isplitl [Hl]
    · iapply h2.2
      iexact Hl
    · iexact Hr

/-- The cells but the barrier, lane by lane. -/
theorem cells_lanes (Φ : Kd → sProp (MM F)) :
    (bigSep Finset.univ fun k : KO => Φ k.1) = two fun ℓ => iprop(Φ (.crd ℓ) ∗ four (cells4 Φ ℓ)) := by
  have e : (Finset.univ : Finset Kd).erase .bar
      = (Finset.univ : Finset (Bool × (Unit ⊕ Fin 4 × (Bool × Fin 2)))).map ⟨fun x => kdE (.inr x), kdE.injective.comp Sum.inr_injective⟩ := by decide
  have h (ℓ : Bool) : (bigSep Finset.univ fun b => Φ (kdE (.inr (ℓ, b)))) = iprop(Φ (.crd ℓ) ∗ four (cells4 Φ ℓ)) := by
    rw [bigSep_univ_sum, bigSep_univ_of_subsingleton (), bigSep_univ_prod, bigSep_four]
    have h' (j : Fin 4) : (bigSep Finset.univ fun b => Φ (kdE (.inr (ℓ, .inr (j, b))))) = cells4 Φ ℓ j := by
      rw [bigSep_univ_prod, bigSep_bool', bigSep_fin_two, bigSep_fin_two]
      rfl
    rw [show (fun a => bigSep Finset.univ fun b => Φ (kdE (.inr (ℓ, .inr (a, b))))) = cells4 Φ ℓ from funext h']
    rfl
  rw [bigSep_subtype_ne Kd.bar Φ, e, bigSep_map, bigSep_univ_prod, bigSep_bool']
  exact congrArg₂ BI.sep (h true) (h false)

/-- All cells are the barrier's and the others. -/
theorem cells_eq (Φ : Kd → sProp (MM F)) :
    bigSep Finset.univ Φ = iprop(Φ .bar ∗ bigSep Finset.univ fun k : KO => Φ k.1) := by
  rw [bigSep_subtype_ne Kd.bar Φ]
  exact bigSep_univ_split Kd.bar

end Cert.KernelIdeal.Ring

end
-- ==== Proof.Ideal.ProgramEq.lean ====
/- The printed body is the chain of hops. -/
module

public import proofs.«01_k».proof.Proof.Ideal.Program

@[expose] public section

noncomputable section

namespace Cert.KernelIdeal.Ring

open Idealize.ShloMosaic Idealize.SL.Sem Cert.KernelIdeal Cert.KernelIdeal.Gen

variable {F : FTy → Type} [FloatOps F]

set_option maxRecDepth 1000000 in
set_option maxHeartbeats 0 in
/-- The printed body is the chain of hops. -/
theorem cc0_body_eq (arg0 : Memref sig .tc .smem S2 .i32) (harg0 : arg0.IsWhole) (arg1 : Memref sig .tc .smem S17 .i32) (harg1 : arg1.IsWhole)
    (arg2 : Memref sig .tc .smem S16 .i32) (harg2 : arg2.IsWhole) (arg3 : Memref sig .tc .vmem S128x4096 .f32) (harg3 : arg3.IsWhole)
    (arg4 : Memref sig .tc .vmem S4096x256 .f32) (harg4 : arg4.IsWhole) (arg5 : Memref sig .tc .vmem S4096x256 .f32) (harg5 : arg5.IsWhole)
    (arg6 : Memref sig .tc .vmem S2x128x4096 .f32) (harg6 : arg6.IsWhole) (arg7 : Memref sig .tc .vmem S2x128x4096 .f32) (harg7 : arg7.IsWhole)
    (arg8 arg9 arg10 arg11 : DmaSems sig S2x4) (arg12 arg13 : Sems sig S_) :
    cc0_body (F := F) arg0 harg0 arg1 harg1 arg2 harg2 arg3 harg3 arg4 harg4 arg5 harg5 arg6 harg6 arg7 harg7 arg8 arg9 arg10 arg11 arg12 arg13
      = body ⟨arg0, arg1, arg2, arg3, arg4, arg5, ⟨arg6, arg8, arg9, arg12⟩, ⟨arg7, arg10, arg11, arg13⟩⟩ := rfl

end Cert.KernelIdeal.Ring

end
-- ==== Proof.Ideal.Region.lean ====
/- The region's proof data, and its body from the windows' buffers to the windows' buffers. -/
module

public import proofs.«01_k».proof.Proof.Ideal.Memory
public import proofs.«01_k».proof.Proof.Gen.KernelIdeal.Regions
public import Idealize.ShloMosaic.Lib.Pipeline.Value
public import proofs.«01_k».proof.Proof.Ideal.ProgramEq

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable (m : (l : Loc nD τ sig) → Buf (Elt F) l)

/-- Device `d`'s block of `x`. -/
abbrev dX (d : Dev nD) : XBuf F := m ((d : Thread nD τ).loc main_arg0)
/-- Device `c`'s block of `w`. -/
abbrev dW (c : Dev nD) : S4096x256.Idx → Elt F .f32 := m ((c : Thread nD τ).loc main_arg1)
/-- Device `c`'s result. -/
def res (c : Dev nD) : S4096x256.Idx → Elt F .f32 := result (dX m) (dW m c)

/-- What the body needs beside the buffers. -/
def Xk (c : Dev nD) : sProp (MM F) :=
  iprop(∃ κ ιs, Ctx (dX m) κ ιs ∗ atPos ER (cell c .bar) 0 ∅ 0 ∗ (bigSep Finset.univ fun k : KO => CellIn F c k.1) ∗ Toks F c)

/-- What the body starts from: what it needs, the two communication buffers, the generator's register. -/
def PhiIn (c : Dev nD) : sProp (MM F) := iprop(Xk m c ∗ (comm F c true ∗ comm F c false) ∗ ∃ r, prngReg c r)

/-- What it ends with: every semaphore at zero, the buffers at some contents. -/
def PhiOut (F : FTy → Type) [FloatOps F] (c : Dev nD) : sProp (MM F) :=
  iprop((semVal (cell c .bar) 0 ∗ bigSep Finset.univ fun k : KO => semVal (cell c k.1) 0) ∗ (comm F c true ∗ comm F c false) ∗ ∃ r, prngReg c r)

/-- The one region's proof data. -/
def datR (c : Dev nD) : Pipeline.Dat τ (Elt F) ℕ ℕ UU ℕ cfg0 c where
  A := fun | 0 => tabN c | 1 => tabF c | 2 => tabB c | 3 => dX m c | 4 => dW m c | 5 => V9 m c main_v49
           | ⟨_ + 6, h⟩ => absurd h (Nat.not_lt.2 (Nat.le_add_left _ _))
  after := fun | 0 => fun _ => tabN c | 1 => fun _ => tabF c | 2 => fun _ => tabB c | 3 => fun _ => dX m c | 4 => fun _ => dW m c
               | 5 => fun _ => res m c | ⟨_ + 6, h⟩ => absurd h (Nat.not_lt.2 (Nat.le_add_left _ _))
  Φ t := if t.val = 0 then PhiIn m c else PhiOut F c
  q _ := fullShare
  owed t := if t.val = 0 then tally (obsAll c) else 0

theorem owed_first (c : Dev nD) : (datR m c).owed t0_0.castSucc = tally (obsAll c) := by
  dsimp only [datR]
  exact if_pos rfl
theorem owed_last (c : Dev nD) : (datR m c).owed t0_0.succ = 0 := by
  dsimp only [datR]
  exact if_neg (by decide)

theorem owe_elim (c : Dev nD) : (datR m c).owesAt 0 t0_0.castSucc ⊢ (Owe c (obsAll c) : sProp (MM F)) := by
  unfold Pipeline.Dat.owesAt Pipeline.owesWithin Owe
  rw [owed_first]
  iintro ⟨%W, -, H⟩
  iexists W
  iexact H

theorem owe_intro (c : Dev nD) : (Owe c [] : sProp (MM F)) ⊢ (datR m c).owesAt 0 t0_0.succ := by
  unfold Pipeline.Dat.owesAt Pipeline.owesWithin Pipeline.Dat.bound Owe
  rw [owed_last]
  iintro ⟨%W, H⟩
  iexists W
  isplitr; · ipureintro; exact fun _ _ => Or.inl trivial
  iexact H

theorem before0 (c : Dev nD) (d) : (datR m c).before 0 t0_0 d = tabN c := by
  rw [(datR m c).before_fetched 0 t0_0 (by decide)]; unfold Pipeline.Dat.fetched Pipeline.Dat.blockOf; dsimp only [datR]
  exact funext fun y => congrArg (tabN c) (funext fun a => Fin.ext (Pipeline.Window.rect_emb_val_of_index_zero (win0 0) t0_0 a rfl y))
theorem before1 (c : Dev nD) (d) : (datR m c).before 1 t0_0 d = tabF c := by
  rw [(datR m c).before_fetched 1 t0_0 (by decide)]; unfold Pipeline.Dat.fetched Pipeline.Dat.blockOf; dsimp only [datR]
  exact funext fun y => congrArg (tabF c) (funext fun a => Fin.ext (Pipeline.Window.rect_emb_val_of_index_zero (win0 1) t0_0 a rfl y))
theorem before2 (c : Dev nD) (d) : (datR m c).before 2 t0_0 d = tabB c := by
  rw [(datR m c).before_fetched 2 t0_0 (by decide)]; unfold Pipeline.Dat.fetched Pipeline.Dat.blockOf; dsimp only [datR]
  exact funext fun y => congrArg (tabB c) (funext fun a => Fin.ext (Pipeline.Window.rect_emb_val_of_index_zero (win0 2) t0_0 a rfl y))
theorem before3 (c : Dev nD) (d) : (datR m c).before 3 t0_0 d = dX m c := by
  rw [(datR m c).before_fetched 3 t0_0 (by decide)]; unfold Pipeline.Dat.fetched Pipeline.Dat.blockOf; dsimp only [datR]
  exact funext fun y => congrArg (dX m c) (funext fun a => Fin.ext (Pipeline.Window.rect_emb_val_of_index_zero (win0 3) t0_0 a rfl y))
theorem before4 (c : Dev nD) (d) : (datR m c).before 4 t0_0 d = dW m c := by
  rw [(datR m c).before_fetched 4 t0_0 (by decide)]; unfold Pipeline.Dat.fetched Pipeline.Dat.blockOf; dsimp only [datR]
  exact funext fun y => congrArg (dW m c) (funext fun a => Fin.ext (Pipeline.Window.rect_emb_val_of_index_zero (win0 4) t0_0 a rfl y))

/-- The cells and the pieces at the start. -/
theorem in_lanes (c : Dev nD) :
    iprop((bigSep Finset.univ fun k : KO => CellIn F c k.1) ∗ (comm F c true ∗ comm F c false)) ⊢ two (InL F c) := by
  have e (ℓ : Bool) : (InL F c ℓ : sProp (MM F)) = iprop(CellIn F c (.crd ℓ) ∗ (four (cells4 (CellIn F c) ℓ) ∗ pcs F c ℓ)) := by
    unfold InL InPc pcs
    rw [four_sep (cells4 (CellIn F c) ℓ)]
  unfold two
  rw [cells_lanes, e, e]
  unfold two
  iintro ⟨⟨⟨A, B⟩, ⟨C, D⟩⟩, ⟨Pt, Pf⟩⟩
  isplitl [A B Pt]
  · isplitl [A]; · iexact A
    isplitl [B]; · iexact B
    iapply (pcs_split (F := F) c true); iexact Pt
  isplitl [C]; · iexact C
  isplitl [D]; · iexact D
  iapply (pcs_split (F := F) c false); iexact Pf

/-- The body, from the windows' buffers to the windows' buffers. -/
theorem body_run (c : Dev nD) {Q : PUnit → sProp (MM F)} (o : S4096x256.Idx → Elt F .f32) :
    iprop(PhiIn m c ∗ Owe c (obsAll c) ∗ Nt F c ∗ Wt c (dW m c) ∗ (kA.x.view.loc (c : Thread nD τ) ↦[Finset.univ]{fullShare} xBuf c (dX m c))
        ∗ (kA.o.view.loc (c : Thread nD τ) ↦[Finset.univ]{fullShare} o))
      ⊢ iprop(((PhiOut F c ∗ Owe c [] ∗ Nt F c ∗ Wt c (dW m c) ∗ (kA.x.view.loc (c : Thread nD τ) ↦[Finset.univ]{fullShare} xBuf c (dX m c))
          ∗ (kA.o.view.loc (c : Thread nD τ) ↦[Finset.univ]{fullShare} res m c)) -∗ Q ⟨⟩) -∗ Run F c (body kA) Q) := by
  unfold PhiIn Xk PhiOut
  iintro ⟨⟨⟨%κ, %ιs, #HC, Hb, HK, HT⟩, Hcm, Hp⟩, HO, Hn, Hw, Hx, Ho⟩ Hk
  ihave HI := (in_lanes (F := F) c) $$ [HK Hcm]
  · isplitl [HK]; · iexact HK
    iexact Hcm
  iapply (wp_body (X := dX m) (κ := κ) (ιs := ιs) (c := c) (w := dW m c)) $$ [Hb HT HO Hn Hw Hx Ho HI]
  · isplitl [Hn]; · iexact Hn
    isplitr; · iexact HC
    isplitl [HO]; · iexact HO
    isplitl [Hb]; · iexact Hb
    isplitl [HI]; · iexact HI
    isplitl [HT]; · iexact HT
    isplitl [Hx]; · iapply (xs_eq (X := dX m) c).1; iexact Hx
    isplitl [Hw]; · iexact Hw
    unfold Out
    iexists o
    isplitl [Ho]; · iexact Ho
    ipureintro
    intro t h
    exact h.elim
  iintro ⟨Hn, HO, Hs, HP, Hx, Hw, Ho⟩
  iapply Hk
  ihave Hs := (Entails.of_eq (cells_eq (F := F) fun k => semVal (cell c k) 0)) $$ Hs
  isplitl [Hs HP Hp]
  · isplitl [Hs]; · iexact Hs
    isplitl [HP]
    · unfold two
      icases HP with ⟨Pt, Pf⟩
      isplitl [Pt]
      · iapply (pcs_join (F := F) c true); iexact Pt
      iapply (pcs_join (F := F) c false); iexact Pf
    iexact Hp
  isplitl [HO]; · iexact HO
  isplitl [Hn]; · iexact Hn
  isplitl [Hw]; · iexact Hw
  isplitl [Hx]; · iapply (xs_eq (X := dX m) c).2; iexact Hx
  iexact Ho

set_option maxRecDepth 1000000 in
set_option maxHeartbeats 0 in
/-- What the region runs at its one point is the body on the region's buffers. -/
theorem prog_eq : (defs₀ (F := F)) .tc cfg0.body (cfg0.bodyArgs t0_0 (cfg0.slots t0_0)) = body kA :=
  cc0_body_eq (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7

/-- A window's buffer owned is its location held. -/
theorem stg0 (c : Dev nD) (f : (cfg0.win 0).block.Idx → Elt F (cfg0.win 0).elt) :
    (owns (c : Thread nD τ) ((cfg0.win 0).stage (cfg0.slots t0_0 0)) fullShare f : sProp (MM F)) = (kA.nbr.view.loc (c : Thread nD τ) ↦[Finset.univ]{fullShare} f) :=
  owns_whole (c : Thread nD τ) cc0_stg0_0 fullShare f
theorem stg1 (c : Dev nD) (f : (cfg0.win 1).block.Idx → Elt F (cfg0.win 1).elt) :
    (owns (c : Thread nD τ) ((cfg0.win 1).stage (cfg0.slots t0_0 1)) fullShare f : sProp (MM F)) = (kA.orf.view.loc (c : Thread nD τ) ↦[Finset.univ]{fullShare} f) :=
  owns_whole (c : Thread nD τ) cc0_stg1_0 fullShare f
theorem stg2 (c : Dev nD) (f : (cfg0.win 2).block.Idx → Elt F (cfg0.win 2).elt) :
    (owns (c : Thread nD τ) ((cfg0.win 2).stage (cfg0.slots t0_0 2)) fullShare f : sProp (MM F)) = (kA.orb.view.loc (c : Thread nD τ) ↦[Finset.univ]{fullShare} f) :=
  owns_whole (c : Thread nD τ) cc0_stg2_0 fullShare f
theorem stg3 (c : Dev nD) (f : (cfg0.win 3).block.Idx → Elt F (cfg0.win 3).elt) :
    (owns (c : Thread nD τ) ((cfg0.win 3).stage (cfg0.slots t0_0 3)) fullShare f : sProp (MM F)) = (kA.x.view.loc (c : Thread nD τ) ↦[Finset.univ]{fullShare} f) :=
  owns_whole (c : Thread nD τ) cc0_stg3_0 fullShare f
theorem stg4 (c : Dev nD) (f : (cfg0.win 4).block.Idx → Elt F (cfg0.win 4).elt) :
    (owns (c : Thread nD τ) ((cfg0.win 4).stage (cfg0.slots t0_0 4)) fullShare f : sProp (MM F)) = (kA.w.view.loc (c : Thread nD τ) ↦[Finset.univ]{fullShare} f) :=
  owns_whole (c : Thread nD τ) cc0_stg4_0 fullShare f
theorem stg5 (c : Dev nD) (f : (cfg0.win 5).block.Idx → Elt F (cfg0.win 5).elt) :
    (owns (c : Thread nD τ) ((cfg0.win 5).stage (cfg0.slots t0_0 5)) fullShare f : sProp (MM F)) = (kA.o.view.loc (c : Thread nD τ) ↦[Finset.univ]{fullShare} f) :=
  owns_whole (c : Thread nD τ) cc0_stg5_0 fullShare f
theorem after0 (c : Dev nD) : (datR m c).after 0 t0_0 = tabN c := by dsimp only [datR]
theorem after1 (c : Dev nD) : (datR m c).after 1 t0_0 = tabF c := by dsimp only [datR]
theorem after2 (c : Dev nD) : (datR m c).after 2 t0_0 = tabB c := by dsimp only [datR]
theorem after3 (c : Dev nD) : (datR m c).after 3 t0_0 = dX m c := by dsimp only [datR]
theorem after4 (c : Dev nD) : (datR m c).after 4 t0_0 = dW m c := by dsimp only [datR]
theorem after5 (c : Dev nD) : (datR m c).after 5 t0_0 = res m c := by dsimp only [datR]

/-- The region's body obligation. -/
theorem body0 (c : Dev nD) : Pipeline.BodyObligation (datR m c) defs₀ 𝒱₀ 0 Set.univ := fun t => by
  obtain rfl := fin_N0 t
  have e1 : (datR m c).Φ t0_0.castSucc = PhiIn m c := by dsimp only [datR]; exact if_pos rfl
  have e2 : (datR m c).Φ t0_0.succ = PhiOut F c := by dsimp only [datR]; exact if_neg (by decide)
  rw [bigSep_W0, bigSep_W0]
  rw [e1, e2, prog_eq]
  dsimp only
  rw [after0, after1, after2, after3, after4, after5]
  iintro ⟨HI, HO, ⟨%d0, H0⟩, ⟨%d1, H1⟩, ⟨%d2, H2⟩, ⟨%d3, H3⟩, ⟨%d4, H4⟩, ⟨%d5, H5⟩⟩
  ihave HO := (owe_elim m c) $$ HO
  ihave H0 := (Entails.of_eq ((congrArg _ (before0 m c d0)).trans (stg0 c (tabN c)))) $$ H0
  ihave H1 := (Entails.of_eq ((congrArg _ (before1 m c d1)).trans (stg1 c (tabF c)))) $$ H1
  ihave H2 := (Entails.of_eq ((congrArg _ (before2 m c d2)).trans (stg2 c (tabB c)))) $$ H2
  ihave H3 := (Entails.of_eq ((congrArg _ (before3 m c d3)).trans (stg3 c (dX m c)))) $$ H3
  ihave H4 := (Entails.of_eq ((congrArg _ (before4 m c d4)).trans (stg4 c (dW m c)))) $$ H4
  ihave H5 := (Entails.of_eq (stg5 c _)) $$ H5
  iapply (body_run m c ((datR m c).before 5 t0_0 d5)) $$ [HI HO H0 H1 H2 H3 H4 H5]
  · isplitl [HI]; · iexact HI
    isplitl [HO]; · iexact HO
    unfold Nt Wt
    isplitl [H0]; · iexact H0
    isplitl [H1 H2 H4]
    · isplitl [H1]; · iexact H1
      isplitl [H2]; · iexact H2
      iexact H4
    isplitl [H3]; · iexact H3
    iexact H5
  unfold Nt Wt
  iintro ⟨HI, HO, H0, ⟨H1, H2, H4⟩, H3, H5⟩
  isplitl [HI]; · iexact HI
  isplitl [HO]; · iapply (owe_intro m c); iexact HO
  isplitl [H0]; · iapply (Entails.of_eq (stg0 c (tabN c)).symm); iexact H0
  isplitl [H1]; · iapply (Entails.of_eq (stg1 c (tabF c)).symm); iexact H1
  isplitl [H2]; · iapply (Entails.of_eq (stg2 c (tabB c)).symm); iexact H2
  isplitl [H3]; · iapply (Entails.of_eq (stg3 c (dX m c)).symm); iexact H3
  isplitl [H4]; · iapply (Entails.of_eq (stg4 c (dW m c)).symm); iexact H4
  iapply (Entails.of_eq (stg5 c (res m c)).symm); iexact H5

end Cert.KernelIdeal.Ring

end
-- ==== Proof.Ideal.Host.lean ====
/- The tables the host hands the kernel. -/
module

public import proofs.«01_k».proof.Proof.Ideal.Body
public import proofs.«01_k».proof.Proof.Gen.KernelIdeal.Regions
public import Idealize.ShloMosaic.Lib.StableHlo.RunRead
public import Idealize.ShloMosaic.Lib.StableHlo.RunClose
public import Idealize.ShloMosaic.Lib.StableHlo.ReadAt
public import Idealize.ShloMosaic.Lib.Claim

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable (m : (l : Loc nD τ sig) → Buf (Elt F) l)

/-- A negative index counted from the end of a table of 32. -/
def fixA (s : Shape) (x : s.Idx → BitVec 32) : s.Idx → BitVec 32 :=
  select (cmpi .slt x fun _ => 0#32) (addi x fun _ => 32#32) x

/-- The divisor 32, guarded against zero. -/
def by32 (s : Shape) : s.Idx → BitVec 32 :=
  select (cmpi .eq (fun _ => 32#32) fun _ => 0#32) (fun _ => 1#32) fun _ => 32#32

/-- The remainder modulo 32 with the divisor's sign. -/
def modA (s : Shape) (x : s.Idx → BitVec 32) : s.Idx → BitVec 32 :=
  select
    (andi (cmpi .ne (cmpi .slt (Host.remsi x (by32 s)) fun _ => 0#32) (cmpi .slt (by32 s) fun _ => 0#32))
      (cmpi .ne (Host.remsi x (by32 s)) fun _ => 0#32))
    (addi (Host.remsi x (by32 s)) (by32 s)) (Host.remsi x (by32 s))

theorem after_rem0 (V : Valuation τ sig (Elt F)) (h : V main_c_6 = fun _ => 32#32) : StableHlo.after hostOps0_1 V main_v11 = modA S_ (V main_v10) := by
  after_reads_simp
  rw [h]
  rfl
theorem after_rem1 (V : Valuation τ sig (Elt F)) (h : V main_c_10 = fun _ => 32#32) : StableHlo.after hostOps0_3 V main_v18 = modA S_ (V main_v17) := by
  after_reads_simp
  rw [h]
  rfl
theorem after_rem2 (V : Valuation τ sig (Elt F)) (h : V main_c_13 = fun _ => 32#32) : StableHlo.after hostOps0_5 V main_v30 = modA S17 (V main_v29) := by
  after_reads_simp
  rw [h]
  rfl
theorem after_rem3 (V : Valuation τ sig (Elt F)) (h : V main_c_16 = fun _ => 32#32) : StableHlo.after hostOps0_7 V main_v41 = modA S16 (V main_v40) := by
  after_reads_simp
  rw [h]
  rfl

theorem after_gatherF (V : Valuation τ sig (Elt F)) : StableHlo.after hostOps0_6 V main_v37
    = Host.gather gather_S32_S17x1_S17_n_0_n_n_0_1_1 (V main_c) (broadcastInDim S17x1 ![0] bcast_S17_S17x1_0 (fixA S17 (V main_v30))) := by
  after_reads_simp
  rfl
theorem after_gatherB (V : Valuation τ sig (Elt F)) : StableHlo.after hostOps0_8 V main_v48
    = Host.gather gather_S32_S16x1_S16_n_0_n_n_0_1_1 (V main_c) (broadcastInDim S16x1 ![0] bcast_S16_S16x1_0 (fixA S16 (V main_v41))) := by
  after_reads_simp
  rfl

/-- An entry of a table of 32 at a one-word index. -/
def lookA (t : S32.Idx → BitVec 32) (x : S_.Idx → BitVec 32) : S_.Idx → BitVec 32 :=
  shapeCast S_ (Host.dynamicSlice S1 t (fun k : Fin 1 => (![x] k (Shape.Idx.first h_S_)).toInt) sliceFits_S32_S1) shapeCasts_S1_S_

theorem after_place (V : Valuation τ sig (Elt F)) (c : Dev nD) : StableHlo.after (hostOps0 c) V main_v9
    = lookA (fun i => lit1 (S32.rowMajor i)) (fixA S_ (Host.remui (Host.divui (fun _ => Dev.word c) fun _ => 1#32) fun _ => 32#32)) := by
  after_reads_simp [StableHlo.unaryIndexed_result_read, StableHlo.indexContents_cons, StableHlo.indexContents_empty]
  rfl

theorem after_next (V : Valuation τ sig (Elt F)) (c : Dev nD) : StableHlo.after (hostOps0 c) V main_v10
    = addi (lookA (fun i => lit1 (S32.rowMajor i)) (fixA S_ (Host.remui (Host.divui (fun _ => Dev.word c) fun _ => 1#32) fun _ => 32#32))) fun _ => 1#32 := by
  after_reads_simp [StableHlo.unaryIndexed_result_read, StableHlo.indexContents_cons, StableHlo.indexContents_empty]
  rfl

theorem after_succ (V : Valuation τ sig (Elt F)) : StableHlo.after hostOps0_2 V main_v16 = lookA (V main_c) (fixA S_ (V main_v11)) := by
  after_reads_simp [StableHlo.unaryIndexed_result_read, StableHlo.indexContents_cons, StableHlo.indexContents_empty]
  rfl

theorem after_prev (V : Valuation τ sig (Elt F)) : StableHlo.after hostOps0_2 V main_v17 = subi (V main_v9) fun _ => 1#32 := by
  after_reads_simp
  rfl

theorem after_nbr (V : Valuation τ sig (Elt F)) : StableHlo.after hostOps0_4 V main_v26
    = concatenate S2 0 [⟨S1, broadcastInDim S1 ![] bcast_S_S1 (V main_v16)⟩,
        ⟨S1, broadcastInDim S1 ![] bcast_S_S1 (lookA (V main_c) (fixA S_ (V main_v18)))⟩] concatenates_S1_S1_S2_d0 := by
  have e : StableHlo.upto hostOps0_4 V 9 main_v24 = broadcastInDim S1 ![] bcast_S_S1 (V main_v16) := by
    after_reads_simp [StableHlo.unaryIndexed_result_read, StableHlo.indexContents_cons, StableHlo.indexContents_empty]
  have e' : StableHlo.upto hostOps0_4 V 9 main_v25 = broadcastInDim S1 ![] bcast_S_S1 (lookA (V main_c) (fixA S_ (V main_v18))) := by
    after_reads_simp [StableHlo.unaryIndexed_result_read, StableHlo.indexContents_cons, StableHlo.indexContents_empty]
    rfl
  after_reads_simp [StableHlo.unaryIndexed_result_read, StableHlo.indexContents_cons, StableHlo.indexContents_empty]
  exact congrArg₂ (fun (a b : S1.Idx → BitVec 32) => concatenate S2 0 [⟨S1, a⟩, ⟨S1, b⟩] concatenates_S1_S1_S2_d0) e e'

theorem after_back (V : Valuation τ sig (Elt F)) : StableHlo.after hostOps0_4 V main_v29
    = subi (broadcastInDim S17 ![] bcast_S_S17 (V main_v9)) (iotaInDim S17 32 0) := by
  after_reads_simp
theorem after_ahead (V : Valuation τ sig (Elt F)) : StableHlo.after hostOps0_6 V main_v40
    = addi (broadcastInDim S16 ![] bcast_S_S16 (V main_v9)) (iotaInDim S16 32 0) := by
  after_reads_simp

theorem after_c6 (V : Valuation τ sig (Elt F)) (c : Dev nD) : StableHlo.after (hostOps0 c) V main_c_6 = fun _ => 32#32 := by
  after_reads_simp
  rfl
theorem after_c10 (V : Valuation τ sig (Elt F)) : StableHlo.after hostOps0_2 V main_c_10 = fun _ => 32#32 := by
  after_reads_simp
  rfl
theorem after_c13 (V : Valuation τ sig (Elt F)) : StableHlo.after hostOps0_4 V main_c_13 = fun _ => 32#32 := by
  after_reads_simp
  rfl
theorem after_c16 (V : Valuation τ sig (Elt F)) : StableHlo.after hostOps0_6 V main_c_16 = fun _ => 32#32 := by
  after_reads_simp
  rfl

/-- A word for the device's place. -/
abbrev pw (c : Dev nD) : BitVec 32 := BitVec.ofNat 32 (place c).val

/-- The ring's order as a table. -/
abbrev ringA : S32.Idx → BitVec 32 := fun i => lit0 (S32.rowMajor i)

theorem place_word : ∀ c : Dev nD,
    lookA (fun i => lit1 (S32.rowMajor i)) (fixA S_ (Host.remui (Host.divui (fun _ => Dev.word c) fun _ => 1#32) fun _ => 32#32)) = fun _ => pw c := by
  decide +kernel

theorem succ_word : ∀ c : Dev nD,
    lookA ringA (fixA S_ (modA S_ (addi (fun _ => pw c) fun _ => 1#32))) = fun _ => wordOf (dn true c) := by
  decide +kernel

theorem prev_word : ∀ c : Dev nD,
    lookA ringA (fixA S_ (modA S_ (subi (fun _ => pw c) fun _ => 1#32))) = fun _ => wordOf (dn false c) := by
  decide +kernel

theorem nbr_word : ∀ c : Dev nD,
    concatenate S2 0 [⟨S1, broadcastInDim S1 ![] bcast_S_S1 (fun _ => wordOf (dn true c) : S_.Idx → BitVec 32)⟩,
        ⟨S1, broadcastInDim S1 ![] bcast_S_S1 (fun _ => wordOf (dn false c) : S_.Idx → BitVec 32)⟩] concatenates_S1_S1_S2_d0 = tabN c := by
  decide +kernel

theorem back_word : ∀ c : Dev nD,
    Host.gather gather_S32_S17x1_S17_n_0_n_n_0_1_1 ringA (broadcastInDim S17x1 ![0] bcast_S17_S17x1_0
      (fixA S17 (modA S17 (subi (broadcastInDim S17 ![] bcast_S_S17 (fun _ => pw c : S_.Idx → BitVec 32)) (iotaInDim S17 32 0))))) = tabF c := by
  decide +kernel

theorem ahead_word : ∀ c : Dev nD,
    Host.gather gather_S32_S16x1_S16_n_0_n_n_0_1_1 ringA (broadcastInDim S16x1 ![0] bcast_S16_S16x1_0
      (fixA S16 (modA S16 (addi (broadcastInDim S16 ![] bcast_S_S16 (fun _ => pw c : S_.Idx → BitVec 32)) (iotaInDim S16 32 0))))) = tabB c := by
  decide +kernel

/-- The order's table stays where it is. -/
theorem ringA_at (c : Dev nD) : V2 m c main_c = ringA ∧ V4 m c main_c = ringA ∧ V6 m c main_c = ringA ∧ V8 m c main_c = ringA := by
  have h1 : V1 m c main_c = ringA := by
    unfold_abbrev_sides
    after_reads_simp
    rfl
  have h2 : V2 m c main_c = ringA := (V2_of m c _ (by decide)).trans h1
  have h3 : V3 m c main_c = ringA := (V3_of m c _ (by decide)).trans h2
  have h4 : V4 m c main_c = ringA := (V4_of m c _ (by decide)).trans h3
  have h5 : V5 m c main_c = ringA := (V5_of m c _ (by decide)).trans h4
  have h6 : V6 m c main_c = ringA := (V6_of m c _ (by decide)).trans h5
  have h7 : V7 m c main_c = ringA := (V7_of m c _ (by decide)).trans h6
  exact ⟨h2, h4, h6, (V8_of m c _ (by decide)).trans h7⟩

/-- So does the device's place. -/
theorem place_at (c : Dev nD) : V2 m c main_v9 = (fun _ => pw c) ∧ V4 m c main_v9 = (fun _ => pw c) ∧ V6 m c main_v9 = fun _ => pw c := by
  have h1 : V1 m c main_v9 = fun _ => pw c := (after_place (V0 m c) c).trans (place_word c)
  have h2 : V2 m c main_v9 = fun _ => pw c := (V2_of m c _ (by decide)).trans h1
  have h3 : V3 m c main_v9 = fun _ => pw c := (V3_of m c _ (by decide)).trans h2
  have h4 : V4 m c main_v9 = fun _ => pw c := (V4_of m c _ (by decide)).trans h3
  have h5 : V5 m c main_v9 = fun _ => pw c := (V5_of m c _ (by decide)).trans h4
  exact ⟨h2, h4, (V6_of m c _ (by decide)).trans h5⟩

/-- The kernel's table of neighbours. -/
theorem host_nbr (c : Dev nD) : V9 m c main_v26 = tabN c := by
  have h10 : V1 m c main_v10 = addi (fun _ => pw c) fun _ => 1#32 := (after_next (V0 m c) c).trans (congrArg (fun x => addi x fun _ => 1#32) (place_word c))
  have h11 : V2 m c main_v11 = modA S_ (addi (fun _ => pw c) fun _ => 1#32) := (after_rem0 (V1 m c) (after_c6 (V0 m c) c)).trans (congrArg (modA S_) h10)
  have h16 : V3 m c main_v16 = fun _ => wordOf (dn true c) :=
    (after_succ (V2 m c)).trans ((congrArg₂ (fun t x => lookA t (fixA S_ x)) (ringA_at m c).1 h11).trans (succ_word c))
  have h16' : V4 m c main_v16 = fun _ => wordOf (dn true c) := (V4_of m c _ (by decide)).trans h16
  have h17 : V3 m c main_v17 = subi (fun _ => pw c) fun _ => 1#32 := (after_prev (V2 m c)).trans (congrArg (fun x => subi x fun _ => 1#32) (place_at m c).1)
  have h18 : V4 m c main_v18 = modA S_ (subi (fun _ => pw c) fun _ => 1#32) := (after_rem1 (V3 m c) (after_c10 (V2 m c))).trans (congrArg (modA S_) h17)
  have h23 : lookA (V4 m c main_c) (fixA S_ (V4 m c main_v18)) = fun _ => wordOf (dn false c) :=
    (congrArg₂ (fun t x => lookA t (fixA S_ x)) (ringA_at m c).2.1 h18).trans (prev_word c)
  have h26 : V5 m c main_v26 = tabN c := by
    have e := after_nbr (V4 m c)
    rw [h16', h23] at e
    exact e.trans (nbr_word c)
  exact (V9_of m c _ (by decide)).trans ((V8_of m c _ (by decide)).trans ((V7_of m c _ (by decide)).trans ((V6_of m c _ (by decide)).trans h26)))

/-- The kernel's forward table. -/
theorem host_orf (c : Dev nD) : V9 m c main_v37 = tabF c := by
  have h29 : V5 m c main_v29 = subi (broadcastInDim S17 ![] bcast_S_S17 (fun _ => pw c : S_.Idx → BitVec 32)) (iotaInDim S17 32 0) := by
    have e := after_back (V4 m c)
    rw [(place_at m c).2.1] at e
    exact e
  have h30 : V6 m c main_v30 = modA S17 (subi (broadcastInDim S17 ![] bcast_S_S17 (fun _ => pw c : S_.Idx → BitVec 32)) (iotaInDim S17 32 0)) :=
    (after_rem2 (V5 m c) (after_c13 (V4 m c))).trans (congrArg (modA S17) h29)
  have h37 : V7 m c main_v37 = tabF c := by
    have e := after_gatherF (V6 m c)
    rw [(ringA_at m c).2.2.1, h30] at e
    exact e.trans (back_word c)
  exact (V9_of m c _ (by decide)).trans ((V8_of m c _ (by decide)).trans h37)

/-- The kernel's backward table. -/
theorem host_orb (c : Dev nD) : V9 m c main_v48 = tabB c := by
  have h40 : V7 m c main_v40 = addi (broadcastInDim S16 ![] bcast_S_S16 (fun _ => pw c : S_.Idx → BitVec 32)) (iotaInDim S16 32 0) := by
    have e := after_ahead (V6 m c)
    rw [(place_at m c).2.2] at e
    exact e
  have h41 : V8 m c main_v41 = modA S16 (addi (broadcastInDim S16 ![] bcast_S_S16 (fun _ => pw c : S_.Idx → BitVec 32)) (iotaInDim S16 32 0)) :=
    (after_rem3 (V7 m c) (after_c16 (V6 m c))).trans (congrArg (modA S16) h40)
  have e := after_gatherB (V8 m c)
  rw [(ringA_at m c).2.2.2, h41] at e
  exact e.trans (ahead_word c)

end Cert.KernelIdeal.Ring

end
-- ==== Proof.Ideal.Record.lean ====
/- The region as a segment of the program: what it is entered with and what it leaves. -/
module

public import proofs.«01_k».proof.Proof.Ideal.Region
public import proofs.«01_k».proof.Proof.Ideal.Host
public import Idealize.ShloMosaic.Lib.Pipeline.RegionTalk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable (m : (l : Loc nD τ sig) → Buf (Elt F) l)

/-- What the region leaves: the result's buffer holds the result, every other buffer what the host stretches left. -/
def outs : Outs (F := F) := fun _ r c => Function.update (V9 m c) (Proc.devRef (τ := τ) .tc main_v49) (res m c) (Proc.devRef .tc r)

theorem outs_v49 (c : Dev nD) : outs m 10 main_v49 c = res m c := Function.update_self ..

theorem V10_v49 (c : Dev nD) : V10 m (outs m) c main_v49 = res m c := (Function.update_self ..).trans (outs_v49 m c)

/-- What the launch hands the region on device `c`. -/
def Tk0 (c : Dev nD) : sProp (MM F) :=
  iprop(∃ κ ιs, Ctx (dX m) κ ιs ∗ atPos ER (cell c .bar) 0 ∅ 0 ∗ (bigSep Finset.univ fun k : KO => openTok ER (cell c k.1)) ∗ Toks F c)

abbrev pdats : (p : Fin 1) → (c : Dev nD) → Pipeline.Dat τ (Elt F) ℕ ℕ UU ℕ (cfgs p) c := fun _ c => datR m c

/-- The region's own semaphores opened. -/
theorem region_open (c : Dev nD) : iprop(Tk0 m c ∗ Pipeline.ownSems0 osem c ∗ levAts L lv) ⊢ (|={Set.univ}=> Xk m c : sProp (MM F)) := by
  unfold Tk0 Xk
  iintro ⟨⟨%κ, %ιs, #HC, Hb, Ho, HT⟩, Hs, -⟩
  imod (open_all (X := dX m) (κ := κ) (ιs := ιs) c) $$ [Ho Hs] with HK
  · isplitr; · iexact HC
    isplitl [Ho]; · iexact Ho
    unfold Pipeline.ownSems0
    iexact Hs
  imodintro
  iexists κ; iexists ιs
  isplitr; · iexact HC
  isplitl [Hb]; · iexact Hb
  isplitl [HK]
  · unfold CellIn
    iexact HK
  iexact HT

/-- The scoped buffers no window stages are the two lanes' buffers. -/
theorem rest_comm (c : Dev nD) : (Pipeline.scopedRest spec0 c : sProp (MM F)) = iprop(comm F c true ∗ comm F c false) :=
  scopedRest0_eq c

theorem region_in (c : Dev nD) :
    iprop(Pipeline.scopedRest spec0 c ∗ (∃ r, prngReg c r) ∗ StableHlo.held (c.tc : Thread nD τ) ∅ (V9 m c) ∗ Xk m c) ⊢ PhiIn m c := by
  rw [rest_comm]
  unfold PhiIn
  iintro ⟨Hc, Hp, -, HX⟩
  isplitl [HX]; · iexact HX
  isplitl [Hc]; · iexact Hc
  iexact Hp

theorem region_out (c : Dev nD) :
    PhiOut F c ⊢ iprop(Pipeline.scopedRest spec0 c ∗ (∃ r, prngReg c r) ∗ StableHlo.held (c.tc : Thread nD τ) ∅ (V10 m (outs m) c)
      ∗ Pipeline.ownSems0 osem c ∗ semVal (cell c .bar) 0) := by
  rw [rest_comm]
  unfold PhiOut Pipeline.ownSems0 StableHlo.held
  rw [BI.bigSep_empty]
  iintro ⟨⟨Hb, Hs⟩, Hc, Hp⟩
  isplitl [Hc]; · iexact Hc
  isplitl [Hp]; · iexact Hp
  isplitr; · iempintro
  isplitl [Hs]; · iexact Hs
  iexact Hb

/-- The staging semaphores are of no kind of the protocol. -/
theorem stage_kind : ∀ (w : Fin cfg0.W) (s : Fin (cfg0.win w).nbuf), kindOf (.dma ((cfg0.win w).sem s)) = none := by decide

theorem above_obsAll (c : Dev nD) : above 0 (obsAll c) :=
  above_cons.mpr ⟨⟨by show 0 < 1; decide, by show 0 < 64; decide⟩, above_cons.mpr ⟨⟨by show 0 < 1; decide, by show 0 < 64; decide⟩,
    above_obsSend (by decide) (by decide) (above_obsMid (by decide) (by decide) (above_obsHops 13 (by decide) (by decide) ((above_obsLast c).mono (by decide))))⟩⟩

theorem region_cut (c : Dev nD) (g : GSem nD τ sig) (i : ℕ) (h : 0 < tally (obsAll c) g i) : i ∈ L g ∧ 0 < lv g i := by
  obtain ⟨o, ho, rfl, rfl⟩ := tally_pos h
  have a := above_obsAll c o ho
  rw [lv_cell]
  refine ⟨?_, a.1⟩
  show o.2.2 ∈ L ((o.1 : Thread nD τ), semOf o.2.1)
  rw [L_tc]
  exact Finset.mem_range.mpr a.2

/-- The arrays at the start are what the host stretches left. -/
theorem region_arr (c : Dev nD) : ∀ w : Fin 6, (datR m c).arrAt w 0 = V9 m c (Proc.devRef .tc (Pipeline.arrRef spec0 w))
  | 0 => (host_nbr m c).symm
  | 1 => (host_orf m c).symm
  | 2 => (host_orb m c).symm
  | 3 => ((V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl).symm
  | 4 => ((V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl).symm
  | 5 => rfl
  | ⟨_ + 6, h⟩ => absurd h (Nat.not_lt.2 (Nat.le_add_left _ _))

/-- The output's array at the end. -/
theorem arr_out (c : Dev nD) : (datR m c).arrAt 5 cfg0.N = res m c := by
  funext y
  have h := (datR m c).arrAt_emb_eq_flushed 5 (fun t t' _ _ hne => absurd ((fin_N0 t).trans (fin_N0 t').symm) hne) t0_0 (by decide) y
  have e : ((cfg0.win 5).blk t0_0).view.emb y = y :=
    funext fun a => Fin.ext (Pipeline.Window.rect_emb_val_of_index_zero (win0 5) t0_0 a rfl y)
  rw [e] at h
  rw [h]
  unfold Pipeline.Dat.flushed
  rw [after5]
  rfl

/-- Off the output the buffers are as the host stretches left them. -/
theorem V10_off (c : Dev nD) (b : DevRef τ sig) (h : b ≠ Proc.devRef .tc main_v49) : V10 m (outs m) c b = V9 m c b := Function.update_of_ne h ..

/-- The arrays at the end. -/
theorem region_arr' (c : Dev nD) (w : Fin 6) : (datR m c).arrAt w cfg0.N = V10 m (outs m) c (Proc.devRef .tc (Pipeline.arrRef spec0 w)) := by
  by_cases h : w = 5
  · subst h
    exact (arr_out m c).trans (V10_v49 m c).symm
  have hi : (cfg0.win w).isOut = false := by
    revert h; revert w; decide
  have hn : (Proc.devRef (τ := τ) .tc (Pipeline.arrRef spec0 w)) ≠ Proc.devRef .tc main_v49 := by
    revert h; clear hi; revert w; decide
  exact ((datR m c).arrAt_in w hi cfg0.N).trans ((region_arr m c w).trans (V10_off m c _ hn).symm)

/-- The unscoped buffers that are no window's array. -/
abbrev others : Finset (DevRef τ sig) := Pipeline.ucRefs τ sig \ Pipeline.arrRefs (τ := τ) spec0

theorem v49_arr : Proc.devRef (τ := τ) .tc main_v49 ∈ Pipeline.arrRefs (τ := τ) spec0 :=
  Finset.mem_map.mpr ⟨main_v49, Finset.mem_image.mpr ⟨(5 : Fin 6), Finset.mem_univ _, rfl⟩, rfl⟩

set_option backward.isDefEq.respectTransparency.types false in
/-- The region as a segment of the program. -/
def reg0 : Pipeline.RegionSeg (pcfgs (F := F)) adm (pdats m) (0 : ℕ) defs₀ 𝒱₀ L lv 0 :=
  Pipeline.RegionSeg.ofTalk (pcfgs (F := F)) adm (pdats m) 0 defs₀ 𝒱₀ L lv 0 osem (by decide : Pipeline.OwnSemFacts spec0 osem)
    ∅ others (Finset.empty_subset _) launch0.toP rfl (fun c => (body0 m c).loose)
    (fun _ => 0) (fun c => tally (obsAll c)) (fun c => (owed_first m c).trans (zero_add _).symm) (owed_last m) (fun _ => rfl)
    (fun _ w => by unfold Pipeline.Dat.share; split <;> rfl)
    (V9 m) (V10 m (outs m)) (fun c b hb => V10_off m c b fun e => by
      subst e
      exact (Finset.mem_sdiff.mp (Finset.mem_sdiff.mp hb).1).2 v49_arr)
    (Tk0 m) (fun c => semVal (cell c .bar) 0) (Xk m) (fun c => semVal (cell c .bar) 0) (region_open m)
    (region_in m) (region_out m)
    (fun c => by iintro H; imodintro; iexact H)
    (fun _ => 0)
    ⟨fun c w s => by rw [L_tc]; decide, fun c w s => by
        have e : kindOf (.dma (((Pipeline.pin (pcfgs (F := F)) adm 0).win w).sem s)) = none := stage_kind w s
        unfold lv; rw [e]; exact le_refl 0, fun c t g i h => by
        by_cases ht : t.val = 0
        · exact region_cut c g i (by
            have e : (pdats (F := F) m 0 c).owed t = tally (obsAll c) := if_pos ht
            rw [e] at h; exact h)
        · have e : (pdats (F := F) m 0 c).owed t = 0 := if_neg ht
          rw [e] at h; exact absurd h (Nat.lt_irrefl 0)⟩
    (fun _ => iprop(emp))
    (fun c w => region_arr m c w) (fun c w => region_arr' m c w)

/-- What rides beside the held buffers before the region. -/
def E0 (c : Dev nD) : sProp (MM F) := iprop(Tk0 m c ∗ (∃ r, prngReg c r) ∗ Owe c (obsAll c))

theorem ucRefs_split (c : Dev nD) (V : Valuation τ sig (Elt F)) :
    (StableHlo.held (c : Thread nD τ) (Pipeline.ucRefs τ sig) V : sProp (MM F))
      = iprop(StableHlo.held (c : Thread nD τ) (Pipeline.arrRefs (τ := τ) spec0) V ∗ StableHlo.held (c : Thread nD τ) others V) :=
  StableHlo.held_sub_split (c : Thread nD τ) (Pipeline.arrRefs_sub_ucRefs spec0 (by decide)) V

set_option backward.isDefEq.respectTransparency.types false in
theorem reg0_pre (c : Dev nD) : iprop(StableHlo.held (c : Thread nD τ) (Pipeline.ucRefs τ sig) (V9 m c) ∗ E0 m c) ⊢ (reg0 m).pre c := by
  show _ ⊢ iprop(StableHlo.held (c.tc : Thread nD τ) (Pipeline.arrRefs (τ := τ) spec0) (V9 m c) ∗ (∃ r, prngReg c r)
    ∗ (StableHlo.held (c.tc : Thread nD τ) others (V9 m c) ∗ emp) ∗ Tk0 m c ∗ ∃ Wd, owes (c : Thread nD τ) (0 + tally (obsAll c)) Wd)
  rw [ucRefs_split, zero_add]
  unfold E0 Owe
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

set_option backward.isDefEq.respectTransparency.types false in
theorem reg0_post (c : Dev nD) : (reg0 m).post c ⊢ iprop((StableHlo.held (c : Thread nD τ) (Pipeline.ucRefs τ sig) (V10 m (outs m) c) ∗ semVal (cell c .bar) 0)
    ∗ ∃ W, owes (c : Thread nD τ) (0 : CellTallies nD τ sig ℕ) W) := by
  show iprop(StableHlo.held (c.tc : Thread nD τ) (Pipeline.arrRefs (τ := τ) spec0) (V10 m (outs m) c) ∗ (∃ r, prngReg c r)
    ∗ (StableHlo.held (c.tc : Thread nD τ) others (V10 m (outs m) c) ∗ emp) ∗ semVal (cell c .bar) 0 ∗ ∃ Wd, owes (c : Thread nD τ) (0 : CellTallies nD τ sig ℕ) Wd) ⊢ _
  rw [ucRefs_split]
  iintro ⟨Ha, -, ⟨Hr, -⟩, Hb, HO⟩
  isplitr [HO]
  · isplitr [Hb]
    · isplitl [Ha]; · iexact Ha
      iexact Hr
    iexact Hb
  iexact HO

end Cert.KernelIdeal.Ring

end
-- ==== Proof.Ideal.Deal.lean ====
/- Dealing out what the launch has: what each device is owed, may pay with and may read. -/
module

public import proofs.«01_k».proof.Proof.Ideal.Body
public import proofs.«01_k».proof.Proof.Ideal.Memory

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

/-- Something of each of `n` numbers from `g` on. -/
def many (Φ : ℕ → sProp (MM F)) : (n g : ℕ) → sProp (MM F)
  | 0, _ => iprop(emp)
  | n + 1, g => iprop(Φ g ∗ many Φ n (g + 1))

theorem sep_comm_le (A B : sProp (MM F)) : iprop(A ∗ B) ⊢ iprop(B ∗ A) := by
  iintro ⟨HA, HB⟩
  isplitl [HB]; · iexact HB
  iexact HA

theorem sep_eq_comm (A B : sProp (MM F)) : iprop(A ∗ B) = iprop(B ∗ A) := BI.Entails.antisymm (sep_comm_le A B) (sep_comm_le B A)

theorem sep_assoc_le (A B C : sProp (MM F)) : iprop((A ∗ B) ∗ C) ⊢ iprop(A ∗ (B ∗ C)) := by
  iintro ⟨⟨HA, HB⟩, HC⟩
  isplitl [HA]; · iexact HA
  isplitl [HB]; · iexact HB
  iexact HC

theorem sep_assoc_ge (A B C : sProp (MM F)) : iprop(A ∗ (B ∗ C)) ⊢ iprop((A ∗ B) ∗ C) := by
  iintro ⟨HA, HB, HC⟩
  isplitr [HC]
  · isplitl [HA]; · iexact HA
    iexact HB
  iexact HC

theorem sep_eq_assoc (A B C : sProp (MM F)) : iprop((A ∗ B) ∗ C) = iprop(A ∗ (B ∗ C)) :=
  BI.Entails.antisymm (sep_assoc_le A B C) (sep_assoc_ge A B C)

theorem emp_sep_eq (A : sProp (MM F)) : iprop(emp ∗ A) = A := BI.equiv_iff.mp BI.emp_sep

theorem sep_eq_swap (A B C D : sProp (MM F)) : iprop((A ∗ B) ∗ (C ∗ D)) = iprop((A ∗ C) ∗ (B ∗ D)) := by
  rw [sep_eq_assoc, ← sep_eq_assoc B, sep_eq_comm B C, sep_eq_assoc C, ← sep_eq_assoc A]

theorem many_shift (Φ : ℕ → sProp (MM F)) (n : ℕ) : ∀ g, many (fun i => Φ (i + 1)) n g = many Φ n (g + 1) := by
  induction n with
  | zero => exact fun _ => rfl
  | succ n ih =>
    intro g
    show iprop(Φ (g + 1) ∗ many (fun i => Φ (i + 1)) n (g + 1)) = iprop(Φ (g + 1) ∗ many Φ n (g + 1 + 1))
    rw [ih]

theorem many_sep (A B : ℕ → sProp (MM F)) (n : ℕ) : ∀ g, many (fun i => iprop(A i ∗ B i)) n g = iprop(many A n g ∗ many B n g) := by
  induction n with
  | zero => exact fun _ => (emp_sep_eq _).symm
  | succ n ih =>
    intro g
    show iprop((A g ∗ B g) ∗ many (fun i => iprop(A i ∗ B i)) n (g + 1)) = iprop((A g ∗ many A n (g + 1)) ∗ (B g ∗ many B n (g + 1)))
    rw [ih, sep_eq_swap]

theorem many_snoc (Φ : ℕ → sProp (MM F)) (n : ℕ) : ∀ g, many Φ (n + 1) g = iprop(many Φ n g ∗ Φ (g + n)) := by
  induction n with
  | zero => exact fun g => sep_eq_comm _ _
  | succ n ih =>
    intro g
    show iprop(Φ g ∗ many Φ (n + 1) (g + 1)) = iprop((Φ g ∗ many Φ n (g + 1)) ∗ Φ (g + (n + 1)))
    rw [ih, sep_eq_assoc, show g + 1 + n = g + (n + 1) by omega]

theorem many_congr {A B : ℕ → sProp (MM F)} (h : ∀ i, A i = B i) (n g : ℕ) : many A n g = many B n g := by
  rw [funext h]

/-- Numbers below `n`. -/
theorem many_fin (Φ : ℕ → sProp (MM F)) (n : ℕ) : (bigSep Finset.univ fun i : Fin n => Φ i.val) = many Φ n 0 := by
  rw [Ring.bigSep_fin_eq_range n _ Φ fun _ _ => rfl]
  induction n with
  | zero => rw [Finset.range_zero, BI.bigSep_empty]; rfl
  | succ n ih =>
    rw [Finset.range_add_one, bigSep_insert Finset.notMem_range_self, ih, many_snoc, Nat.zero_add]
    exact sep_eq_comm _ _

theorem two_sep (A B : Bool → sProp (MM F)) : two (fun ℓ => iprop(A ℓ ∗ B ℓ)) = iprop(two A ∗ two B) := sep_eq_swap _ _ _ _

/-! ## What a device is owed -/

/-- What a device is owed when each device owes its list. -/
def due (l : Dev nD → List Ob) (c : Dev nD) : sProp (MM F) := Pipeline.launchCred (fun d => tally (l d)) c

/-- One thing owed by each device to one of its neighbours is one thing owed to each device. -/
theorem due_cons (f f' : Dev nD → Dev nD) (h1 : ∀ c, f (f' c) = c) (h2 : ∀ c, f' (f c) = c) (k : Kd) (h : ℕ) (l : Dev nD → List Ob) (c : Dev nD) :
    (due (fun d => (f d, k, h) :: l d) c : sProp (MM F)) ⊢ iprop(cred (tallyAt (cell c k) h (amountK k)) ∗ due l c) := by
  have e : (due (fun d => (f d, k, h) :: l d) c : sProp (MM F))
      = iprop(due l c ∗ Pipeline.launchCred (fun d => tallyAt (cell (f d) k) h (amountK k)) c) :=
    Pipeline.launchCred_add (fun d => tally (l d)) (fun d => tallyAt (cell (f d) k) h (amountK k)) c
  rw [e]
  iintro ⟨Hl, H⟩
  isplitl [H]
  · iapply (Pipeline.launchCred_tallyAt (semOf k) f f' h1 h2 h (amountK k) c); iexact H
  iexact Hl

theorem due_send (ℓ : Bool) (h : ℕ) (j : Fin 4) (l : Dev nD → List Ob) (c : Dev nD) :
    (due (fun d => sendOb d ℓ h j :: l d) c : sProp (MM F)) ⊢ iprop(Cr c ℓ h j ∗ due l c) :=
  due_cons (dn ℓ) (up ℓ) (dn_up ℓ) (up_dn ℓ) _ h l c

theorem due_crd (ℓ : Bool) (h : ℕ) (l : Dev nD → List Ob) (c : Dev nD) :
    (due (fun d => crdOb d ℓ h :: l d) c : sProp (MM F)) ⊢ iprop(Cc c ℓ (h + 1) ∗ due l c) :=
  due_cons (up ℓ) (dn ℓ) (up_dn ℓ) (dn_up ℓ) _ (h + 1) l c

theorem due_sends (h : ℕ) (l : Dev nD → List Ob) (c : Dev nD) :
    (due (fun d => obsSend d h (l d)) c : sProp (MM F)) ⊢ iprop(two (fun ℓ => four (Cr c ℓ h)) ∗ due l c) := by
  unfold two four
  iintro H
  ihave H := (due_send true h 0 _ c) $$ H
  icases H with ⟨A0, H⟩
  ihave H := (due_send false h 0 _ c) $$ H
  icases H with ⟨B0, H⟩
  ihave H := (due_send true h 1 _ c) $$ H
  icases H with ⟨A1, H⟩
  ihave H := (due_send false h 1 _ c) $$ H
  icases H with ⟨B1, H⟩
  ihave H := (due_send true h 2 _ c) $$ H
  icases H with ⟨A2, H⟩
  ihave H := (due_send false h 2 _ c) $$ H
  icases H with ⟨B2, H⟩
  ihave H := (due_send true h 3 _ c) $$ H
  icases H with ⟨A3, H⟩
  ihave H := (due_send false h 3 _ c) $$ H
  icases H with ⟨B3, H⟩
  isplitr [H]
  · isplitl [A0 A1 A2 A3]
    · isplitl [A0]; · iexact A0
      isplitl [A1]; · iexact A1
      isplitl [A2]; · iexact A2
      iexact A3
    isplitl [B0]; · iexact B0
    isplitl [B1]; · iexact B1
    isplitl [B2]; · iexact B2
    iexact B3
  iexact H

theorem due_mid (h : ℕ) (l : Dev nD → List Ob) (c : Dev nD) :
    (due (fun d => obsMid d h (l d)) c : sProp (MM F))
      ⊢ iprop(two (fun ℓ => four (Cr c ℓ h)) ∗ two (fun ℓ => Cc c ℓ (h + 1)) ∗ due l c) := by
  iintro H
  ihave H := (due_sends h (fun d => crdOb d true h :: crdOb d false h :: l d) c) $$ H
  icases H with ⟨A, H⟩
  ihave H := (due_crd true h (fun d => crdOb d false h :: l d) c) $$ H
  icases H with ⟨B, H⟩
  ihave H := (due_crd false h l c) $$ H
  icases H with ⟨C, H⟩
  unfold two
  isplitl [A]; · iexact A
  isplitr [H]
  · isplitl [B]; · iexact B
    iexact C
  iexact H

theorem due_hops (l : Dev nD → List Ob) (c : Dev nD) (n : ℕ) : ∀ g,
    (due (fun d => obsHops d n g (l d)) c : sProp (MM F))
      ⊢ iprop(many (fun h => two (fun ℓ => four (Cr c ℓ h))) n (g + 1) ∗ many (fun h => two (fun ℓ => Cc c ℓ h)) n (g + 2) ∗ due l c) := by
  induction n with
  | zero =>
    intro g
    show (due l c : sProp (MM F)) ⊢ iprop(emp ∗ emp ∗ due l c)
    iintro H
    isplitr; · iempintro
    isplitr; · iempintro
    iexact H
  | succ n ih =>
    intro g
    have t := ih (g + 1)
    show (due (fun d => obsMid d (g + 1) (obsHops d n (g + 1) (l d))) c : sProp (MM F)) ⊢ _
    iintro H
    ihave H := (due_mid (g + 1) (fun d => obsHops d n (g + 1) (l d)) c) $$ H
    icases H with ⟨A, B, H⟩
    ihave H := t $$ H
    icases H with ⟨A', B', H⟩
    isplitl [A A']
    · iapply (Entails.of_eq (show iprop(two (fun ℓ => four (Cr c ℓ (g + 1))) ∗ many (fun h => two (fun ℓ => four (Cr c ℓ h))) n (g + 1 + 1))
        = (many (fun h => two (fun ℓ => four (Cr c ℓ h))) (n + 1) (g + 1) : sProp (MM F)) from rfl))
      isplitl [A]; · iexact A
      iexact A'
    isplitl [B B']
    · iapply (Entails.of_eq (show iprop(two (fun ℓ => Cc c ℓ (g + 1 + 1)) ∗ many (fun h => two (fun ℓ => Cc c ℓ h)) n (g + 1 + 2))
        = (many (fun h => two (fun ℓ => Cc c ℓ h)) (n + 1) (g + 2) : sProp (MM F)) from rfl))
      isplitl [B]; · iexact B
      iexact B'
    iexact H

/-- What the launch owes a device. -/
def Dues (F : FTy → Type) [FloatOps F] (c : Dev nD) : sProp (MM F) :=
  iprop(cred (tallyAt (cell c .bar) 0 2) ∗ many (fun h => two (fun ℓ => four (Cr c ℓ h))) 15 0 ∗ many (fun h => two (fun ℓ => Cc c ℓ h)) 14 2 ∗ Cr15 F c)

theorem dues (c : Dev nD) : (due obsAll c : sProp (MM F)) ⊢ Dues F c := by
  unfold Dues Cr15
  show (due (fun d => (dn true d, .bar, 0) :: (dn false d, .bar, 0) :: obsSend d 0 (obsMid d 1 (obsHops d 13 1 (obsLast d)))) c : sProp (MM F)) ⊢ _
  iintro H
  ihave H := (due_cons (dn true) (up true) (dn_up true) (up_dn true) .bar 0
    (fun d => (dn false d, .bar, 0) :: obsSend d 0 (obsMid d 1 (obsHops d 13 1 (obsLast d)))) c) $$ H
  icases H with ⟨A, H⟩
  ihave H := (due_cons (dn false) (up false) (dn_up false) (up_dn false) .bar 0
    (fun d => obsSend d 0 (obsMid d 1 (obsHops d 13 1 (obsLast d)))) c) $$ H
  icases H with ⟨B, H⟩
  ihave H := (due_sends 0 (fun d => obsMid d 1 (obsHops d 13 1 (obsLast d))) c) $$ H
  icases H with ⟨S0, H⟩
  ihave H := (due_mid 1 (fun d => obsHops d 13 1 (obsLast d)) c) $$ H
  icases H with ⟨S1, C2, H⟩
  ihave H := (due_hops obsLast c 13 1) $$ H
  icases H with ⟨SS, CC, H⟩
  ihave H := (due_send true 15 0 _ c) $$ H
  icases H with ⟨L0, H⟩
  ihave H := (due_send true 15 1 _ c) $$ H
  icases H with ⟨L1, H⟩
  ihave H := (due_send false 15 2 _ c) $$ H
  icases H with ⟨L2, H⟩
  ihave H := (due_send false 15 3 _ c) $$ H
  icases H with ⟨L3, -⟩
  have eb : (tallyAt (cell c .bar) 0 2 : CellTallies nD τ sig ℕ) = tallyAt (cell c .bar) 0 (amountK .bar) + tallyAt (cell c .bar) 0 (amountK .bar) := by
    show (tallyAt (cell c .bar) 0 (1 + 1) : CellTallies nD τ sig ℕ) = tallyAt (cell c .bar) 0 1 + tallyAt (cell c .bar) 0 1
    rw [tallyAt_add]
  isplitl [A B]
  · rw [eb]
    iapply (cred_add (tallyAt (cell c .bar) 0 (amountK .bar)) (tallyAt (cell c .bar) 0 (amountK .bar))).2
    isplitl [A]; · iexact A
    iexact B
  isplitl [S0 S1 SS]
  · iapply (Entails.of_eq (show iprop(two (fun ℓ => four (Cr c ℓ 0)) ∗ two (fun ℓ => four (Cr c ℓ 1)) ∗ many (fun h => two (fun ℓ => four (Cr c ℓ h))) 13 2)
        = (many (fun h => two (fun ℓ => four (Cr c ℓ h))) 15 0 : sProp (MM F)) from rfl))
    isplitl [S0]; · iexact S0
    isplitl [S1]; · iexact S1
    iexact SS
  isplitl [C2 CC]
  · iapply (Entails.of_eq (show iprop(two (fun ℓ => Cc c ℓ 2) ∗ many (fun h => two (fun ℓ => Cc c ℓ h)) 13 3)
        = (many (fun h => two (fun ℓ => Cc c ℓ h)) 14 2 : sProp (MM F)) from rfl))
    isplitl [C2]; · iexact C2
    iexact CC
  isplitl [L0 L1]
  · isplitl [L0]; · iexact L0
    iexact L1
  isplitl [L2]; · iexact L2
  iexact L3

/-! ## What a device may pay with -/

/-- The tokens of what a device pays. -/
def Pays (F : FTy → Type) [FloatOps F] (c : Dev nD) : sProp (MM F) :=
  iprop(two (fun ℓ => dutyTok ER (cell (dn ℓ c) .bar) 0 (if ℓ then 0 else 1)) ∗ many (fun h => two (fun ℓ => four (Tk c ℓ h))) 16 0
    ∗ many (fun g => two (fun ℓ => dutyTok ER (cell (up ℓ c) (.crd ℓ)) 0 (g + 2))) 14 0)

/-- A device's places at the slots. -/
def Reads (F : FTy → Type) [FloatOps F] (c : Dev nD) : sProp (MM F) := many (fun g => two (fun ℓ => readerAt ES (c, ℓ, g + 2) 0)) 14 0

/-- A device's writes to its neighbours' slots. -/
def Writes (F : FTy → Type) [FloatOps F] (c : Dev nD) : sProp (MM F) := many (fun g => two (fun ℓ => writeTok ES (dn ℓ c, ℓ, g + 2) 1)) 14 0

theorem packA_eq (c : Dev nD) (g : ℕ) :
    (two (fun ℓ => PackA c ℓ g) : sProp (MM F))
      = iprop(two (fun ℓ => four (Tk c ℓ (g + 1))) ∗ two (fun ℓ => four (Cr c ℓ g)) ∗ two (fun ℓ => dutyTok ER (cell (up ℓ c) (.crd ℓ)) 0 (g + 2))
          ∗ two (fun ℓ => readerAt ES (c, ℓ, g + 2) 0)) := by
  rw [← two_sep, ← two_sep, ← two_sep]
  rfl

theorem packC_eq (c : Dev nD) (h : ℕ) :
    (two (fun ℓ => PackC c ℓ h) : sProp (MM F)) = iprop(two (fun ℓ => writeTok ES (dn ℓ c, ℓ, h) 1) ∗ two (fun ℓ => Cc c ℓ h)) := two_sep _ _

theorem packs_eq (c : Dev nD) (n : ℕ) : ∀ g,
    (packs c n g : sProp (MM F)) = many (fun g => iprop(two (fun ℓ => PackA c ℓ g) ∗ two (fun ℓ => PackC c ℓ (g + 1)))) n g := by
  induction n with
  | zero => exact fun _ => rfl
  | succ n ih =>
    intro g
    show iprop((two (fun ℓ => PackA c ℓ g) ∗ two (fun ℓ => PackC c ℓ (g + 1))) ∗ packs c n (g + 1)) = _
    rw [ih]
    rfl

theorem packsA (c : Dev nD) :
    iprop(many (fun h => two (fun ℓ => four (Tk c ℓ h))) 14 1 ∗ many (fun h => two (fun ℓ => four (Cr c ℓ h))) 14 0
        ∗ many (fun g => two (fun ℓ => dutyTok ER (cell (up ℓ c) (.crd ℓ)) 0 (g + 2))) 14 0 ∗ Reads F c)
      = (many (fun g => two (fun ℓ => PackA c ℓ g)) 14 0 : sProp (MM F)) := by
  rw [← many_shift, many_congr (packA_eq c), many_sep, many_sep, many_sep]
  rfl

theorem packsC (c : Dev nD) :
    iprop(Writes F c ∗ many (fun h => two (fun ℓ => Cc c ℓ h)) 14 2) = (many (fun h => two (fun ℓ => PackC c ℓ h)) 14 2 : sProp (MM F)) := by
  rw [many_congr (packC_eq c), many_sep]
  have e : (many (fun h => two (fun ℓ => writeTok ES (dn ℓ c, ℓ, h) 1)) 14 2 : sProp (MM F)) = Writes F c := by
    unfold Writes
    rw [← many_shift, ← many_shift]
  rw [e]

theorem toks_mk (c : Dev nD) :
    iprop(Pays F c ∗ Dues F c ∗ Reads F c ∗ Writes F c ∗ two (fun ℓ => reached ER (cell (dn ℓ c) .bar) 0)) ⊢ Toks F c := by
  have eT : (many (fun h => two (fun ℓ => four (Tk c ℓ h))) 16 0 : sProp (MM F))
      = iprop((two (fun ℓ => four (Tk c ℓ 0)) ∗ many (fun h => two (fun ℓ => four (Tk c ℓ h))) 14 1) ∗ two (fun ℓ => four (Tk c ℓ 15))) :=
    many_snoc _ 15 0
  have eR : (many (fun h => two (fun ℓ => four (Cr c ℓ h))) 15 0 : sProp (MM F))
      = iprop(many (fun h => two (fun ℓ => four (Cr c ℓ h))) 14 0 ∗ two (fun ℓ => four (Cr c ℓ 14))) := many_snoc _ 14 0
  have eA : (many (fun g => two (fun ℓ => PackA c ℓ g)) 14 0 : sProp (MM F))
      = iprop(two (fun ℓ => PackA c ℓ 0) ∗ many (fun g => two (fun ℓ => PackA c ℓ g)) 13 1) := rfl
  have eC : (many (fun h => two (fun ℓ => PackC c ℓ h)) 14 2 : sProp (MM F))
      = iprop(many (fun h => two (fun ℓ => PackC c ℓ (h + 1))) 13 1 ∗ two (fun ℓ => PackC c ℓ 15)) := by
    rw [many_snoc, many_shift (fun h => two (fun ℓ => PackC c ℓ h))]
  have eP : (packs c 13 1 : sProp (MM F))
      = iprop(many (fun g => two (fun ℓ => PackA c ℓ g)) 13 1 ∗ many (fun h => two (fun ℓ => PackC c ℓ (h + 1))) 13 1) := by
    rw [packs_eq, many_sep]
  have pA := Entails.of_eq (packsA (F := F) c)
  have pC := Entails.of_eq (packsC (F := F) c)
  rw [eA] at pA
  rw [eC] at pC
  unfold Pays Dues Toks
  rw [eT, eR, eP]
  iintro ⟨⟨PB, ⟨⟨T0, TT⟩, T15⟩, PC⟩, ⟨DB, ⟨RR, R14⟩, CC, R15⟩, HR, HW, Hb⟩
  ihave HA := pA $$ [TT RR PC HR]
  · isplitl [TT]; · iexact TT
    isplitl [RR]; · iexact RR
    isplitl [PC]; · iexact PC
    iexact HR
  icases HA with ⟨A0, AA⟩
  ihave HC := pC $$ [HW CC]
  · isplitl [HW]; · iexact HW
    iexact CC
  icases HC with ⟨HC, C15⟩
  isplitl [PB Hb]
  · iapply (Entails.of_eq (two_sep (F := F) (fun ℓ => dutyTok ER (cell (dn ℓ c) .bar) 0 (if ℓ then 0 else 1)) fun ℓ => reached ER (cell (dn ℓ c) .bar) 0).symm)
    isplitl [PB]; · iexact PB
    iexact Hb
  isplitl [DB]; · iexact DB
  isplitl [T0]; · iexact T0
  isplitl [A0]; · iexact A0
  isplitl [AA HC]
  · isplitl [AA]; · iexact AA
    iexact HC
  isplitl [C15]; · iexact C15
  isplitl [R14]; · iexact R14
  isplitl [T15]
  · unfold Tk15 two four
    icases T15 with ⟨⟨A, B, -⟩, ⟨-, -, C, D⟩⟩
    isplitl [A B]
    · isplitl [A]; · iexact A
      iexact B
    isplitl [C]; · iexact C
    iexact D
  iexact R15

end Cert.KernelIdeal.Ring

end
-- ==== Proof.Ideal.Tokens.lean ====
/- The launch's tokens, slots and cells, dealt around the ring. -/
module

public import proofs.«01_k».proof.Proof.Ideal.Deal

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

/-- Who pays: a device and which of its payments. -/
abbrev Pay : Type := Bool ⊕ ((Fin 16 × Bool × Fin 4 × Bool) ⊕ (Fin 14 × Bool))

/-- The duty a payment discharges: the cell's device and kind, the round, the duty. -/
def dutyOf (c : Dev nD) : Pay → (Dev nD × Kd) × ℕ × ℕ
  | .inl ℓ => ((dn ℓ c, .bar), 0, if ℓ then 0 else 1)
  | .inr (.inl (h, ℓ, j, true)) => ((c, .snd ℓ (slotOf h.val) j), h.val / 2, 0)
  | .inr (.inl (h, ℓ, j, false)) => ((dn ℓ c, .rcv ℓ (slotOf (h.val + 1)) j), h.val / 2, 0)
  | .inr (.inr (g, ℓ)) => ((up ℓ c, .crd ℓ), 0, g.val + 2)

theorem dn_inj (ℓ : Bool) {c c' : Dev nD} (h : dn ℓ c = dn ℓ c') : c = c' := by
  rw [← up_dn ℓ c, h, up_dn]

theorem up_inj (ℓ : Bool) {c c' : Dev nD} (h : up ℓ c = up ℓ c') : c = c' := by
  rw [← dn_up ℓ c, h, dn_up]

/-- A hop is known by its slot and its half. -/
theorem hop_eq {h h' : ℕ} (a : slotOf h = slotOf h') (b : h / 2 = h' / 2) : h = h' := by
  have a := congrArg Fin.val a
  have a : h % 2 = h' % 2 := a
  omega

theorem hop_eq' {h h' : ℕ} (a : slotOf (h + 1) = slotOf (h' + 1)) (b : h / 2 = h' / 2) : h = h' := by
  have a := congrArg Fin.val a
  have a : (h + 1) % 2 = (h' + 1) % 2 := a
  omega

/-- No two payments discharge one duty. -/
theorem dutyOf_inj : Function.Injective fun p : Dev nD × Pay => dutyOf p.1 p.2 := by
  rintro ⟨c, ℓ | ⟨h, ℓ, j, _ | _⟩ | ⟨g, ℓ⟩⟩ ⟨c', ℓ' | ⟨h', ℓ', j', _ | _⟩ | ⟨g', ℓ'⟩⟩ e <;>
    simp only [dutyOf, Prod.mk.injEq, Kd.rcv.injEq, Kd.snd.injEq, Kd.crd.injEq, reduceCtorEq, and_false, false_and, and_true, true_and, add_left_inj] at e
  · have hℓ : ℓ = ℓ' := by
      revert e; cases ℓ <;> cases ℓ' <;> simp
    subst hℓ
    rw [dn_inj ℓ e.1]
  · obtain ⟨⟨a, rfl, b, rfl⟩, d⟩ := e
    rw [dn_inj ℓ a, Fin.ext (hop_eq' b d)]
  · obtain ⟨⟨rfl, rfl, b, rfl⟩, d⟩ := e
    rw [Fin.ext (hop_eq b d)]
  · obtain ⟨⟨a, rfl⟩, d⟩ := e
    rw [up_inj ℓ a, Fin.ext d]

/-- Every duty of the ring. -/
def toks : Finset (GSem nD τ sig × ℕ × ℕ) :=
  Finset.univ.map ⟨fun p : Dev nD × Pay => (cell (dutyOf p.1 p.2).1.1 (dutyOf p.1 p.2).1.2, (dutyOf p.1 p.2).2), fun _ _ h =>
    dutyOf_inj (Prod.ext (cell_injective (congrArg (fun z : GSem nD τ sig × ℕ × ℕ => z.1) h)) (congrArg (fun z : GSem nD τ sig × ℕ × ℕ => z.2) h))⟩

/-- The duties' tokens, dealt to the devices that pay. -/
theorem toks_eq : (bigSep toks fun x => (dutyTok ER x.1 x.2.1 x.2.2 : sProp (MM F))) = bigSep Finset.univ fun c : Dev nD => Pays F c := by
  unfold toks
  rw [bigSep_map, bigSep_univ_prod]
  refine bigSep_congr fun c _ => ?_
  have e1 : (fun i : Fin 16 => bigSep Finset.univ fun b : Bool × Fin 4 × Bool =>
        (dutyTok ER (cell (dutyOf c (.inr (.inl (i, b)))).1.1 (dutyOf c (.inr (.inl (i, b)))).1.2) (dutyOf c (.inr (.inl (i, b)))).2.1 (dutyOf c (.inr (.inl (i, b)))).2.2 : sProp (MM F)))
      = fun i : Fin 16 => (fun h => two (fun ℓ => four (Tk c ℓ h))) i.val := funext fun i => by
    have e (ℓ : Bool) : (bigSep Finset.univ fun b : Fin 4 × Bool =>
        (dutyTok ER (cell (dutyOf c (.inr (.inl (i, ℓ, b)))).1.1 (dutyOf c (.inr (.inl (i, ℓ, b)))).1.2) (dutyOf c (.inr (.inl (i, ℓ, b)))).2.1 (dutyOf c (.inr (.inl (i, ℓ, b)))).2.2 : sProp (MM F)))
        = four (Tk c ℓ i.val) := by
      rw [bigSep_univ_prod, bigSep_four]
      refine congrArg four (funext fun j => ?_)
      rw [bigSep_bool']
      rfl
    rw [bigSep_univ_prod, bigSep_bool']
    exact congrArg₂ BI.sep (e true) (e false)
  have e2 : (fun i : Fin 14 => bigSep Finset.univ fun ℓ : Bool =>
        (dutyTok ER (cell (dutyOf c (.inr (.inr (i, ℓ)))).1.1 (dutyOf c (.inr (.inr (i, ℓ)))).1.2) (dutyOf c (.inr (.inr (i, ℓ)))).2.1 (dutyOf c (.inr (.inr (i, ℓ)))).2.2 : sProp (MM F)))
      = fun i : Fin 14 => (fun g => two (fun ℓ => dutyTok ER (cell (up ℓ c) (.crd ℓ)) 0 (g + 2))) i.val := funext fun i => by
    rw [bigSep_bool']
    rfl
  have e3 : (bigSep Finset.univ fun ℓ : Bool =>
        (dutyTok ER (cell (dutyOf c (.inl ℓ)).1.1 (dutyOf c (.inl ℓ)).1.2) (dutyOf c (.inl ℓ)).2.1 (dutyOf c (.inl ℓ)).2.2 : sProp (MM F)))
      = two (fun ℓ => dutyTok ER (cell (dn ℓ c) .bar) 0 (if ℓ then 0 else 1)) := bigSep_bool' _
  show (bigSep Finset.univ fun x : Pay => (dutyTok ER (cell (dutyOf c x).1.1 (dutyOf c x).1.2) (dutyOf c x).2.1 (dutyOf c x).2.2 : sProp (MM F))) = _
  rw [bigSep_univ_sum, bigSep_univ_sum, bigSep_univ_prod, bigSep_univ_prod, e1, e2, e3,
    many_fin (fun h => two (fun ℓ => four (Tk c ℓ h))) 16,
    many_fin (fun g => two (fun ℓ => dutyTok ER (cell (up ℓ c) (.crd ℓ)) 0 (g + 2))) 14]
  rfl

/-! ## The slots -/

/-- The keys of the slots around the ring, each listed by the device at `q` of it. -/
theorem keys_eq (p q : Bool → Dev nD → Dev nD) (hqp : ∀ ℓ c, q ℓ (p ℓ c) = c) (hpq : ∀ ℓ c, p ℓ (q ℓ c) = c) (Φ : Key → sProp (MM F)) :
    bigSep keys Φ = bigSep Finset.univ fun c : Dev nD => many (fun g => two (fun ℓ => Φ (p ℓ c, ℓ, g + 2))) 14 0 := by
  have e : keys = (Finset.univ : Finset (Dev nD × Fin 14 × Bool)).map ⟨fun x => (p x.2.2 x.1, x.2.2, x.2.1.val + 2), by
      rintro ⟨c, i, ℓ⟩ ⟨c', i', ℓ'⟩ h
      simp only [Prod.mk.injEq] at h
      obtain ⟨a, rfl, b⟩ := h
      have a := congrArg (q ℓ) a
      rw [hqp, hqp] at a
      rw [a, Fin.ext (Nat.add_right_cancel b)]⟩ := by
    ext ⟨d, ℓ, n⟩
    simp only [keys, Finset.mem_product, Finset.mem_univ, true_and, Finset.mem_Icc, Finset.mem_map, Function.Embedding.coeFn_mk]
    constructor
    · intro h
      refine ⟨(q ℓ d, ⟨n - 2, by omega⟩, ℓ), ?_⟩
      exact Prod.ext (hpq ℓ d) (Prod.ext rfl (by show n - 2 + 2 = n; omega))
    · rintro ⟨⟨c, i, ℓ'⟩, h⟩
      have h : i.val + 2 = n := congrArg (fun z : Key => z.2.2) h
      have := i.isLt
      omega
  rw [e, bigSep_map, bigSep_univ_prod]
  refine bigSep_congr fun c _ => ?_
  rw [bigSep_univ_prod]
  refine Eq.trans (bigSep_congr fun i _ => bigSep_bool' _) ?_
  exact many_fin (fun g => two (fun ℓ => Φ (p ℓ c, ℓ, g + 2))) 14

/-- The devices' places at their slots. -/
theorem reads_eq : (bigSep keys fun k => (readerAt ES k 0 : sProp (MM F))) = bigSep Finset.univ fun c : Dev nD => Reads F c :=
  keys_eq (fun _ c => c) (fun _ c => c) (fun _ _ => rfl) (fun _ _ => rfl) fun k => readerAt ES k 0

/-- The writes to the slots, dealt to the devices that write. -/
theorem writes_eq : (bigSep (keys ×ˢ Finset.range 1) fun x => (writeTok ES x.1 (x.2 + 1) : sProp (MM F))) = bigSep Finset.univ fun c : Dev nD => Writes F c := by
  rw [Finset.range_one, Finset.product_singleton, bigSep_map]
  exact keys_eq dn up up_dn dn_up fun k => writeTok ES k 1

/-! ## The cells -/

def barEmb : Dev nD ↪ GSem nD τ sig := ⟨fun c => cell c .bar, fun _ _ h => congrArg Prod.fst (cell_injective (a₁ := (_, Kd.bar)) (a₂ := (_, Kd.bar)) h)⟩
def ownEmb : Dev nD × KO ↪ GSem nD τ sig := ⟨fun p => cell p.1 p.2.1, fun p p' h => by
  have e := cell_injective (a₁ := (p.1, p.2.1)) (a₂ := (p'.1, p'.2.1)) h
  exact Prod.ext (congrArg (fun z : Dev nD × Kd => z.1) e) (Subtype.ext (congrArg (fun z : Dev nD × Kd => z.2) e))⟩

/-- The barrier's cells. -/
def barCells : Finset (GSem nD τ sig) := Finset.univ.map barEmb
/-- The region's own cells. -/
def ownCells : Finset (GSem nD τ sig) := Finset.univ.map ownEmb

theorem cells_disjoint : Disjoint barCells ownCells := by
  rw [Finset.disjoint_left]
  intro g h₁ h₂
  obtain ⟨c, -, rfl⟩ := Finset.mem_map.mp h₁
  obtain ⟨p, -, h⟩ := Finset.mem_map.mp h₂
  exact p.2.2 (congrArg Prod.snd (cell_injective (a₁ := (p.1, p.2.1)) (a₂ := (c, Kd.bar)) h))

/-- All the cells. -/
theorem cells_all : barCells ∪ ownCells = (Finset.univ : Finset (Dev nD × Kd)).map ⟨fun p => cell p.1 p.2, cell_injective⟩ := by
  ext g
  simp only [Finset.mem_union, barCells, ownCells, Finset.mem_map, Finset.mem_univ, true_and]
  constructor
  · rintro (⟨c, rfl⟩ | ⟨p, rfl⟩)
    · exact ⟨(c, .bar), rfl⟩
    · exact ⟨(p.1, p.2.1), rfl⟩
  · rintro ⟨⟨c, k⟩, rfl⟩
    by_cases h : k = .bar
    · subst h; exact .inl ⟨c, rfl⟩
    · exact .inr ⟨(c, ⟨k, h⟩), rfl⟩

end Cert.KernelIdeal.Ring

end
-- ==== Proof.Ideal.Launch.lean ====
/- The launch: the ring's invariants allocated, and every device's start. -/
module

public import proofs.«01_k».proof.Proof.Ideal.Record
public import proofs.«01_k».proof.Proof.Ideal.Tokens

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable (m : (l : Loc nD τ sig) → Buf (Elt F) l) (ρ : Dev nD → PrngReg)

/-- The ring's launch element: its rounds and its slots. -/
abbrev ringEl : UT × USlots Key := (launchOf barCells ownCells toks, initSlots keys 1)

/-- The launch element. -/
def u₀ : UU :=
  (initOf (Pipeline.cells (Pipeline.pin (pcfgs (F := F)) adm) cellOf_inj) (Pipeline.launchToks (Pipeline.pin (pcfgs (F := F)) adm) cellOf_inj), ringEl)

/-- The ring's launch element owned. -/
def ringOwn (F : FTy → Type) [FloatOps F] : sProp (MM F) :=
  iprop(BI.own (ER (launchOf barCells ownCells toks)) ∗ BI.own (ES (initSlots keys 1)))

/-- The ring's launch element, on the first device until the launch deals it out. -/
def G (F : FTy → Type) [FloatOps F] (c : Dev nD) : sProp (MM F) := if c = 0 then ringOwn F else iprop(emp)

theorem G_all : (bigSep Finset.univ fun c : Dev nD => G F c) = ringOwn F := by
  rw [bigSep_univ_at _ (0 : Dev nD), bigSep_congr (s := Finset.univ.erase (0 : Dev nD)) (Ψ := fun _ => (BI.emp : sProp (MM F)))
      fun c hc => by unfold G; rw [if_neg (Finset.ne_of_mem_erase hc)]; rfl, BI.bigSep_emp_const]
  unfold G
  rw [if_pos rfl]
  exact BI.equiv_iff.mp BI.sep_emp

theorem launch_split : (ownU (u₀ (F := F)) : sProp (MM F))
    ⊢ |={Set.univ}=> iprop(BI.own (EP (initOf (Pipeline.cells (Pipeline.pin (pcfgs (F := F)) adm) cellOf_inj) (Pipeline.launchToks (Pipeline.pin (pcfgs (F := F)) adm) cellOf_inj)))
        ∗ bigSep Finset.univ (G F)) := by
  unfold u₀
  iintro Hu
  ihave H := (ownU_pair _ _) $$ Hu
  icases H with ⟨HP, HX⟩
  ihave HX := (own_pair_emb (embR : Emb (UT × USlots Key) (MM F)) (launchOf barCells ownCells toks) (initSlots keys 1)) $$ HX
  imodintro
  isplitl [HP]; · iexact HP
  rw [show bigSep Finset.univ (G F) = ringOwn F from G_all]
  unfold ringOwn
  iexact HX

/-- What stays with device `c` of the ring's launch. -/
def linear (F : FTy → Type) [FloatOps F] (c : Dev nD) : sProp (MM F) :=
  iprop(atPos ER (cell c .bar) 0 ∅ 0 ∗ (bigSep Finset.univ fun k : KO => openTok ER (cell c k.1)) ∗ Pays F c ∗ Reads F c ∗ Writes F c)

/-- What of device `c`'s launch is not the ring's. -/
def bundle (c : Dev nD) : sProp (MM F) :=
  iprop(StableHlo.held (c : Thread nD τ) (Pipeline.ucRefs τ sig) (V0 m c) ∗ Dues F c ∗ owes (c : Thread nD τ) (tally (obsAll c)) ∅ ∗ ∃ r, prngReg c r)

/-- What every device may consult. -/
def records (κ : GSem nD τ sig → ℕ) (ιs : Key → ℕ) : sProp (MM F) :=
  iprop(Ctx (dX m) κ ιs ∗ bigSep Finset.univ fun c : Dev nD => reached ER (cell c .bar) 0)

instance records_persistent (κ : GSem nD τ sig → ℕ) (ιs : Key → ℕ) : BI.Persistent (records m κ ιs) := by unfold records; infer_instance

/-- The state every device starts in. -/
abbrev T₀ (c : Dev nD) : sProp (MM F) := iprop(StableHlo.held (c : Thread nD τ) (Pipeline.ucRefs τ sig) (V0 m c) ∗ E0 m c)

theorem reached_bar (c : Dev nD) : (bigSep Finset.univ fun c : Dev nD => (reached ER (cell c .bar) 0 : sProp (MM F))) ⊢ reached ER (cell c .bar) 0 :=
  bigSep_elim (Finset.mem_univ c)

theorem T₀_intro (κ : GSem nD τ sig → ℕ) (ιs : Key → ℕ) (c : Dev nD) : iprop(records m κ ιs ∗ (linear F c ∗ bundle m c)) ⊢ T₀ m c := by
  unfold records linear bundle T₀ E0 Tk0 Owe
  iintro ⟨⟨#HC, #HR⟩, ⟨Ha, Ho, HP, Hr, Hw⟩, Hh, Hd, HO, Hp⟩
  isplitl [Hh]; · iexact Hh
  isplitl [Ha Ho HP Hr Hw Hd]
  · iexists κ; iexists ιs
    isplitr; · iexact HC
    isplitl [Ha]; · iexact Ha
    isplitl [Ho]; · iexact Ho
    iapply (toks_mk (F := F) c)
    isplitl [HP]; · iexact HP
    isplitl [Hd]; · iexact Hd
    isplitl [Hr]; · iexact Hr
    isplitl [Hw]; · iexact Hw
    unfold two
    isplitr; · iapply (reached_bar (F := F) (dn true c)); iexact HR
    iapply (reached_bar (F := F) (dn false c)); iexact HR
  isplitl [Hp]; · iexact Hp
  iexists ∅
  iexact HO

/-- The one unscoped semaphore is the barrier's. -/
theorem unscoped_bar (c : Dev nD) : (unscopedSems0 c : sProp (MM F)) = semVal (cell c .bar) 0 := by
  unfold unscopedSems0
  rw [show (Finset.univ.filter fun sm : SemLoc sig => ¬ sm.isScoped .tc) = {semOf .bar} from by decide, BI.bigSep_singleton]

/-- The context from the cells' and the slots' invariants. -/
theorem ctx_mk (κ : GSem nD τ sig → ℕ) (ιs : Key → ℕ) :
    iprop((bigSep (barCells ∪ ownCells) fun g => cellInv ER (Rd (dX m)) (κ g) g) ∗ (bigSep keys fun k => slotInv ES (ιs k) k (free k.1 k.2.1 k.2.2)) ∗ levAts L lv)
      ⊢ (Ctx (dX m) κ ιs : sProp (MM F)) := by
  rw [cells_all, bigSep_map]
  unfold Ctx Lev
  iintro H
  iexact H

/-- Two families over the devices as one, and back. -/
theorem zip {Φ Ψ : Dev nD → sProp (MM F)} : iprop(bigSep Finset.univ Φ ∗ bigSep Finset.univ Ψ) ⊢ bigSep Finset.univ fun c => iprop(Φ c ∗ Ψ c) :=
  Entails.of_eq (BI.bigSep_sep _ _ _).symm
theorem unzip {Φ Ψ : Dev nD → sProp (MM F)} : (bigSep Finset.univ fun c => iprop(Φ c ∗ Ψ c)) ⊢ iprop(bigSep Finset.univ Φ ∗ bigSep Finset.univ Ψ) :=
  Entails.of_eq (BI.bigSep_sep _ _ _)

/-- The launch: the invariants allocated, everything dealt. -/
theorem init :
    iprop((bigSep Finset.univ fun c : Dev nD => iprop(unscopedBufs c (fun b => m ((c.tc : Thread nD τ).loc b)) ∗ unscopedSems0 c
          ∗ owes (c.tc : Thread nD τ) (tally (obsAll c)) ∅ ∗ due obsAll c ∗ prngReg c (ρ c) ∗ G F c)) ∗ levAts L lv)
      ⊢ (|={Set.univ}=> bigSep Finset.univ (T₀ m) : sProp (MM F)) := by
  have hcore (c : Dev nD) : iprop(unscopedBufs c (fun b => m ((c.tc : Thread nD τ).loc b)) ∗ unscopedSems0 c
        ∗ owes (c.tc : Thread nD τ) (tally (obsAll c)) ∅ ∗ due obsAll c ∗ prngReg c (ρ c) ∗ G F c)
      ⊢ (iprop(bundle m c ∗ (semVal (cell c .bar) 0 ∗ G F c)) : sProp (MM F)) := by
    rw [show unscopedBufs c (fun b => m ((c.tc : Thread nD τ).loc b)) = StableHlo.held (c : Thread nD τ) (Pipeline.ucRefs τ sig) (V0 m c)
      from Pipeline.unscopedBufs_held c (V0 m c), unscoped_bar]
    unfold bundle
    iintro ⟨Hh, Hs, HO, Hd, Hp, HG⟩
    ihave Hd := (dues (F := F) c) $$ Hd
    isplitl [Hh HO Hd Hp]
    · isplitl [Hh]; · iexact Hh
      isplitl [Hd]; · iexact Hd
      isplitl [HO]; · iexact HO
      iexists (ρ c); iexact Hp
    isplitl [Hs]; · iexact Hs
    iexact HG
  have hv : bigSep Finset.univ (fun c : Dev nD => (semVal (cell c .bar) 0 : sProp (MM F))) ⊢ bigSep barCells (fun g => (semVal g 0 : sProp (MM F))) :=
    Entails.of_eq (bigSep_map (s := Finset.univ) barEmb (Φ := fun g : GSem nD τ sig => (semVal g 0 : sProp (MM F)))).symm
  have hat : bigSep barCells (fun g => (atPos ER g 0 ∅ 0 : sProp (MM F))) ⊢ bigSep Finset.univ (fun c : Dev nD => (atPos ER (cell c .bar) 0 ∅ 0 : sProp (MM F))) :=
    Entails.of_eq (bigSep_map (s := Finset.univ) barEmb (Φ := fun g : GSem nD τ sig => (atPos ER g 0 ∅ 0 : sProp (MM F))))
  have hre : bigSep barCells (fun g => (reached ER g 0 : sProp (MM F))) ⊢ bigSep Finset.univ (fun c : Dev nD => (reached ER (cell c .bar) 0 : sProp (MM F))) :=
    Entails.of_eq (bigSep_map (s := Finset.univ) barEmb (Φ := fun g : GSem nD τ sig => (reached ER g 0 : sProp (MM F))))
  have hop : bigSep ownCells (fun g => (openTok ER g : sProp (MM F)))
      ⊢ bigSep Finset.univ (fun c : Dev nD => bigSep Finset.univ fun k : KO => (openTok ER (cell c k.1) : sProp (MM F))) :=
    Entails.of_eq ((bigSep_map (s := Finset.univ) ownEmb (Φ := fun g : GSem nD τ sig => (openTok ER g : sProp (MM F)))).trans (bigSep_univ_prod _))
  iintro ⟨H, #HL⟩
  ihave H := (show (bigSep Finset.univ fun c : Dev nD => iprop(unscopedBufs c (fun b => m ((c.tc : Thread nD τ).loc b)) ∗ unscopedSems0 c
          ∗ owes (c.tc : Thread nD τ) (tally (obsAll c)) ∅ ∗ due obsAll c ∗ prngReg c (ρ c) ∗ G F c))
      ⊢ (bigSep Finset.univ fun c : Dev nD => iprop(bundle m c ∗ (semVal (cell c .bar) 0 ∗ G F c)) : sProp (MM F)) from BI.bigSep_mono fun c _ => hcore c) $$ H
  ihave H := unzip $$ H
  icases H with ⟨HB, H⟩
  ihave H := unzip $$ H
  icases H with ⟨Hv, HG⟩
  ihave Hu := (show (bigSep Finset.univ fun c : Dev nD => G F c) ⊢ iprop(BI.own (ER (launchOf barCells ownCells toks)) ∗ BI.own (ES (initSlots keys 1))) from
    Entails.of_eq G_all) $$ HG
  icases Hu with ⟨Hu, Hk⟩
  imod (Rounds.fund_launch ER (Rd (dX m)) cells_disjoint (fun g _ h => h) toks) $$ [Hv Hu] with ⟨%κ, -, #Hinv, #Hr, Hat, Hopen, Htok⟩
  · isplitl [Hv]
    · iapply hv $$ Hv
    · iexact Hu
  imod (slots_init ES keys 1 (fun k : Key => (free k.1 k.2.1 k.2.2 : sProp (MM F)))) $$ [Hk] with ⟨%ιs, -, #Hslot, Hrd, Hwr⟩
  · iexact Hk
  imodintro
  iapply (bigSep_with_persistent (R := records m κ ιs) (Φ := fun c => iprop(linear F c ∗ bundle m c)) fun c _ => T₀_intro m κ ιs c)
  isplitr
  · unfold records
    isplitr
    · iapply (ctx_mk m κ ιs)
      isplitr; · iexact Hinv
      isplitr; · iexact Hslot
      iexact HL
    · iapply hre; iexact Hr
  iapply zip
  isplitr [HB]
  · unfold linear
    iapply zip; isplitl [Hat]; · iapply hat $$ Hat
    iapply zip; isplitl [Hopen]; · iapply hop $$ Hopen
    iapply zip; isplitl [Htok]; · iapply (Entails.of_eq (toks_eq (F := F))) $$ Htok
    iapply zip; isplitl [Hrd]; · iapply (Entails.of_eq (reads_eq (F := F))) $$ Hrd
    iapply (Entails.of_eq (writes_eq (F := F))) $$ Hwr
  · iexact HB

end Cert.KernelIdeal.Ring

end
-- ==== Proof.Ideal.Run.lean ====
/- The run of the whole program on all the devices. -/
module

public import proofs.«01_k».proof.Proof.Ideal.Launch
public import Idealize.ShloMosaic.Lib.Quiescent

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.Ring

variable {F : FTy → Type} [FloatOps F]

variable (m : (l : Loc nD τ sig) → Buf (Elt F) l) (ρ : Dev nD → PrngReg)

theorem unscoped_eq : ∀ sm : SemLoc sig, sm.isScoped .tc = false → sm = semOf .bar := by decide

set_option backward.isDefEq.respectTransparency.types false in
/-- From any memory with zero counters every weakly fair run of the program ends, the result's buffer of every device holding its
    columns of the product put through the activation, the arguments as launched, and every semaphore at zero. -/
theorem run : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v49) = res m c) ∧ r.2.sem = fun _ => 0) := by
  refine Pipeline.θ_run_regions_kit_dev_sems (pcfgs (F := F)) adm (pdats m) (0 : ℕ) cellOf_inj EP defs₀ 𝒱₀ L lv m ρ main
    (segs m 𝒱₀ L lv (fun _ c => E0 m c) 0 (pdats m) (reg0 m))
    (fun c Q => by
      rewrite [main_chain c, Pipeline.Seg.run_eq_chain,
        show (segs m 𝒱₀ L lv (fun _ c => E0 m c) 0 (pdats m) (reg0 m) c).map Pipeline.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (fun c => tally (obsAll c)) L_of_ne (G F) (u₀ (F := F)) launch_split
    (T₀ := T₀ m)
    (Tₙ := fun c => iprop(StableHlo.held (c : Thread nD τ) (Pipeline.ucRefs τ sig) (V10 m (outs m) c) ∗ semVal (cell c .bar) 0))
    (hch := fun c => ⟨.rfl, .rfl, .rfl, .rfl, .rfl, .rfl, .rfl, .rfl, .rfl, reg0_pre m c, reg0_post m c⟩)
    (hinit := init m ρ)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v49) = res m c) ∧ s.sem (cell c .bar) = 0)
    (hfin := fun c s' => ?_)
    (hQ := fun s h hs => ⟨fun c => (h c).1, sem_eq_zero hs fun c sm hsm => by
      obtain rfl := unscoped_eq sm hsm
      exact (h c).2⟩)
  unfold StableHlo.held
  iintro ⟨⟨Hh, Hb⟩, HSI⟩
  icombine HSI Hb gives %hb
  ihave Hr := (pointsTo_read_all (Pipeline.ucRefs τ sig) (fun b => ((c : Thread nD τ).1, b)) (V10 m (outs m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V10_main_arg0 m (outs m) c),
      (h (Proc.devRef .tc main_arg1) (Finset.mem_filter.mpr ⟨StableHlo.devRef_mem_tcRefs main_arg1, by decide⟩)).trans (V10_main_arg1 m (outs m) c),
      (h (Proc.devRef .tc main_v49) (Finset.mem_filter.mpr ⟨StableHlo.devRef_mem_tcRefs main_v49, by decide⟩)).trans (V10_v49 m c)⟩,
      by simpa using hb⟩
  · iexact HSI

end Cert.KernelIdeal.Ring

end
-- ==== Proof.Value.Silu.lean ====
/- The two spellings of silu agree on every extended real. -/
module

public import Idealize.ShloMosaic.PureOps.Ideal
public import Idealize.ShloMosaic.PureOps.Ideal.Laws
public import Idealize.ShloMosaic.Lib.IdealHost

@[expose] public section

noncomputable section

namespace Cert.Silu

open Idealize.ShloMosaic

/-- The reference's spelling at the bounds its clip stands for: clamping between minus and plus infinity changes nothing. -/
theorem clamp (y : EReal) : min (⊤ : EReal) (max ⊥ y) = y := by
  rw [max_eq_right bot_le, min_eq_right le_top]

/-- `y / (1 + exp (0 - y))` is `y` times the logistic of `y`, infinities included. -/
theorem div_eq_mul_logistic (y : EReal) : Ideal.div y (1 + Ideal.exp (0 - y)) = y * Ideal.logistic y := by
  rw [zero_sub]
  induction y using EReal.rec with
  | bot =>
    rw [EReal.neg_bot, Ideal.exp_top, EReal.add_top_of_ne_bot (show (1 : EReal) ≠ ⊥ from EReal.coe_ne_bot 1)]
    simp [Ideal.div]
  | top => simp [Ideal.div]
  | coe r =>
    have hp : (1 + Real.exp (-r) : ℝ) ≠ 0 := by positivity
    rw [Ideal.logistic_coe, ← EReal.coe_neg, Ideal.exp_coe, ← EReal.coe_one, ← EReal.coe_add, Ideal.div_coe hp, one_div]

end Cert.Silu

end
-- ==== Proof.Value.Product.lean ====
/- A device's result is its block of columns of the reference's result, as functions of the arguments. -/
module

public import proofs.«01_k».proof.Proof.Ideal.Contents
public import proofs.«01_k».proof.Proof.Gen.ReferenceIdeal.Value
public import proofs.«01_k».proof.Proof.Value.Silu
public import Idealize.ShloMosaic.Lib.MatmulPlain
public import Idealize.ShloMosaic.Lib.Layout
public import Idealize.ShloMosaic.PureOps.IdealRules

@[expose] public section

noncomputable section

namespace Cert.Product

open Idealize.ShloMosaic Idealize.ShloMosaic.ValueIdx
open scoped BigOperators

/-- One entry of the whole product: row `r` of `x` times column `l` of `w`. -/
def entry (x : (⟨2, ![4096, 4096]⟩ : Shape).Idx → EReal) (w : (⟨2, ![4096, 8192]⟩ : Shape).Idx → EReal)
    (r : Fin 4096) (l : Fin 8192) : EReal :=
  ∑ q : Fin 4096, x (ix2 r q) * w (ix2 q l)

/-- The bound the reference's clip names below is minus infinity. -/
theorem clip_lo : Named.named (F := Ideal) (φ := .f32) Cert.ReferenceIdeal.κ "clip_lo" 0xC2700000#32 = (⊥ : EReal) :=
  IdealRules.named_const.ideal_named_scalar _ _ _ _ rfl

/-- The bound the reference's clip names above is plus infinity. -/
theorem clip_hi : Named.named (F := Ideal) (φ := .f32) Cert.ReferenceIdeal.κ "clip_hi" 0x42700000#32 = (⊤ : EReal) :=
  IdealRules.named_const.ideal_named_scalar _ _ _ _ rfl

/-- An entry of the reference's result: silu of the entry of the product. -/
theorem reference_apply (x : Vec Ideal Cert.ReferenceIdeal.S4096x4096 .f32) (w : Vec Ideal Cert.ReferenceIdeal.S4096x8192 .f32)
    (r : Fin 4096) (l : Fin 8192) :
    Cert.ReferenceIdeal.Value.G2 (F := Ideal) x w (ix2 r l) = entry x w r l * Ideal.logistic (entry x w r l) := by
  have hm : FloatOps.matmul (F := Ideal) (φ₁ := .f32) (φ₂ := .f32) (DotDims.plain 4096 4096 8192) none x w (constant _ .f32 0x00000000#32) (ix2 r l) = entry x w r l := by
    rw [Ideal.matmul_plain_apply]
    show Ideal.ofBits .f32 0x00000000#32 + _ = _
    rw [Ideal.ofBits_zero_f32, zero_add]
    rfl
  have hs : Cert.ReferenceIdeal.Value.G2 (F := Ideal) x w (ix2 r l)
      = (fun y : EReal => Ideal.div y (Ideal.ofBits .f32 0x3F800000#32 + Ideal.exp (Ideal.ofBits .f32 0x00000000#32
          - min (Named.named (F := Ideal) (φ := .f32) Cert.ReferenceIdeal.κ "clip_hi" 0x42700000#32 : EReal)
            (max (Named.named (F := Ideal) (φ := .f32) Cert.ReferenceIdeal.κ "clip_lo" 0xC2700000#32 : EReal) y))))
        (FloatOps.matmul (F := Ideal) (φ₁ := .f32) (φ₂ := .f32) (DotDims.plain 4096 4096 8192) none x w (constant _ .f32 0x00000000#32) (ix2 r l)) := rfl
  rw [hs, hm]
  dsimp only
  rw [clip_lo, clip_hi, Silu.clamp, Ideal.ofBits_one_f32, Ideal.ofBits_zero_f32, Silu.div_eq_mul_logistic]

/-- An entry of the tile a device stores: silu of the sum over its rows and weights. -/
theorem tile_apply (v : FVec Ideal Cert.KernelIdeal.S64x4096 .f32) (w : Vec Ideal Cert.KernelIdeal.S4096x256 .f32)
    (r : Fin 64) (l : Fin 256) (y : EReal) (hy : ∑ q : Fin 4096, v (ix2 r q) * w (ix2 q l) = y) :
    Cert.KernelIdeal.Ring.siluOf (F := Ideal) v w (ix2 r l) = y * Ideal.logistic y := by
  have hw : ∀ h, shapeCast Cert.KernelIdeal.S4096x256 w h = w := by
    intro h
    funext i
    refine (show _ = w (Shape.reshapeEquiv _ i) from rfl).trans ?_
    rw [Shape.reshapeEquiv_self]
  have hm : FloatOps.matmul (F := Ideal) (φ₁ := .f32) (φ₂ := .f32) (DotDims.plain 64 4096 256) none v w (constant _ .f32 0x00000000#32) (ix2 r l) = y := by
    rw [Ideal.matmul_plain_apply]
    show Ideal.ofBits .f32 0x00000000#32 + _ = _
    rw [Ideal.ofBits_zero_f32, zero_add, hy]
  unfold Cert.KernelIdeal.Ring.siluOf
  rw [hw]
  refine (show _ = (fun z : EReal => z * Ideal.logistic z)
    (FloatOps.matmul (F := Ideal) (φ₁ := .f32) (φ₂ := .f32) (DotDims.plain 64 4096 256) none v w (constant _ .f32 0x00000000#32) (ix2 r l)) from rfl).trans ?_
  rw [hm]

/-- What device `c` computes of its block of `w`'s columns and every device's block of `x`'s rows is block `c` of the
    columns of what the reference computes of the whole arrays. -/
theorem result_eq (x : Vec Ideal Cert.ReferenceIdeal.S4096x4096 .f32) (w : Vec Ideal Cert.ReferenceIdeal.S4096x8192 .f32)
    (c : Fin 32) :
    Cert.KernelIdeal.Ring.result (F := Ideal)
        (fun d => Layout.block ⟨2, ![128, 4096]⟩ ⟨2, ![4096, 4096]⟩ 0 32 d x)
        (Layout.block ⟨2, ![4096, 256]⟩ ⟨2, ![4096, 8192]⟩ 1 32 c w)
      = Layout.block ⟨2, ![4096, 256]⟩ ⟨2, ![4096, 8192]⟩ 1 32 c (Cert.ReferenceIdeal.Value.G2 (F := Ideal) x w) := by
  funext k
  have hk0 : (k 0).val < 4096 := (k 0).isLt
  have hk1 : (k 1).val < 256 := (k 1).isLt
  have hc : c.val < 32 := c.isLt
  have hr := reference_apply x w ⟨(k 0).val, hk0⟩ ⟨c.val * 256 + (k 1).val, by omega⟩
  have hidx : ∀ h : Layout.Tiles ⟨2, ![4096, 256]⟩ ⟨2, ![4096, 8192]⟩ 1 32,
      h.idx c k = ix2 (⟨(k 0).val, hk0⟩ : Fin 4096) (⟨c.val * 256 + (k 1).val, by omega⟩ : Fin 8192) := by
    intro h
    funext a
    apply Fin.ext
    match a with
    | ⟨0, _⟩ => rfl
    | ⟨1, _⟩ => rfl
  rw [Layout.block_apply, hidx, hr]
  have ht : Cert.KernelIdeal.Ring.inTile k = ix2 (⟨(k 0).val % 64, Nat.mod_lt _ (by decide)⟩ : Fin 64) (⟨(k 1).val, hk1⟩ : Fin 256) := by
    funext a
    match a with
    | ⟨0, _⟩ => rfl
    | ⟨1, _⟩ => rfl
  unfold Cert.KernelIdeal.Ring.result
  rw [ht]
  refine tile_apply _ _ _ _ _ (Finset.sum_congr rfl fun q _ => ?_)
  refine congrArg₂ (· * ·) (congrArg x ?_) (congrArg w ?_)
  · funext a
    apply Fin.ext
    match a with
    | ⟨0, _⟩ =>
      show (k 0).val / 128 * 128 + (64 * ((k 0).val / 64 % 2) + 1 * ((k 0).val % 64)) = (k 0).val
      omega
    | ⟨1, _⟩ =>
      show 0 + 1 * q.val = q.val
      omega
  · funext a
    apply Fin.ext
    match a with
    | ⟨0, _⟩ => rfl
    | ⟨1, _⟩ => rfl

end Cert.Product

end
-- ==== Proof.lean ====
/- The certificate's five claims, assembled: the ring kernel's run (Proof/Bits, Proof/Ideal: the same text over the two
   printings of the kernel), the reference's run (Proof/Gen), and the equation of the two results (Proof/Value). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Value
public import proofs.«01_k».proof.Proof.Bits.Run
public import proofs.«01_k».proof.Proof.Ideal.Run
public import proofs.«01_k».proof.Proof.Value.Product
public import Idealize.ShloMosaic.Adequacy
public import Idealize.ShloMosaic.Init

@[expose] public section

noncomputable section

namespace Cert.Proof

open Idealize.ShloMosaic Idealize.SL.Sem

/-- Every device's program ends, at the machine's floats, with its arguments as launched and every counter at zero. -/
theorem kernel_ends : Cert.quiescent_Kernel (hKernel := Cert.Kernel.Gen.facts) := fun m ρ _ =>
  (θ_run _ _ _).mono (fun _ h => ⟨fun c => ⟨(h.1 c).1, (h.1 c).2.1⟩, h.2⟩) (Cert.Kernel.Ring.run (F := Bits) m ρ)

/-- The same over the extended reals. -/
theorem kernelIdeal_ends : Cert.quiescent_KernelIdeal (hKernelIdeal := Cert.KernelIdeal.Gen.facts) := fun m ρ _ =>
  (θ_run _ _ _).mono (fun _ h => ⟨fun c => ⟨(h.1 c).1, (h.1 c).2.1⟩, h.2⟩) (Cert.KernelIdeal.Ring.run (F := Ideal) m ρ)

/-- The reference ends over the extended reals, its arguments as launched and every counter at zero. -/
theorem reference_ends : Cert.quiescent_ReferenceIdeal (hReferenceIdeal := Cert.ReferenceIdeal.Gen.facts) := fun m ρ _ =>
  Cert.ReferenceIdeal.Gen.frame m ρ

/-- Over the extended reals each device's result is its block of columns of the reference's result. -/
theorem columns : Cert.algebraic_KernelIdeal_ReferenceIdeal (hKernelIdeal := Cert.KernelIdeal.Gen.facts)
    (hReferenceIdeal := Cert.ReferenceIdeal.Gen.facts) := by
  intro m g m' g' _ hm
  refine ⟨Cert.ReferenceIdeal.Value.G2 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun r h c => ⟨(h.1 c).2.2.trans ?_, (h.1 c).1, (h.1 c).2.1⟩) (Cert.KernelIdeal.Ring.run (F := Ideal) m g),
    (θ_run _ _ _).mono (fun r h => h 0) (Cert.ReferenceIdeal.Value.run (F := Ideal) m' g')⟩
  refine Eq.trans ?_ (Cert.Product.result_eq _ _ c)
  exact congrArg₂ (Cert.KernelIdeal.Ring.result (F := Ideal)) (funext fun d => (hm d).1) (hm c).2

/-- The claims of this certificate. -/
theorem claim : Cert.Claim :=
  ⟨Cert.Kernel.Gen.facts, Cert.KernelIdeal.Gen.facts, Cert.ReferenceIdeal.Gen.facts,
    kernel_ends, kernelIdeal_ends, reference_ends, trivial, columns⟩

end Cert.Proof

end
